-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_memory [hPre_finite_memory : Cert.Pre_finite_memory.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_memory.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_memory [hPre_finite_memory : Cert.Pre_finite_memory.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_memory.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite_memory [hKernel3Ideal : Cert.Kernel3Ideal.Facts] [hPre_finite_memory : Cert.Pre_finite_memory.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_memory m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite_memory [hReference3Ideal : Cert.Reference3Ideal.Facts] [hPre_finite_memory : Cert.Pre_finite_memory.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_memory m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_memory [hKernel3Ideal : Cert.Kernel3Ideal.Facts] [hReference3Ideal : Cert.Reference3Ideal.Facts] [hPre_finite_memory : Cert.Pre_finite_memory.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_memory m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  IdealRules.named_const.Statement Cert.Kernel4Ideal.κ "inv_qk" .f32 0x3BAAAAAB#32 ((1 / 192 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v120_0)) (v1 : (c : Dev Cert.Kernel4Ideal.nD) → Buf (Elt Ideal) ((c.tc : Thread Cert.Kernel4Ideal.nD Cert.Kernel4Ideal.τ).loc Cert.Kernel4Ideal.main_v120_1)) (v2 : (c : Dev Cert.Kernel4Ideal.nD) → Buf (Elt Ideal) ((c.tc : Thread Cert.Kernel4Ideal.nD Cert.Kernel4Ideal.τ).loc Cert.Kernel4Ideal.main_v120_2)) (v3 : (c : Dev Cert.Kernel4Ideal.nD) → Buf (Elt Ideal) ((c.tc : Thread Cert.Kernel4Ideal.nD Cert.Kernel4Ideal.τ).loc Cert.Kernel4Ideal.main_v120_3)) (v4 : (c : Dev Cert.Kernel4Ideal.nD) → Buf (Elt Ideal) ((c.tc : Thread Cert.Kernel4Ideal.nD Cert.Kernel4Ideal.τ).loc Cert.Kernel4Ideal.main_v120_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v120_0) = v0 c
          ∧ r.2.mem ((c.tc : Thread Cert.Kernel4Ideal.nD Cert.Kernel4Ideal.τ).loc Cert.Kernel4Ideal.main_v120_1) = v1 c
          ∧ r.2.mem ((c.tc : Thread Cert.Kernel4Ideal.nD Cert.Kernel4Ideal.τ).loc Cert.Kernel4Ideal.main_v120_2) = v2 c
          ∧ r.2.mem ((c.tc : Thread Cert.Kernel4Ideal.nD Cert.Kernel4Ideal.τ).loc Cert.Kernel4Ideal.main_v120_3) = v3 c
          ∧ r.2.mem ((c.tc : Thread Cert.Kernel4Ideal.nD Cert.Kernel4Ideal.τ).loc Cert.Kernel4Ideal.main_v120_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v149) = v0 c
          ∧ r.2.mem ((c.tc : Thread Cert.Reference4Ideal.nD Cert.Reference4Ideal.τ).loc Cert.Reference4Ideal.main_v154) = v1 c
          ∧ r.2.mem ((c.tc : Thread Cert.Reference4Ideal.nD Cert.Reference4Ideal.τ).loc Cert.Reference4Ideal.main_v156) = v2 c
          ∧ r.2.mem ((c.tc : Thread Cert.Reference4Ideal.nD Cert.Reference4Ideal.τ).loc Cert.Reference4Ideal.main_v143) = v3 c
          ∧ r.2.mem ((c.tc : Thread Cert.Reference4Ideal.nD Cert.Reference4Ideal.τ).loc Cert.Reference4Ideal.main_v144) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_memory : Cert.Pre_finite_memory.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_memory (hKernel3Ideal := hKernel3Ideal) (hPre_finite_memory := hPre_finite_memory)
    ∧ quiescent_Reference3Ideal (hReference3Ideal := hReference3Ideal)
    ∧ quiescent_Reference3Ideal_pre_finite_memory (hReference3Ideal := hReference3Ideal) (hPre_finite_memory := hPre_finite_memory)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_memory (hKernel3Ideal := hKernel3Ideal) (hReference3Ideal := hReference3Ideal) (hPre_finite_memory := hPre_finite_memory)
    ∧ preserves_Kernel4_Kernel4Ideal
    ∧ algebraic_Kernel4Ideal_Reference4Ideal (hKernel4Ideal := hKernel4Ideal) (hReference4Ideal := hReference4Ideal)
-- ==== Pre_finite.lean ====
abbrev S8x8192x4x192 : Shape := ⟨4, ![8, 8192, 4, 192]⟩
abbrev S8x8192x4x128 : Shape := ⟨4, ![8, 8192, 4, 128]⟩
abbrev S_ : Shape := ⟨0, ![]⟩

class Facts : Prop where
  bcast_S_S8x8192x4x192 : S_.BroadcastsInDim S8x8192x4x192 (![] : Fin 0 → Fin S8x8192x4x192.rank)

variable [Facts]

def fn {F : FTy → Type} [FloatOps F] (main_arg0 : FVec F S8x8192x4x192 .f32) (main_arg1 : FVec F S8x8192x4x192 .f32) (main_arg2 : FVec F S8x8192x4x128 .f32) : IVec S8x8192x4x192 1 :=
  let main_v0 : FVec F S8x8192x4x192 .f32 := Host.absf main_arg0
  let main_cst : FVec F S_ .f32 := constant S_ .f32 0x7F800000#32
  let main_v1 : FVec F S8x8192x4x192 .f32 := broadcastInDim S8x8192x4x192 ![] bcast_S_S8x8192x4x192 main_cst
  let main_v2 : IVec S8x8192x4x192 1 := cmpf .olt main_v0 main_v1
  let main_v3 : FVec F S8x8192x4x192 .f32 := Host.absf main_arg1
  let main_cst_0 : FVec F S_ .f32 := constant S_ .f32 0x7F800000#32
  let main_v4 : FVec F S8x8192x4x192 .f32 := broadcastInDim S8x8192x4x192 ![] bcast_S_S8x8192x4x192 main_cst_0
  let main_v5 : IVec S8x8192x4x192 1 := cmpf .olt main_v3 main_v4
  let main_v6 : IVec S8x8192x4x192 1 := andi main_v2 main_v5
  main_v6
-- ==== Pre_finite_memory.lean ====
abbrev S8x8192x1024 : Shape := ⟨3, ![8, 8192, 1024]⟩
abbrev S8x8192x512 : Shape := ⟨3, ![8, 8192, 512]⟩
abbrev S8x8192x256 : Shape := ⟨3, ![8, 8192, 256]⟩
abbrev S1024x1024 : Shape := ⟨2, ![1024, 1024]⟩
abbrev S1024 : Shape := ⟨1, ![1024]⟩
abbrev S1024x512 : Shape := ⟨2, ![1024, 512]⟩
abbrev S8x256x4x128 : Shape := ⟨4, ![8, 256, 4, 128]⟩
abbrev S128 : Shape := ⟨1, ![128]⟩
abbrev S512x1024 : Shape := ⟨2, ![512, 1024]⟩
abbrev S_ : Shape := ⟨0, ![]⟩
abbrev S1x1x1x128 : Shape := ⟨4, ![1, 1, 1, 128]⟩

class Facts : Prop where
  bcast_S_S8x256x4x128 : S_.BroadcastsInDim S8x256x4x128 (![] : Fin 0 → Fin S8x256x4x128.rank)
  bcast_S_S128 : S_.BroadcastsInDim S128 (![] : Fin 0 → Fin S128.rank)
  bcast_S128_S1x1x1x128_3 : S128.BroadcastsInDim S1x1x1x128 (![3] : Fin 1 → Fin S1x1x1x128.rank)
  bcast_S1x1x1x128_S8x256x4x128_0_1_2_3 : S1x1x1x128.BroadcastsInDim S8x256x4x128 (![0, 1, 2, 3] : Fin 4 → Fin S8x256x4x128.rank)

variable [Facts]

def fn {F : FTy → Type} [FloatOps F] (main_arg0 : FVec F S8x8192x1024 .f32) (main_arg1 : FVec F S8x8192x512 .f32) (main_arg2 : FVec F S8x8192x256 .f32) (main_arg3 : FVec F S8x8192x256 .f32) (main_arg4 : FVec F S1024x1024 .f32) (main_arg5 : FVec F S1024 .f32) (main_arg6 : FVec F S1024x512 .f32) (main_arg7 : FVec F S8x256x4x128 .f32) (main_arg8 : FVec F S8x256x4x128 .f32) (main_arg9 : FVec F S128 .f32) (main_arg10 : FVec F S512x1024 .f32) : IVec S8x256x4x128 1 :=
  let main_v0 : FVec F S8x256x4x128 .f32 := Host.absf main_arg7
  let main_cst : FVec F S_ .f32 := constant S_ .f32 0x7F800000#32
  let main_v1 : FVec F S8x256x4x128 .f32 := broadcastInDim S8x256x4x128 ![] bcast_S_S8x256x4x128 main_cst
  let main_v2 : IVec S8x256x4x128 1 := cmpf .olt main_v0 main_v1
  let main_v3 : FVec F S128 .f32 := Host.absf main_arg9
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : IVec S1x1x1x128 1 := broadcastInDim S1x1x1x128 ![3] bcast_S128_S1x1x1x128_3 main_v5
  let main_v7 : IVec S8x256x4x128 1 := broadcastInDim S8x256x4x128 ![0, 1, 2, 3] bcast_S1x1x1x128_S8x256x4x128_0_1_2_3 main_v6
  let main_v8 : IVec S8x256x4x128 1 := andi main_v2 main_v7
  main_v8
-- ==== Kernel.lean ====
abbrev S8x8192x4x192 : Shape := ⟨4, ![8, 8192, 4, 192]⟩
abbrev S8x8192x4x128 : Shape := ⟨4, ![8, 8192, 4, 128]⟩
abbrev S_ : Shape := ⟨0, ![]⟩
abbrev S8x8192x4x64 : Shape := ⟨4, ![8, 8192, 4, 64]⟩
abbrev S8x8192x4x32 : Shape := ⟨4, ![8, 8192, 4, 32]⟩
abbrev S8x8192x4x256 : Shape := ⟨4, ![8, 8192, 4, 256]⟩
abbrev S8x4x8192x256 : Shape := ⟨4, ![8, 4, 8192, 256]⟩
abbrev S8x4x8192x128 : Shape := ⟨4, ![8, 4, 8192, 128]⟩
abbrev S8x2x8x512x512 : Shape := ⟨5, ![8, 2, 8, 512, 512]⟩
abbrev S1x1x512x256 : Shape := ⟨4, ![1, 1, 512, 256]⟩
abbrev S1x1x8192x256 : Shape := ⟨4, ![1, 1, 8192, 256]⟩
abbrev S1x1x8192x128 : Shape := ⟨4, ![1, 1, 8192, 128]⟩
abbrev S1x2x1x512x128 : Shape := ⟨5, ![1, 2, 1, 512, 128]⟩
abbrev S1024x256 : Shape := ⟨2, ![1024, 256]⟩
abbrev S1024x128 : Shape := ⟨2, ![1024, 128]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1x1x512x128 : Shape := ⟨4, ![1, 1, 512, 128]⟩
abbrev S1x1x1x512x128 : Shape := ⟨5, ![1, 1, 1, 512, 128]⟩

abbrev nBuf : Space → Nat
  | .hbm => 34
  | .vmem => 16
  | .smem => 0
  | _ => 0

abbrev bufTy : (tb : Table) → Fin (tcTables nBuf tb) → BufTy
  | .hbm, ⟨0, _⟩ => ⟨S8x8192x4x192, .f32⟩
  | .hbm, ⟨1, _⟩ => ⟨S8x8192x4x192, .f32⟩
  | .hbm, ⟨2, _⟩ => ⟨S8x8192x4x128, .f32⟩
  | .hbm, ⟨3, _⟩ => ⟨S_, .f32⟩
  | .hbm, ⟨4, _⟩ => ⟨S8x8192x4x192, .f32⟩
  | .hbm, ⟨5, _⟩ => ⟨S8x8192x4x192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8192x4x192, .f32⟩
  | .hbm, ⟨10, _⟩ => ⟨S8x8192x4x192, .f32⟩
  | .hbm, ⟨11, _⟩ => ⟨S8x8192x4x128, .f32⟩
  | .hbm, ⟨12, _⟩ => ⟨S8x8192x4x64, .f32⟩
  | .hbm, ⟨13, _⟩ => ⟨S_, .f32⟩
  | .hbm, ⟨14, _⟩ => ⟨S8x8192x4x32, .f32⟩
  | .hbm, ⟨15, _⟩ => ⟨S8x8192x4x32, .f32⟩
  | .hbm, ⟨16, _⟩ => ⟨S8x8192x4x32, .f32⟩
  | .hbm, ⟨17, _⟩ => ⟨S8x8192x4x128, .f32⟩
  | .hbm, ⟨18, _⟩ => ⟨S8x8192x4x256, .f32⟩
  | .hbm, ⟨19, _⟩ => ⟨S8x4x8192x256, .f32⟩
  | .hbm, ⟨20, _⟩ => ⟨S8x4x8192x256, .bf16⟩
  | .hbm, ⟨21, _⟩ => ⟨S8x8192x4x128, .f32⟩
  | .hbm, ⟨22, _⟩ => ⟨S8x8192x4x64, .f32⟩
  | .hbm, ⟨23, _⟩ => ⟨S_, .f32⟩
  | .hbm, ⟨24, _⟩ => ⟨S8x8192x4x32, .f32⟩
  | .hbm, ⟨25, _⟩ => ⟨S8x8192x4x32, .f32⟩
  | .hbm, ⟨26, _⟩ => ⟨S8x8192x4x32, .f32⟩
  | .hbm, ⟨27, _⟩ => ⟨S8x8192x4x128, .f32⟩
  | .hbm, ⟨28, _⟩ => ⟨S8x8192x4x256, .f32⟩
  | .hbm, ⟨29, _⟩ => ⟨S8x4x8192x256, .f32⟩
  | .hbm, ⟨30, _⟩ => ⟨S8x4x8192x256, .bf16⟩
  | .hbm, ⟨31, _⟩ => ⟨S8x4x8192x128, .f32⟩
  | .hbm, ⟨32, _⟩ => ⟨S8x4x8192x128, .bf16⟩
  | .hbm, ⟨33, _⟩ => ⟨S8x2x8x512x512, .bf16⟩
  | .local _ .vmem, ⟨0, _⟩ => ⟨S1x1x512x256, .bf16⟩
  | .local _ .vmem, ⟨1, _⟩ => ⟨S1x1x512x256, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1x1x8192x256, .bf16⟩
  | .local _ .vmem, ⟨5, _⟩ => ⟨S1x1x8192x256, .bf16⟩
  | .local _ .vmem, ⟨6, _⟩ => ⟨S1x1x8192x128, .bf16⟩
  | .local _ .vmem, ⟨7, _⟩ => ⟨S1x1x8192x128, .bf16⟩
  | .local _ .vmem, ⟨8, _⟩ => ⟨S1x2x1x512x128, .bf16⟩
  | .local _ .vmem, ⟨9, _⟩ => ⟨S1x2x1x512x128, .bf16⟩
  | .local _ .vmem, ⟨10, _⟩ => ⟨S1024x256, .bf16⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S512x512, .f32⟩
  | .local _ .vmem, ⟨15, _⟩ => ⟨S512x512, .f32⟩
  | _, _ => ⟨S8x8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c0_i32_29 : BitVec 32 := 0#32
  let v72 : BitVec 1 := Scalar.cmpi .sle arg2 c0_i32_29
  let v73 : BitVec 32 := Scalar.extui v72
  let c512_i32 : BitVec 32 := 512#32
  let v74 : BitVec 32 := Scalar.muli v73 c512_i32
  v74
def k0_mult2 (i : grid0.Coords) : BitVec 32 :=
  let arg2 : BitVec 32 := BitVec.ofNat 32 (i 2).val
  let c1_i32_31 : BitVec 32 := 1#32
  let v78 : BitVec 1 := Scalar.cmpi .sle arg2 c1_i32_31
  let v79 : BitVec 32 := Scalar.extui v78
  let c512_i32_32 : BitVec 32 := 512#32
  let v80 : BitVec 32 := Scalar.muli v79 c512_i32_32
  v80
def k0_mult3 (i : grid0.Coords) : BitVec 32 :=
  let arg2 : BitVec 32 := BitVec.ofNat 32 (i 2).val
  let c2_i32 : BitVec 32 := 2#32
  let v84 : BitVec 1 := Scalar.cmpi .sle arg2 c2_i32
  let v85 : BitVec 32 := Scalar.extui v84
  let c512_i32_34 : BitVec 32 := 512#32
  let v86 : BitVec 32 := Scalar.muli v85 c512_i32_34
  v86
def k0_mult4 (i : grid0.Coords) : BitVec 32 :=
  let arg2 : BitVec 32 := BitVec.ofNat 32 (i 2).val
  let c3_i32 : BitVec 32 := 3#32
  let v90 : BitVec 1 := Scalar.cmpi .sle arg2 c3_i32
  let v91 : BitVec 32 := Scalar.extui v90
  let c512_i32_36 : BitVec 32 := 512#32
  let v92 : BitVec 32 := Scalar.muli v91 c512_i32_36
  v92
def k0_mult5 (i : grid0.Coords) : BitVec 32 :=
  let arg2 : BitVec 32 := BitVec.ofNat 32 (i 2).val
  let c4_i32 : BitVec 32 := 4#32
  let v96 : BitVec 1 := Scalar.cmpi .sle arg2 c4_i32
  let v97 : BitVec 32 := Scalar.extui v96
  let c512_i32_38 : BitVec 32 := 512#32
  let v98 : BitVec 32 := Scalar.muli v97 c512_i32_38
  v98
def k0_mult6 (i : grid0.Coords) : BitVec 32 :=
  let arg2 : BitVec 32 := BitVec.ofNat 32 (i 2).val
  let c5_i32 : BitVec 32 := 5#32
  let v102 : BitVec 1 := Scalar.cmpi .sle arg2 c5_i32
  let v103 : BitVec 32 := Scalar.extui v102
  let c512_i32_40 : BitVec 32 := 512#32
  let v104 : BitVec 32 := Scalar.muli v103 c512_i32_40
  v104
def k0_mult7 (i : grid0.Coords) : BitVec 32 :=
  let arg2 : BitVec 32 := BitVec.ofNat 32 (i 2).val
  let c6_i32 : BitVec 32 := 6#32
  let v108 : BitVec 1 := Scalar.cmpi .sle arg2 c6_i32
  let v109 : BitVec 32 := Scalar.extui v108
  let c512_i32_42 : BitVec 32 := 512#32
  let v110 : BitVec 32 := Scalar.muli v109 c512_i32_42
  v110
def k0_off1 (i : grid0.Coords) (c0_i32_29 : BitVec 32) : Fin 2 → Nat :=
  let arg2 : BitVec 32 := BitVec.ofNat 32 (i 2).val
  let v72 : BitVec 1 := Scalar.cmpi .sle arg2 c0_i32_29
  let v73 : BitVec 32 := Scalar.extui v72
  let c512_i32 : BitVec 32 := 512#32
  let v74 : BitVec 32 := Scalar.muli v73 c512_i32
  let v75 : BitVec 32 := v74
  let v123 : Index := Scalar.indexCast v75
  let c0_44 : Index := 0#32
  ![v123.toNat, 0]
def k0_mult8 (i : grid0.Coords) : BitVec 32 :=
  let c0_i32_30 : BitVec 32 := 0#32
  let arg2 : BitVec 32 := BitVec.ofNat 32 (i 2).val
  let c0_i32_29 : BitVec 32 := 0#32
  let v72 : BitVec 1 := Scalar.cmpi .sle arg2 c0_i32_29
  let v73 : BitVec 32 := Scalar.extui v72
  let v76 : BitVec 32 := Scalar.muli v73 arg2
  let v77 : BitVec 32 := Scalar.subi c0_i32_30 v76
  let c512_i32_45 : BitVec 32 := 512#32
  let v125 : BitVec 32 := Scalar.muli v77 c512_i32_45
  v125
def k0_off2 (i : grid0.Coords) (c0_i32_30 : BitVec 32) (c0_i32_29 : BitVec 32) : Fin 4 → Nat :=
  let c0_46 : Index := 0#32
  let c0_47 : Index := 0#32
  let arg2 : BitVec 32 := BitVec.ofNat 32 (i 2).val
  let v72 : BitVec 1 := Scalar.cmpi .sle arg2 c0_i32_29
  let v73 : BitVec 32 := Scalar.extui v72
  let v76 : BitVec 32 := Scalar.muli v73 arg2
  let v77 : BitVec 32 := Scalar.subi c0_i32_30 v76
  let c512_i32_45 : BitVec 32 := 512#32
  let v125 : BitVec 32 := Scalar.muli v77 c512_i32_45
  let v126 : BitVec 32 := v125
  let v127 : Index := Scalar.indexCast v126
  let c0_48 : Index := 0#32
  ![0, 0, v127.toNat, 0]
def k0_off2_at (r : Fin 7) : BitVec 32 × BitVec 32 :=
  if r.val < 3 then
    if r.val < 1 then
      (0#32, 0#32)
    else
      if r.val < 2 then
        (1#32, 1#32)
      else
        (2#32, 2#32)
  else
    if r.val < 5 then
      if r.val < 4 then
        (3#32, 3#32)
      else
        (4#32, 4#32)
    else
      if r.val < 6 then
        (5#32, 5#32)
      else
        (6#32, 6#32)
def k0_mult9 (i : grid0.Coords) : BitVec 32 :=
  let c1_i32_33 : BitVec 32 := 1#32
  let arg2 : BitVec 32 := BitVec.ofNat 32 (i 2).val
  let c1_i32_31 : BitVec 32 := 1#32
  let v78 : BitVec 1 := Scalar.cmpi .sle arg2 c1_i32_31
  let v79 : BitVec 32 := Scalar.extui v78
  let v82 : BitVec 32 := Scalar.muli v79 arg2
  let v83 : BitVec 32 := Scalar.subi c1_i32_33 v82
  let c512_i32_53 : BitVec 32 := 512#32
  let v136 : BitVec 32 := Scalar.muli v83 c512_i32_53
  v136
def k0_off3 (i : grid0.Coords) (c0_i32_29 : BitVec 32) : Fin 2 → Nat :=
  let arg2 : BitVec 32 := BitVec.ofNat 32 (i 2).val
  let v72 : BitVec 1 := Scalar.cmpi .sle arg2 c0_i32_29
  let v73 : BitVec 32 := Scalar.extui v72
  let c512_i32 : BitVec 32 := 512#32
  let v74 : BitVec 32 := Scalar.muli v73 c512_i32
  let v75 : BitVec 32 := v74
  let v146 : Index := Scalar.indexCast v75
  let c0_62 : Index := 0#32
  ![v146.toNat, 0]
def k0_mult10 (i : grid0.Coords) : BitVec 32 :=
  let c0_i32_30 : BitVec 32 := 0#32
  let arg2 : BitVec 32 := BitVec.ofNat 32 (i 2).val
  let c0_i32_29 : BitVec 32 := 0#32
  let v72 : BitVec 1 := Scalar.cmpi .sle arg2 c0_i32_29
  let v73 : BitVec 32 := Scalar.extui v72
  let v76 : BitVec 32 := Scalar.muli v73 arg2
  let v77 : BitVec 32 := Scalar.subi c0_i32_30 v76
  let c512_i32_67 : BitVec 32 := 512#32
  let v168 : BitVec 32 := Scalar.muli v77 c512_i32_67
  v168
def k0_off4 (i : grid0.Coords) (c0_i32_30 : BitVec 32) (c0_i32_29 : BitVec 32) : Fin 4 → Nat :=
  let c0_68 : Index := 0#32
  let c0_69 : Index := 0#32
  let arg2 : BitVec 32 := BitVec.ofNat 32 (i 2).val
  let v72 : BitVec 1 := Scalar.cmpi .sle arg2 c0_i32_29
  let v73 : BitVec 32 := Scalar.extui v72
  let v76 : BitVec 32 := Scalar.muli v73 arg2
  let v77 : BitVec 32 := Scalar.subi c0_i32_30 v76
  let c512_i32_67 : BitVec 32 := 512#32
  let v168 : BitVec 32 := Scalar.muli v77 c512_i32_67
  let v169 : BitVec 32 := v168
  let v170 : Index := Scalar.indexCast v169
  let c0_70 : Index := 0#32
  ![0, 0, v170.toNat, 0]
def k0_off4_at (r : Fin 7) : BitVec 32 × BitVec 32 :=
  if r.val < 3 then
    if r.val < 1 then
      (0#32, 0#32)
    else
      if r.val < 2 then
        (1#32, 1#32)
      else
        (2#32, 2#32)
  else
    if r.val < 5 then
      if r.val < 4 then
        (3#32, 3#32)
      else
        (4#32, 4#32)
    else
      if r.val < 6 then
        (5#32, 5#32)
      else
        (6#32, 6#32)
def k0_mult11 (i : grid0.Coords) : BitVec 32 :=
  let c2_i32_35 : BitVec 32 := 2#32
  let arg2 : BitVec 32 := BitVec.ofNat 32 (i 2).val
  let c2_i32 : BitVec 32 := 2#32
  let v84 : BitVec 1 := Scalar.cmpi .sle arg2 c2_i32
  let v85 : BitVec 32 := Scalar.extui v84
  let v88 : BitVec 32 := Scalar.muli v85 arg2
  let v89 : BitVec 32 := Scalar.subi c2_i32_35 v88
  let c512_i32_76 : BitVec 32 := 512#32
  let v189 : BitVec 32 := Scalar.muli v89 c512_i32_76
  v189
def k0_mult12 (i : grid0.Coords) : BitVec 32 :=
  let c1_i32_33 : BitVec 32 := 1#32
  let arg2 : BitVec 32 := BitVec.ofNat 32 (i 2).val
  let c1_i32_31 : BitVec 32 := 1#32
  let v78 : BitVec 1 := Scalar.cmpi .sle arg2 c1_i32_31
  let v79 : BitVec 32 := Scalar.extui v78
  let v82 : BitVec 32 := Scalar.muli v79 arg2
  let v83 : BitVec 32 := Scalar.subi c1_i32_33 v82
  let c512_i32_90 : BitVec 32 := 512#32
  let v221 : BitVec 32 := Scalar.muli v83 c512_i32_90
  v221
def k0_mult13 (i : grid0.Coords) : BitVec 32 :=
  let c3_i32_37 : BitVec 32 := 3#32
  let arg2 : BitVec 32 := BitVec.ofNat 32 (i 2).val
  let c3_i32 : BitVec 32 := 3#32
  let v90 : BitVec 1 := Scalar.cmpi .sle arg2 c3_i32
  let v91 : BitVec 32 := Scalar.extui v90
  let v94 : BitVec 32 := Scalar.muli v91 arg2
  let v95 : BitVec 32 := Scalar.subi c3_i32_37 v94
  let c512_i32_99 : BitVec 32 := 512#32
  let v242 : BitVec 32 := Scalar.muli v95 c512_i32_99
  v242
def k0_mult14 (i : grid0.Coords) : BitVec 32 :=
  let c2_i32_35 : BitVec 32 := 2#32
  let arg2 : BitVec 32 := BitVec.ofNat 32 (i 2).val
  let c2_i32 : BitVec 32 := 2#32
  let v84 : BitVec 1 := Scalar.cmpi .sle arg2 c2_i32
  let v85 : BitVec 32 := Scalar.extui v84
  let v88 : BitVec 32 := Scalar.muli v85 arg2
  let v89 : BitVec 32 := Scalar.subi c2_i32_35 v88
  let c512_i32_113 : BitVec 32 := 512#32
  let v274 : BitVec 32 := Scalar.muli v89 c512_i32_113
  v274
def k0_mult15 (i : grid0.Coords) : BitVec 32 :=
  let c4_i32_39 : BitVec 32 := 4#32
  let arg2 : BitVec 32 := BitVec.ofNat 32 (i 2).val
  let c4_i32 : BitVec 32 := 4#32
  let v96 : BitVec 1 := Scalar.cmpi .sle arg2 c4_i32
  let v97 : BitVec 32 := Scalar.extui v96
  let v100 : BitVec 32 := Scalar.muli v97 arg2
  let v101 : BitVec 32 := Scalar.subi c4_i32_39 v100
  let c512_i32_122 : BitVec 32 := 512#32
  let v295 : BitVec 32 := Scalar.muli v101 c512_i32_122
  v295
def k0_mult16 (i : grid0.Coords) : BitVec 32 :=
  let c3_i32_37 : BitVec 32 := 3#32
  let arg2 : BitVec 32 := BitVec.ofNat 32 (i 2).val
  let c3_i32 : BitVec 32 := 3#32
  let v90 : BitVec 1 := Scalar.cmpi .sle arg2 c3_i32
  let v91 : BitVec 32 := Scalar.extui v90
  let v94 : BitVec 32 := Scalar.muli v91 arg2
  let v95 : BitVec 32 := Scalar.subi c3_i32_37 v94
  let c512_i32_136 : BitVec 32 := 512#32
  let v327 : BitVec 32 := Scalar.muli v95 c512_i32_136
  v327
def k0_mult17 (i : grid0.Coords) : BitVec 32 :=
  let c5_i32_41 : BitVec 32 := 5#32
  let arg2 : BitVec 32 := BitVec.ofNat 32 (i 2).val
  let c5_i32 : BitVec 32 := 5#32
  let v102 : BitVec 1 := Scalar.cmpi .sle arg2 c5_i32
  let v103 : BitVec 32 := Scalar.extui v102
  let v106 : BitVec 32 := Scalar.muli v103 arg2
  let v107 : BitVec 32 := Scalar.subi c5_i32_41 v106
  let c512_i32_145 : BitVec 32 := 512#32
  let v348 : BitVec 32 := Scalar.muli v107 c512_i32_145
  v348
def k0_mult18 (i : grid0.Coords) : BitVec 32 :=
  let c4_i32_39 : BitVec 32 := 4#32
  let arg2 : BitVec 32 := BitVec.ofNat 32 (i 2).val
  let c4_i32 : BitVec 32 := 4#32
  let v96 : BitVec 1 := Scalar.cmpi .sle arg2 c4_i32
  let v97 : BitVec 32 := Scalar.extui v96
  let v100 : BitVec 32 := Scalar.muli v97 arg2
  let v101 : BitVec 32 := Scalar.subi c4_i32_39 v100
  let c512_i32_159 : BitVec 32 := 512#32
  let v380 : BitVec 32 := Scalar.muli v101 c512_i32_159
  v380
def k0_mult19 (i : grid0.Coords) : BitVec 32 :=
  let c6_i32_43 : BitVec 32 := 6#32
  let arg2 : BitVec 32 := BitVec.ofNat 32 (i 2).val
  let c6_i32 : BitVec 32 := 6#32
  let v108 : BitVec 1 := Scalar.cmpi .sle arg2 c6_i32
  let v109 : BitVec 32 := Scalar.extui v108
  let v112 : BitVec 32 := Scalar.muli v109 arg2
  let v113 : BitVec 32 := Scalar.subi c6_i32_43 v112
  let c512_i32_168 : BitVec 32 := 512#32
  let v401 : BitVec 32 := Scalar.muli v113 c512_i32_168
  v401
def k0_mult20 (i : grid0.Coords) : BitVec 32 :=
  let c5_i32_41 : BitVec 32 := 5#32
  let arg2 : BitVec 32 := BitVec.ofNat 32 (i 2).val
  let c5_i32 : BitVec 32 := 5#32
  let v102 : BitVec 1 := Scalar.cmpi .sle arg2 c5_i32
  let v103 : BitVec 32 := Scalar.extui v102
  let v106 : BitVec 32 := Scalar.muli v103 arg2
  let v107 : BitVec 32 := Scalar.subi c5_i32_41 v106
  let c512_i32_182 : BitVec 32 := 512#32
  let v433 : BitVec 32 := Scalar.muli v107 c512_i32_182
  v433
def k0_mult21 (i : grid0.Coords) : BitVec 32 :=
  let c7_i32 : BitVec 32 := 7#32
  let arg2 : BitVec 32 := BitVec.ofNat 32 (i 2).val
  let v114 : BitVec 32 := Scalar.subi c7_i32 arg2
  let c512_i32_192 : BitVec 32 := 512#32
  let v453 : BitVec 32 := Scalar.muli v114 c512_i32_192
  v453
def k0_off5 (i : grid0.Coords) (c7_i32 : BitVec 32) : Fin 4 → Nat :=
  let c0_193 : Index := 0#32
  let c0_194 : Index := 0#32
  let arg2 : BitVec 32 := BitVec.ofNat 32 (i 2).val
  let v114 : BitVec 32 := Scalar.subi c7_i32 arg2
  let c512_i32_192 : BitVec 32 := 512#32
  let v453 : BitVec 32 := Scalar.muli v114 c512_i32_192
  let v454 : BitVec 32 := v453
  let v455 : Index := Scalar.indexCast v454
  let c0_195 : Index := 0#32
  ![0, 0, v455.toNat, 0]
def k0_mult22 (i : grid0.Coords) : BitVec 32 :=
  let c6_i32_43 : BitVec 32 := 6#32
  let arg2 : BitVec 32 := BitVec.ofNat 32 (i 2).val
  let c6_i32 : BitVec 32 := 6#32
  let v108 : BitVec 1 := Scalar.cmpi .sle arg2 c6_i32
  let v109 : BitVec 32 := Scalar.extui v108
  let v112 : BitVec 32 := Scalar.muli v109 arg2
  let v113 : BitVec 32 := Scalar.subi c6_i32_43 v112
  let c512_i32_206 : BitVec 32 := 512#32
  let v485 : BitVec 32 := Scalar.muli v113 c512_i32_206
  v485
def k0_mult23 (i : grid0.Coords) : BitVec 32 :=
  let c8_i32 : BitVec 32 := 8#32
  let arg2 : BitVec 32 := BitVec.ofNat 32 (i 2).val
  let v115 : BitVec 32 := Scalar.subi c8_i32 arg2
  let c512_i32_216 : BitVec 32 := 512#32
  let v505 : BitVec 32 := Scalar.muli v115 c512_i32_216
  v505
def k0_mult24 (i : grid0.Coords) : BitVec 32 :=
  let c7_i32 : BitVec 32 := 7#32
  let arg2 : BitVec 32 := BitVec.ofNat 32 (i 2).val
  let v114 : BitVec 32 := Scalar.subi c7_i32 arg2
  let c512_i32_233 : BitVec 32 := 512#32
  let v534 : BitVec 32 := Scalar.muli v114 c512_i32_233
  v534
def k0_off6 (i : grid0.Coords) (c7_i32 : BitVec 32) : Fin 4 → Nat :=
  let c0_234 : Index := 0#32
  let c0_235 : Index := 0#32
  let arg2 : BitVec 32 := BitVec.ofNat 32 (i 2).val
  let v114 : BitVec 32 := Scalar.subi c7_i32 arg2
  let c512_i32_233 : BitVec 32 := 512#32
  let v534 : BitVec 32 := Scalar.muli v114 c512_i32_233
  let v535 : BitVec 32 := v534
  let v536 : Index := Scalar.indexCast v535
  let c0_236 : Index := 0#32
  ![0, 0, v536.toNat, 0]
def k0_mult25 (i : grid0.Coords) : BitVec 32 :=
  let c9_i32 : BitVec 32 := 9#32
  let arg2 : BitVec 32 := BitVec.ofNat 32 (i 2).val
  let v116 : BitVec 32 := Scalar.subi c9_i32 arg2
  let c512_i32_246 : BitVec 32 := 512#32
  let v551 : BitVec 32 := Scalar.muli v116 c512_i32_246
  v551
def k0_mult26 (i : grid0.Coords) : BitVec 32 :=
  let c8_i32 : BitVec 32 := 8#32
  let arg2 : BitVec 32 := BitVec.ofNat 32 (i 2).val
  let v115 : BitVec 32 := Scalar.subi c8_i32 arg2
  let c512_i32_263 : BitVec 32 := 512#32
  let v580 : BitVec 32 := Scalar.muli v115 c512_i32_263
  v580
def k0_mult27 (i : grid0.Coords) : BitVec 32 :=
  let c10_i32 : BitVec 32 := 10#32
  let arg2 : BitVec 32 := BitVec.ofNat 32 (i 2).val
  let v117 : BitVec 32 := Scalar.subi c10_i32 arg2
  let c512_i32_276 : BitVec 32 := 512#32
  let v597 : BitVec 32 := Scalar.muli v117 c512_i32_276
  v597
def k0_mult28 (i : grid0.Coords) : BitVec 32 :=
  let c9_i32 : BitVec 32 := 9#32
  let arg2 : BitVec 32 := BitVec.ofNat 32 (i 2).val
  let v116 : BitVec 32 := Scalar.subi c9_i32 arg2
  let c512_i32_293 : BitVec 32 := 512#32
  let v626 : BitVec 32 := Scalar.muli v116 c512_i32_293
  v626
def k0_mult29 (i : grid0.Coords) : BitVec 32 :=
  let c11_i32 : BitVec 32 := 11#32
  let arg2 : BitVec 32 := BitVec.ofNat 32 (i 2).val
  let v118 : BitVec 32 := Scalar.subi c11_i32 arg2
  let c512_i32_306 : BitVec 32 := 512#32
  let v643 : BitVec 32 := Scalar.muli v118 c512_i32_306
  v643
def k0_mult30 (i : grid0.Coords) : BitVec 32 :=
  let c10_i32 : BitVec 32 := 10#32
  let arg2 : BitVec 32 := BitVec.ofNat 32 (i 2).val
  let v117 : BitVec 32 := Scalar.subi c10_i32 arg2
  let c512_i32_323 : BitVec 32 := 512#32
  let v672 : BitVec 32 := Scalar.muli v117 c512_i32_323
  v672
def k0_mult31 (i : grid0.Coords) : BitVec 32 :=
  let c12_i32 : BitVec 32 := 12#32
  let arg2 : BitVec 32 := BitVec.ofNat 32 (i 2).val
  let v119 : BitVec 32 := Scalar.subi c12_i32 arg2
  let c512_i32_336 : BitVec 32 := 512#32
  let v689 : BitVec 32 := Scalar.muli v119 c512_i32_336
  v689
def k0_mult32 (i : grid0.Coords) : BitVec 32 :=
  let c11_i32 : BitVec 32 := 11#32
  let arg2 : BitVec 32 := BitVec.ofNat 32 (i 2).val
  let v118 : BitVec 32 := Scalar.subi c11_i32 arg2
  let c512_i32_353 : BitVec 32 := 512#32
  let v718 : BitVec 32 := Scalar.muli v118 c512_i32_353
  v718
def k0_mult33 (i : grid0.Coords) : BitVec 32 :=
  let c13_i32 : BitVec 32 := 13#32
  let arg2 : BitVec 32 := BitVec.ofNat 32 (i 2).val
  let v120 : BitVec 32 := Scalar.subi c13_i32 arg2
  let c512_i32_366 : BitVec 32 := 512#32
  let v735 : BitVec 32 := Scalar.muli v120 c512_i32_366
  v735
def k0_mult34 (i : grid0.Coords) : BitVec 32 :=
  let c12_i32 : BitVec 32 := 12#32
  let arg2 : BitVec 32 := BitVec.ofNat 32 (i 2).val
  let v119 : BitVec 32 := Scalar.subi c12_i32 arg2
  let c512_i32_383 : BitVec 32 := 512#32
  let v764 : BitVec 32 := Scalar.muli v119 c512_i32_383
  v764
def k0_mult35 (i : grid0.Coords) : BitVec 32 :=
  let c14_i32 : BitVec 32 := 14#32
  let arg2 : BitVec 32 := BitVec.ofNat 32 (i 2).val
  let v121 : BitVec 32 := Scalar.subi c14_i32 arg2
  let c512_i32_396 : BitVec 32 := 512#32
  let v781 : BitVec 32 := Scalar.muli v121 c512_i32_396
  v781
def k0_mult36 (i : grid0.Coords) : BitVec 32 :=
  let c13_i32 : BitVec 32 := 13#32
  let arg2 : BitVec 32 := BitVec.ofNat 32 (i 2).val
  let v120 : BitVec 32 := Scalar.subi c13_i32 arg2
  let c512_i32_413 : BitVec 32 := 512#32
  let v810 : BitVec 32 := Scalar.muli v120 c512_i32_413
  v810
def k0_mult37 (i : grid0.Coords) : BitVec 32 :=
  let arg2 : BitVec 32 := BitVec.ofNat 32 (i 2).val
  let c512_i32_426 : BitVec 32 := 512#32
  let v827 : BitVec 32 := Scalar.muli arg2 c512_i32_426
  v827
def k0_off7 (i : grid0.Coords) : Fin 4 → Nat :=
  let c0_427 : Index := 0#32
  let c0_428 : Index := 0#32
  let arg2 : BitVec 32 := BitVec.ofNat 32 (i 2).val
  let c512_i32_426 : BitVec 32 := 512#32
  let v827 : BitVec 32 := Scalar.muli arg2 c512_i32_426
  let v828 : BitVec 32 := v827
  let v829 : Index := Scalar.indexCast v828
  let c0_429 : Index := 0#32
  ![0, 0, v829.toNat, 0]
def k0_mult38 (i : grid0.Coords) : BitVec 32 :=
  let c14_i32 : BitVec 32 := 14#32
  let arg2 : BitVec 32 := BitVec.ofNat 32 (i 2).val
  let v121 : BitVec 32 := Scalar.subi c14_i32 arg2
  let c512_i32_443 : BitVec 32 := 512#32
  let v856 : BitVec 32 := Scalar.muli v121 c512_i32_443
  v856
def k0_mult39 (i : grid0.Coords) : BitVec 32 :=
  let c15_i32 : BitVec 32 := 15#32
  let arg2 : BitVec 32 := BitVec.ofNat 32 (i 2).val
  let v122 : BitVec 32 := Scalar.subi c15_i32 arg2
  let c512_i32_456 : BitVec 32 := 512#32
  let v873 : BitVec 32 := Scalar.muli v122 c512_i32_456
  v873
def k0_mult40 (i : grid0.Coords) : BitVec 32 :=
  let arg2 : BitVec 32 := BitVec.ofNat 32 (i 2).val
  let c512_i32_474 : BitVec 32 := 512#32
  let v905 : BitVec 32 := Scalar.muli arg2 c512_i32_474
  v905
def k0_off8 (i : grid0.Coords) : Fin 4 → Nat :=
  let c0_475 : Index := 0#32
  let c0_476 : Index := 0#32
  let arg2 : BitVec 32 := BitVec.ofNat 32 (i 2).val
  let c512_i32_474 : BitVec 32 := 512#32
  let v905 : BitVec 32 := Scalar.muli arg2 c512_i32_474
  let v906 : BitVec 32 := v905
  let v907 : Index := Scalar.indexCast v906
  let c0_477 : Index := 0#32
  ![0, 0, v907.toNat, 0]
def k0_mult41 (i : grid0.Coords) : BitVec 32 :=
  let c15_i32 : BitVec 32 := 15#32
  let arg2 : BitVec 32 := BitVec.ofNat 32 (i 2).val
  let v122 : BitVec 32 := Scalar.subi c15_i32 arg2
  let c512_i32_496 : BitVec 32 := 512#32
  let v944 : BitVec 32 := Scalar.muli v122 c512_i32_496
  v944
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  let c0_i32_0 : BitVec 32 := 0#32
  ![arg0.toNat, arg1.toNat, v0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat, arg1.toNat]

abbrev stage0_0 : Fin 2 → Memref sig .tc .vmem S1x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x8192x4x192 : Shape := ⟨4, ![8, 8192, 4, 192]⟩
abbrev S8x8192x4x128 : Shape := ⟨4, ![8, 8192, 4, 128]⟩
abbrev S8192 : Shape := ⟨1, ![8192]⟩
abbrev S_ : Shape := ⟨0, ![]⟩
abbrev S8x4x8192x8192 : Shape := ⟨4, ![8, 4, 8192, 8192]⟩
abbrev S1x8192 : Shape := ⟨2, ![1, 8192]⟩
abbrev S8192x1 : Shape := ⟨2, ![8192, 1]⟩
abbrev S8192x8192 : Shape := ⟨2, ![8192, 8192]⟩
abbrev S8x4x8192 : Shape := ⟨3, ![8, 4, 8192]⟩
abbrev S8x4x8192x1 : Shape := ⟨4, ![8, 4, 8192, 1]⟩
abbrev S8x4x128x8192 : Shape := ⟨4, ![8, 4, 128, 8192]⟩
abbrev S8x16x512x512 : Shape := ⟨4, ![8, 16, 512, 512]⟩
abbrev S8x8x512x512 : Shape := ⟨4, ![8, 8, 512, 512]⟩
abbrev S8x1x8x512x512 : Shape := ⟨5, ![8, 1, 8, 512, 512]⟩
abbrev S8x2x8x512x512 : Shape := ⟨5, ![8, 2, 8, 512, 512]⟩

abbrev nBuf : Space → Nat
  | .hbm => 60
  | .vmem => 0
  | .smem => 0
  | _ => 0

abbrev bufTy : (tb : Table) → Fin (tcTables nBuf tb) → BufTy
  | .hbm, ⟨0, _⟩ => ⟨S8x8192x4x192, .f32⟩
  | .hbm, ⟨1, _⟩ => ⟨S8x8192x4x192, .f32⟩
  | .hbm, ⟨2, _⟩ => ⟨S8x8192x4x128, .f32⟩
  | .hbm, ⟨3, _⟩ => ⟨S8192, .i32⟩
  | .hbm, ⟨4, _⟩ => ⟨S_, .i32⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S8x4x8192x8192, .f32⟩
  | .hbm, ⟨23, _⟩ => ⟨S_, .f32⟩
  | .hbm, ⟨24, _⟩ => ⟨S8x4x8192x8192, .f32⟩
  | .hbm, ⟨25, _⟩ => ⟨S8x4x8192x8192, .f32⟩
  | .hbm, ⟨26, _⟩ => ⟨S1x8192, .i32⟩
  | .hbm, ⟨27, _⟩ => ⟨S8192x1, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S8x4x8192x8192, .i1⟩
  | .hbm, ⟨34, _⟩ => ⟨S8x4x8192x8192, .f32⟩
  | .hbm, ⟨35, _⟩ => ⟨S8x4x8192x8192, .f32⟩
  | .hbm, ⟨36, _⟩ => ⟨S_, .f32⟩
  | .hbm, ⟨37, _⟩ => ⟨S8x4x8192, .f32⟩
  | .hbm, ⟨38, _⟩ => ⟨S_, .f32⟩
  | .hbm, ⟨39, _⟩ => ⟨S8x4x8192, .f32⟩
  | .hbm, ⟨40, _⟩ => ⟨S8x4x8192, .f32⟩
  | .hbm, ⟨41, _⟩ => ⟨S8x4x8192x1, .f32⟩
  | .hbm, ⟨42, _⟩ => ⟨S8x4x8192x8192, .f32⟩
  | .hbm, ⟨43, _⟩ => ⟨S8x4x8192x8192, .f32⟩
  | .hbm, ⟨44, _⟩ => ⟨S8x4x8192x8192, .f32⟩
  | .hbm, ⟨45, _⟩ => ⟨S_, .f32⟩
  | .hbm, ⟨46, _⟩ => ⟨S8x4x8192, .f32⟩
  | .hbm, ⟨47, _⟩ => ⟨S8x4x8192x1, .f32⟩
  | .hbm, ⟨48, _⟩ => ⟨S8x4x8192x8192, .f32⟩
  | .hbm, ⟨49, _⟩ => ⟨S8x4x8192x8192, .f32⟩
  | .hbm, ⟨50, _⟩ => ⟨S8x4x128x8192, .f32⟩
  | .hbm, ⟨51, _⟩ => ⟨S8x8192x4x128, .f32⟩
  | .hbm, ⟨52, _⟩ => ⟨S8x16x512x512, .f32⟩
  | .hbm, ⟨53, _⟩ => ⟨S8x8x512x512, .f32⟩
  | .hbm, ⟨54, _⟩ => ⟨S8x8x512x512, .f32⟩
  | .hbm, ⟨55, _⟩ => ⟨S8x8x512x512, .f32⟩
  | .hbm, ⟨56, _⟩ => ⟨S8x1x8x512x512, .f32⟩
  | .hbm, ⟨57, _⟩ => ⟨S8x1x8x512x512, .f32⟩
  | .hbm, ⟨58, _⟩ => ⟨S8x2x8x512x512, .f32⟩
  | .hbm, ⟨59, _⟩ => ⟨S8x2x8x512x512, .bf16⟩
  | _, _ => ⟨S8x8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩

abbrev nD : Nat := 1
abbrev τ : Topo := Topo.v7x

variable {F : FTy → Type} [FloatOps F]
-- ==== Kernel2.lean ====
abbrev S8x8192x1024 : Shape := ⟨3, ![8, 8192, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x2816 : Shape := ⟨2, ![8, 2816]⟩
abbrev S1x1024 : Shape := ⟨2, ![1, 1024]⟩
abbrev S1024x2816 : Shape := ⟨2, ![1024, 2816]⟩
abbrev S1x2816 : Shape := ⟨2, ![1, 2816]⟩
abbrev S1x512x1024 : Shape := ⟨3, ![1, 512, 1024]⟩
abbrev S520x1536 : Shape := ⟨2, ![520, 1536]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S8x1536 : Shape := ⟨2, ![8, 1536]⟩
abbrev S1x1536 : Shape := ⟨2, ![1, 1536]⟩
abbrev S1536x1024 : Shape := ⟨2, ![1536, 1024]⟩
abbrev S1024x1280 : Shape := ⟨2, ![1024, 1280]⟩
abbrev S512x1280 : Shape := ⟨2, ![512, 1280]⟩
abbrev S8x1280 : Shape := ⟨2, ![8, 1280]⟩
abbrev S1x1280 : Shape := ⟨2, ![1, 1280]⟩
abbrev S1280x1024 : Shape := ⟨2, ![1280, 1024]⟩

abbrev nBuf : Space → Nat
  | .hbm => 16
  | .vmem => 12
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024x5632, .bf16⟩
  | .hbm, ⟨7, _⟩ => ⟨S_, .i32⟩
  | .hbm, ⟨8, _⟩ => ⟨S_, .f32⟩
  | .hbm, ⟨9, _⟩ => ⟨S8x2816, .f32⟩
  | .hbm, ⟨10, _⟩ => ⟨S1x1024, .f32⟩
  | .hbm, ⟨11, _⟩ => ⟨S1024x2816, .bf16⟩
  | .hbm, ⟨12, _⟩ => ⟨S1024x2816, .bf16⟩
  | .hbm, ⟨13, _⟩ => ⟨S1x2816, .f32⟩
  | .hbm, ⟨14, _⟩ => ⟨S2816x1024, .bf16⟩
  | .hbm, ⟨15, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S8x2816, .f32⟩
  | .local _ .vmem, ⟨6, _⟩ => ⟨S1x2816, .f32⟩
  | .local _ .vmem, ⟨7, _⟩ => ⟨S2816x1024, .bf16⟩
  | .local _ .vmem, ⟨8, _⟩ => ⟨S1x512x1024, .f32⟩
  | .local _ .vmem, ⟨9, _⟩ => ⟨S1x512x1024, .f32⟩
  | .local _ .vmem, ⟨10, _⟩ => ⟨S520x1536, .f32⟩
  | .local _ .vmem, ⟨11, _⟩ => ⟨S8x2816, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8x8192x1024 : Shape := ⟨3, ![8, 8192, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩
abbrev S8x8194x2816 : Shape := ⟨3, ![8, 8194, 2816]⟩
abbrev S1x2816 : Shape := ⟨2, ![1, 2816]⟩
abbrev S1x1x2816 : Shape := ⟨3, ![1, 1, 2816]⟩

abbrev nBuf : Space → Nat
  | .hbm => 63
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S8x8192x1024, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S8x8192x1, .f32⟩
  | .hbm, ⟨17, _⟩ => ⟨S8x8192x1024, .f32⟩
  | .hbm, ⟨18, _⟩ => ⟨S8x8192x1024, .f32⟩
  | .hbm, ⟨19, _⟩ => ⟨S1x1x1024, .f32⟩
  | .hbm, ⟨20, _⟩ => ⟨S8x8192x1024, .f32⟩
  | .hbm, ⟨21, _⟩ => ⟨S8x8192x1024, .f32⟩
  | .hbm, ⟨22, _⟩ => ⟨S8x8192x5632, .f32⟩
  | .hbm, ⟨23, _⟩ => ⟨S8x8192x2816, .f32⟩
  | .hbm, ⟨24, _⟩ => ⟨S8x8192x2816, .f32⟩
  | .hbm, ⟨25, _⟩ => ⟨S_, .i32⟩
  | .hbm, ⟨26, _⟩ => ⟨S_, .f32⟩
  | .hbm, ⟨27, _⟩ => ⟨S8x8194x2816, .f32⟩
  | .hbm, ⟨28, _⟩ => ⟨S8x8192x2816, .f32⟩
  | .hbm, ⟨29, _⟩ => ⟨S1x2816, .f32⟩
  | .hbm, ⟨30, _⟩ => ⟨S2816, .f32⟩
  | .hbm, ⟨31, _⟩ => ⟨S1x1x2816, .f32⟩
  | .hbm, ⟨32, _⟩ => ⟨S8x8192x2816, .f32⟩
  | .hbm, ⟨33, _⟩ => ⟨S8x8192x2816, .f32⟩
  | .hbm, ⟨34, _⟩ => ⟨S1x1x2816, .f32⟩
  | .hbm, ⟨35, _⟩ => ⟨S8x8192x2816, .f32⟩
  | .hbm, ⟨36, _⟩ => ⟨S8x8192x2816, .f32⟩
  | .hbm, ⟨37, _⟩ => ⟨S8x8192x2816, .f32⟩
  | .hbm, ⟨38, _⟩ => ⟨S1x2816, .f32⟩
  | .hbm, ⟨39, _⟩ => ⟨S2816, .f32⟩
  | .hbm, ⟨40, _⟩ => ⟨S1x1x2816, .f32⟩
  | .hbm, ⟨41, _⟩ => ⟨S8x8192x2816, .f32⟩
  | .hbm, ⟨42, _⟩ => ⟨S8x8192x2816, .f32⟩
  | .hbm, ⟨43, _⟩ => ⟨S8x8192x2816, .f32⟩
  | .hbm, ⟨44, _⟩ => ⟨S8x8192x2816, .f32⟩
  | .hbm, ⟨45, _⟩ => ⟨S1x2816, .f32⟩
  | .hbm, ⟨46, _⟩ => ⟨S2816, .f32⟩
  | .hbm, ⟨47, _⟩ => ⟨S1x1x2816, .f32⟩
  | .hbm, ⟨48, _⟩ => ⟨S8x8192x2816, .f32⟩
  | .hbm, ⟨49, _⟩ => ⟨S8x8192x2816, .f32⟩
  | .hbm, ⟨50, _⟩ => ⟨S8x8192x2816, .f32⟩
  | .hbm, ⟨51, _⟩ => ⟨S8x8192x2816, .f32⟩
  | .hbm, ⟨52, _⟩ => ⟨S8x8192x2816, .f32⟩
  | .hbm, ⟨53, _⟩ => ⟨S_, .f32⟩
  | .hbm, ⟨54, _⟩ => ⟨S8x8192x2816, .f32⟩
  | .hbm, ⟨55, _⟩ => ⟨S8x8192x2816, .f32⟩
  | .hbm, ⟨56, _⟩ => ⟨S_, .f32⟩
  | .hbm, ⟨57, _⟩ => ⟨S8x8192x2816, .f32⟩
  | .hbm, ⟨58, _⟩ => ⟨S8x8192x2816, .f32⟩
  | .hbm, ⟨59, _⟩ => ⟨S8x8192x2816, .f32⟩
  | .hbm, ⟨60, _⟩ => ⟨S8x8192x2816, .f32⟩
  | .hbm, ⟨61, _⟩ => ⟨S8x8192x1024, .f32⟩
  | .hbm, ⟨62, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x8192x512 : Shape := ⟨3, ![8, 8192, 512]⟩
abbrev S8x8192x256 : Shape := ⟨3, ![8, 8192, 256]⟩
abbrev S1024x1024 : Shape := ⟨2, ![1024, 1024]⟩
abbrev S1024 : Shape := ⟨1, ![1024]⟩
abbrev S1024x512 : Shape := ⟨2, ![1024, 512]⟩
abbrev S8x256x4x128 : Shape := ⟨4, ![8, 256, 4, 128]⟩
abbrev S128 : Shape := ⟨1, ![128]⟩
abbrev S512x1024 : Shape := ⟨2, ![512, 1024]⟩
abbrev S8x16x512x512 : Shape := ⟨4, ![8, 16, 512, 512]⟩
abbrev S8x8x512x512 : Shape := ⟨4, ![8, 8, 512, 512]⟩
abbrev S8x1x8x512x512 : Shape := ⟨5, ![8, 1, 8, 512, 512]⟩
abbrev S8x2x8x512x512 : Shape := ⟨5, ![8, 2, 8, 512, 512]⟩
abbrev S256x1024 : Shape := ⟨2, ![256, 1024]⟩
abbrev S1x1024 : Shape := ⟨2, ![1, 1024]⟩
abbrev S1x128 : Shape := ⟨2, ![1, 128]⟩
abbrev S8x4x256x128 : Shape := ⟨4, ![8, 4, 256, 128]⟩
abbrev S1x512x1024 : Shape := ⟨3, ![1, 512, 1024]⟩
abbrev S1x1x1x512x512 : Shape := ⟨5, ![1, 1, 1, 512, 512]⟩
abbrev S1x512x256 : Shape := ⟨3, ![1, 512, 256]⟩
abbrev S1x4x256x128 : Shape := ⟨4, ![1, 4, 256, 128]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x128 : Shape := ⟨2, ![512, 128]⟩
abbrev S1x1x256x128 : Shape := ⟨4, ![1, 1, 256, 128]⟩
abbrev S256x128 : Shape := ⟨2, ![256, 128]⟩

abbrev nBuf : Space → Nat
  | .hbm => 34
  | .vmem => 21
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x256, .f32⟩
  | .hbm, ⟨3, _⟩ => ⟨S8x8192x256, .f32⟩
  | .hbm, ⟨4, _⟩ => ⟨S1024x1024, .f32⟩
  | .hbm, ⟨5, _⟩ => ⟨S1024, .f32⟩
  | .hbm, ⟨6, _⟩ => ⟨S1024x512, .f32⟩
  | .hbm, ⟨7, _⟩ => ⟨S8x256x4x128, .f32⟩
  | .hbm, ⟨8, _⟩ => ⟨S8x256x4x128, .f32⟩
  | .hbm, ⟨9, _⟩ => ⟨S128, .f32⟩
  | .hbm, ⟨10, _⟩ => ⟨S512x1024, .f32⟩
  | .hbm, ⟨11, _⟩ => ⟨S8x16x512x512, .f32⟩
  | .hbm, ⟨12, _⟩ => ⟨S8x8x512x512, .f32⟩
  | .hbm, ⟨13, _⟩ => ⟨S8x8x512x512, .f32⟩
  | .hbm, ⟨14, _⟩ => ⟨S8x8x512x512, .f32⟩
  | .hbm, ⟨15, _⟩ => ⟨S8x1x8x512x512, .f32⟩
  | .hbm, ⟨16, _⟩ => ⟨S8x1x8x512x512, .f32⟩
  | .hbm, ⟨17, _⟩ => ⟨S8x2x8x512x512, .f32⟩
  | .hbm, ⟨18, _⟩ => ⟨S8x2x8x512x512, .bf16⟩
  | .hbm, ⟨19, _⟩ => ⟨S1024x1024, .bf16⟩
  | .hbm, ⟨20, _⟩ => ⟨S8x8192x256, .bf16⟩
  | .hbm, ⟨21, _⟩ => ⟨S8x8192x256, .bf16⟩
  | .hbm, ⟨22, _⟩ => ⟨S512x1024, .bf16⟩
  | .hbm, ⟨23, _⟩ => ⟨S256x1024, .bf16⟩
  | .hbm, ⟨24, _⟩ => ⟨S256x1024, .bf16⟩
  | .hbm, ⟨25, _⟩ => ⟨S1x1024, .f32⟩
  | .hbm, ⟨26, _⟩ => ⟨S1024x512, .bf16⟩
  | .hbm, ⟨27, _⟩ => ⟨S1x128, .f32⟩
  | .hbm, ⟨28, _⟩ => ⟨S8x4x256x128, .f32⟩
  | .hbm, ⟨29, _⟩ => ⟨S8x4x256x128, .bf16⟩
  | .hbm, ⟨30, _⟩ => ⟨S8x4x256x128, .f32⟩
  | .hbm, ⟨31, _⟩ => ⟨S8x4x256x128, .bf16⟩
  | .hbm, ⟨32, _⟩ => ⟨S512x1024, .bf16⟩
  | .hbm, ⟨33, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x512x512, .bf16⟩
  | .local _ .vmem, ⟨3, _⟩ => ⟨S1x1x1x512x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S512x1024, .bf16⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | .local _ .vmem, ⟨12, _⟩ => ⟨S1024x512, .bf16⟩
  | .local _ .vmem, ⟨13, _⟩ => ⟨S1x128, .f32⟩
  | .local _ .vmem, ⟨14, _⟩ => ⟨S1x4x256x128, .bf16⟩
  | .local _ .vmem, ⟨15, _⟩ => ⟨S1x4x256x128, .bf16⟩
  | .local _ .vmem, ⟨16, _⟩ => ⟨S1x4x256x128, .bf16⟩
  | .local _ .vmem, ⟨17, _⟩ => ⟨S1x4x256x128, .bf16⟩
  | .local _ .vmem, ⟨18, _⟩ => ⟨S512x1024, .bf16⟩
  | .local _ .vmem, ⟨19, _⟩ => ⟨S1x512x1024, .f32⟩
  | .local _ .vmem, ⟨20, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 1 := Scalar.cmpi .slt arg1 c8_i32_4
  let c15_i32 : BitVec 32 := 15#32
  let v18 : BitVec 32 := Scalar.subi c15_i32 arg1
  let v19 : BitVec 32 := Scalar.select v17 arg1 v18
  let c0_i32_5 : BitVec 32 := 0#32
  let c0_i32_6 : BitVec 32 := 0#32
  let c0_i32_7 : BitVec 32 := 0#32
  ![arg0.toNat, v16.toNat, v19.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x4x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S8x8192x1024 : Shape := ⟨3, ![8, 8192, 1024]⟩
abbrev S8x8192x512 : Shape := ⟨3, ![8, 8192, 512]⟩
abbrev S8x8192x256 : Shape := ⟨3, ![8, 8192, 256]⟩
abbrev S1024x1024 : Shape := ⟨2, ![1024, 1024]⟩
abbrev S1024 : Shape := ⟨1, ![1024]⟩
abbrev S1024x512 : Shape := ⟨2, ![1024, 512]⟩
abbrev S8x256x4x128 : Shape := ⟨4, ![8, 256, 4, 128]⟩
abbrev S128 : Shape := ⟨1, ![128]⟩
abbrev S512x1024 : Shape := ⟨2, ![512, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x128x8192 : Shape := ⟨4, ![8, 4, 128, 8192]⟩

abbrev nBuf : Space → Nat
  | .hbm => 71
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x256, .f32⟩
  | .hbm, ⟨3, _⟩ => ⟨S8x8192x256, .f32⟩
  | .hbm, ⟨4, _⟩ => ⟨S1024x1024, .f32⟩
  | .hbm, ⟨5, _⟩ => ⟨S1024, .f32⟩
  | .hbm, ⟨6, _⟩ => ⟨S1024x512, .f32⟩
  | .hbm, ⟨7, _⟩ => ⟨S8x256x4x128, .f32⟩
  | .hbm, ⟨8, _⟩ => ⟨S8x256x4x128, .f32⟩
  | .hbm, ⟨9, _⟩ => ⟨S128, .f32⟩
  | .hbm, ⟨10, _⟩ => ⟨S512x1024, .f32⟩
  | .hbm, ⟨11, _⟩ => ⟨S8x8192x1024, .f32⟩
  | .hbm, ⟨12, _⟩ => ⟨S8x8192x1024, .f32⟩
  | .hbm, ⟨13, _⟩ => ⟨S8x8192x1024, .f32⟩
  | .hbm, ⟨14, _⟩ => ⟨S8x8192x1024, .f32⟩
  | .hbm, ⟨15, _⟩ => ⟨S_, .f32⟩
  | .hbm, ⟨16, _⟩ => ⟨S8x8192, .f32⟩
  | .hbm, ⟨17, _⟩ => ⟨S8x8192x1, .f32⟩
  | .hbm, ⟨18, _⟩ => ⟨S_, .f32⟩
  | .hbm, ⟨19, _⟩ => ⟨S8x8192x1, .f32⟩
  | .hbm, ⟨20, _⟩ => ⟨S8x8192x1, .f32⟩
  | .hbm, ⟨21, _⟩ => ⟨S_, .f32⟩
  | .hbm, ⟨22, _⟩ => ⟨S8x8192x1, .f32⟩
  | .hbm, ⟨23, _⟩ => ⟨S8x8192x1, .f32⟩
  | .hbm, ⟨24, _⟩ => ⟨S8x8192x1, .f32⟩
  | .hbm, ⟨25, _⟩ => ⟨S8x8192x1024, .f32⟩
  | .hbm, ⟨26, _⟩ => ⟨S8x8192x1024, .f32⟩
  | .hbm, ⟨27, _⟩ => ⟨S1x1x1024, .f32⟩
  | .hbm, ⟨28, _⟩ => ⟨S8x8192x1024, .f32⟩
  | .hbm, ⟨29, _⟩ => ⟨S8x8192x1024, .f32⟩
  | .hbm, ⟨30, _⟩ => ⟨S8x8192x512, .f32⟩
  | .hbm, ⟨31, _⟩ => ⟨S8x8192x4x128, .f32⟩
  | .hbm, ⟨32, _⟩ => ⟨S8x8192x4x128, .f32⟩
  | .hbm, ⟨33, _⟩ => ⟨S_, .f32⟩
  | .hbm, ⟨34, _⟩ => ⟨S8x8192x4, .f32⟩
  | .hbm, ⟨35, _⟩ => ⟨S8x8192x4x1, .f32⟩
  | .hbm, ⟨36, _⟩ => ⟨S_, .f32⟩
  | .hbm, ⟨37, _⟩ => ⟨S8x8192x4x1, .f32⟩
  | .hbm, ⟨38, _⟩ => ⟨S8x8192x4x1, .f32⟩
  | .hbm, ⟨39, _⟩ => ⟨S_, .f32⟩
  | .hbm, ⟨40, _⟩ => ⟨S8x8192x4x1, .f32⟩
  | .hbm, ⟨41, _⟩ => ⟨S8x8192x4x1, .f32⟩
  | .hbm, ⟨42, _⟩ => ⟨S8x8192x4x1, .f32⟩
  | .hbm, ⟨43, _⟩ => ⟨S8x8192x4x128, .f32⟩
  | .hbm, ⟨44, _⟩ => ⟨S8x8192x4x128, .f32⟩
  | .hbm, ⟨45, _⟩ => ⟨S1x1x1x128, .f32⟩
  | .hbm, ⟨46, _⟩ => ⟨S8x8192x4x128, .f32⟩
  | .hbm, ⟨47, _⟩ => ⟨S8x8192x4x128, .f32⟩
  | .hbm, ⟨48, _⟩ => ⟨S8x4x8192x256, .f32⟩
  | .hbm, ⟨49, _⟩ => ⟨S_, .f32⟩
  | .hbm, ⟨50, _⟩ => ⟨S8x4x8192x256, .f32⟩
  | .hbm, ⟨51, _⟩ => ⟨S8x4x8192x256, .f32⟩
  | .hbm, ⟨52, _⟩ => ⟨S_, .f32⟩
  | .hbm, ⟨53, _⟩ => ⟨S8x4x8192, .f32⟩
  | .hbm, ⟨54, _⟩ => ⟨S_, .f32⟩
  | .hbm, ⟨55, _⟩ => ⟨S8x4x8192, .f32⟩
  | .hbm, ⟨56, _⟩ => ⟨S8x4x8192, .f32⟩
  | .hbm, ⟨57, _⟩ => ⟨S8x4x8192x1, .f32⟩
  | .hbm, ⟨58, _⟩ => ⟨S8x4x8192x256, .f32⟩
  | .hbm, ⟨59, _⟩ => ⟨S8x4x8192x256, .f32⟩
  | .hbm, ⟨60, _⟩ => ⟨S8x4x8192x256, .f32⟩
  | .hbm, ⟨61, _⟩ => ⟨S_, .f32⟩
  | .hbm, ⟨62, _⟩ => ⟨S8x4x8192, .f32⟩
  | .hbm, ⟨63, _⟩ => ⟨S8x4x8192x1, .f32⟩
  | .hbm, ⟨64, _⟩ => ⟨S8x4x8192x256, .f32⟩
  | .hbm, ⟨65, _⟩ => ⟨S8x4x8192x256, .f32⟩
  | .hbm, ⟨66, _⟩ => ⟨S8x4x128x8192, .f32⟩
  | .hbm, ⟨67, _⟩ => ⟨S8x8192x4x128, .f32⟩
  | .hbm, ⟨68, _⟩ => ⟨S8x8192x512, .f32⟩
  | .hbm, ⟨69, _⟩ => ⟨S8x8192x1024, .f32⟩
  | .hbm, ⟨70, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Kernel4.lean ====
abbrev S8x8192x1024 : Shape := ⟨3, ![8, 8192, 1024]⟩
abbrev S8x8192 : Shape := ⟨2, ![8, 8192]⟩
abbrev S1024 : Shape := ⟨1, ![1024]⟩
abbrev S1024x2384 : Shape := ⟨2, ![1024, 2384]⟩
abbrev S256 : Shape := ⟨1, ![256]⟩
abbrev S256x768 : Shape := ⟨2, ![256, 768]⟩
abbrev S256x1024 : Shape := ⟨2, ![256, 1024]⟩
abbrev S192 : Shape := ⟨1, ![192]⟩
abbrev S32 : Shape := ⟨1, ![32]⟩
abbrev S_ : Shape := ⟨0, ![]⟩
abbrev S8x8192x1 : Shape := ⟨3, ![8, 8192, 1]⟩
abbrev S1x1x32 : Shape := ⟨3, ![1, 1, 32]⟩
abbrev S8x8192x32 : Shape := ⟨3, ![8, 8192, 32]⟩
abbrev S8x8192x64 : Shape := ⟨3, ![8, 8192, 64]⟩
abbrev S8x8192x128 : Shape := ⟨3, ![8, 8192, 128]⟩
abbrev S1024x16 : Shape := ⟨2, ![1024, 16]⟩
abbrev S1024x128 : Shape := ⟨2, ![1024, 128]⟩
abbrev S1024x256 : Shape := ⟨2, ![1024, 256]⟩
abbrev S1024x64 : Shape := ⟨2, ![1024, 64]⟩
abbrev S1024x32 : Shape := ⟨2, ![1024, 32]⟩
abbrev S1024x2688 : Shape := ⟨2, ![1024, 2688]⟩
abbrev S256x4x192 : Shape := ⟨3, ![256, 4, 192]⟩
abbrev S256x4x64 : Shape := ⟨3, ![256, 4, 64]⟩
abbrev S256x4x128 : Shape := ⟨3, ![256, 4, 128]⟩
abbrev S256x4x32 : Shape := ⟨3, ![256, 4, 32]⟩
abbrev S256x4x384 : Shape := ⟨3, ![256, 4, 384]⟩
abbrev S256x1536 : Shape := ⟨2, ![256, 1536]⟩
abbrev S1x1024 : Shape := ⟨2, ![1, 1024]⟩
abbrev S1x256 : Shape := ⟨2, ![1, 256]⟩
abbrev S64 : Shape := ⟨1, ![64]⟩
abbrev S128 : Shape := ⟨1, ![128]⟩
abbrev S384 : Shape := ⟨1, ![384]⟩
abbrev S1x384 : Shape := ⟨2, ![1, 384]⟩
abbrev S256x256 : Shape := ⟨2, ![256, 256]⟩
abbrev S4 : Shape := ⟨1, ![4]⟩
abbrev S4x1 : Shape := ⟨2, ![4, 1]⟩
abbrev S4x128 : Shape := ⟨2, ![4, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x4x8192x256 : Shape := ⟨4, ![8, 4, 8192, 256]⟩
abbrev S8x4x8192x128 : Shape := ⟨4, ![8, 4, 8192, 128]⟩
abbrev S8x8192x896 : Shape := ⟨3, ![8, 8192, 896]⟩
abbrev S1x512x1024 : Shape := ⟨3, ![1, 512, 1024]⟩
abbrev S1x512x128 : Shape := ⟨3, ![1, 512, 128]⟩
abbrev S1x4x512x256 : Shape := ⟨4, ![1, 4, 512, 256]⟩
abbrev S1x4x512x128 : Shape := ⟨4, ![1, 4, 512, 128]⟩
abbrev S1x512x896 : Shape := ⟨3, ![1, 512, 896]⟩
abbrev S512x1024 : Shape := ⟨2, ![512, 1024]⟩
abbrev S1024x768 : Shape := ⟨2, ![1024, 768]⟩
abbrev S512x768 : Shape := ⟨2, ![512, 768]⟩
abbrev S1024x896 : Shape := ⟨2, ![1024, 896]⟩
abbrev S512x896 : Shape := ⟨2, ![512, 896]⟩
abbrev S1024x1024 : Shape := ⟨2, ![1024, 1024]⟩
abbrev S512x256 : Shape := ⟨2, ![512, 256]⟩
abbrev S512x1536 : Shape := ⟨2, ![512, 1536]⟩
abbrev S512x128 : Shape := ⟨2, ![512, 128]⟩
abbrev S1x128 : Shape := ⟨2, ![1, 128]⟩
abbrev S1x1x512x128 : Shape := ⟨4, ![1, 1, 512, 128]⟩

abbrev nBuf : Space → Nat
  | .hbm => 152
  | .vmem => 26
  | .smem => 0
  | _ => 0

abbrev hbmTy0_0 (i : Nat) : BufTy := match i % 128 with
  | 0 => ⟨S8x8192x1024, .f32⟩
  | 1 => ⟨S8x8192, .i32⟩
  | 2 => ⟨S1024, .f32⟩
  | 3 => ⟨S1024x2384, .f32⟩
  | 4 => ⟨S256, .f32⟩
  | 5 => ⟨S256x768, .f32⟩
  | 6 => ⟨S256, .f32⟩
  | 7 => ⟨S256x1024, .f32⟩
  | 8 => ⟨S192, .f32⟩
  | 9 => ⟨S192, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S8x8192, .f32⟩
  | 25 => ⟨S8x8192x1, .f32⟩
  | 26 => ⟨S1x1x32, .f32⟩
  | 27 => ⟨S8x8192x32, .f32⟩
  | 28 => ⟨S8x8192x32, .f32⟩
  | 29 => ⟨S8x8192x32, .f32⟩
  | 30 => ⟨S8x8192x32, .f32⟩
  | 31 => ⟨S8x8192x32, .f32⟩
  | 32 => ⟨S8x8192x64, .f32⟩
  | 33 => ⟨S_, .f32⟩
  | 34 => ⟨S8x8192x32, .f32⟩
  | 35 => ⟨S8x8192x32, .f32⟩
  | 36 => ⟨S8x8192x32, .f32⟩
  | 37 => ⟨S8x8192x128, .f32⟩
  | 38 => ⟨S8x8192x32, .f32⟩
  | 39 => ⟨S8x8192x32, .f32⟩
  | 40 => ⟨S8x8192x32, .f32⟩
  | 41 => ⟨S8x8192x64, .f32⟩
  | 42 => ⟨S_, .f32⟩
  | 43 => ⟨S8x8192x32, .f32⟩
  | 44 => ⟨S8x8192x32, .f32⟩
  | 45 => ⟨S8x8192x32, .f32⟩
  | 46 => ⟨S8x8192x128, .f32⟩
  | 47 => ⟨S1024x16, .f32⟩
  | 48 => ⟨S_, .i32⟩
  | 49 => ⟨S_, .f32⟩
  | 50 => ⟨S1024x128, .f32⟩
  | 51 => ⟨S1024x256, .f32⟩
  | 52 => ⟨S1024x256, .f32⟩
  | 53 => ⟨S1024x64, .f32⟩
  | 54 => ⟨S_, .f32⟩
  | 55 => ⟨S1024x32, .f32⟩
  | 56 => ⟨S1024x32, .f32⟩
  | 57 => ⟨S1024x32, .f32⟩
  | 58 => ⟨S1024x128, .f32⟩
  | 59 => ⟨S1024x64, .f32⟩
  | 60 => ⟨S1024x32, .f32⟩
  | 61 => ⟨S1024x32, .f32⟩
  | 62 => ⟨S1024x64, .f32⟩
  | 63 => ⟨S_, .f32⟩
  | 64 => ⟨S1024x32, .f32⟩
  | 65 => ⟨S1024x32, .f32⟩
  | 66 => ⟨S1024x32, .f32⟩
  | 67 => ⟨S1024x128, .f32⟩
  | 68 => ⟨S1024x128, .f32⟩
  | 69 => ⟨S1024x128, .f32⟩
  | 70 => ⟨S1024x256, .f32⟩
  | 71 => ⟨S1024x256, .f32⟩
  | 72 => ⟨S1024x256, .f32⟩
  | 73 => ⟨S1024x256, .f32⟩
  | 74 => ⟨S1024x256, .f32⟩
  | 75 => ⟨S1024x256, .f32⟩
  | 76 => ⟨S1024x2688, .f32⟩
  | 77 => ⟨S1024x2688, .bf16⟩
  | 78 => ⟨S256x4x192, .f32⟩
  | 79 => ⟨S256x4x64, .f32⟩
  | 80 => ⟨S256x4x128, .f32⟩
  | 81 => ⟨S_, .f32⟩
  | 82 => ⟨S256x4x32, .f32⟩
  | 83 => ⟨S256x4x32, .f32⟩
  | 84 => ⟨S256x4x32, .f32⟩
  | 85 => ⟨S256x4x128, .f32⟩
  | 86 => ⟨S256x4x32, .f32⟩
  | 87 => ⟨S256x4x32, .f32⟩
  | 88 => ⟨S256x4x64, .f32⟩
  | 89 => ⟨S_, .f32⟩
  | 90 => ⟨S256x4x32, .f32⟩
  | 91 => ⟨S256x4x32, .f32⟩
  | 92 => ⟨S256x4x32, .f32⟩
  | 93 => ⟨S256x4x128, .f32⟩
  | 94 => ⟨S256x4x384, .f32⟩
  | 95 => ⟨S256x1536, .f32⟩
  | 96 => ⟨S256x1536, .bf16⟩
  | 97 => ⟨S1x1024, .f32⟩
  | 98 => ⟨S1x256, .f32⟩
  | 99 => ⟨S1x256, .f32⟩
  | 100 => ⟨S256x1024, .bf16⟩
  | 101 => ⟨S64, .f32⟩
  | 102 => ⟨S128, .f32⟩
  | 103 => ⟨S_, .f32⟩
  | 104 => ⟨S32, .f32⟩
  | 105 => ⟨S32, .f32⟩
  | 106 => ⟨S32, .f32⟩
  | 107 => ⟨S128, .f32⟩
  | 108 => ⟨S32, .f32⟩
  | 109 => ⟨S32, .f32⟩
  | 110 => ⟨S64, .f32⟩
  | 111 => ⟨S_, .f32⟩
  | 112 => ⟨S32, .f32⟩
  | 113 => ⟨S32, .f32⟩
  | 114 => ⟨S32, .f32⟩
  | 115 => ⟨S128, .f32⟩
  | 116 => ⟨S384, .f32⟩
  | 117 => ⟨S1x384, .f32⟩
  | 118 => ⟨S64, .f32⟩
  | 119 => ⟨S128, .f32⟩
  | 120 => ⟨S_, .f32⟩
  | 121 => ⟨S32, .f32⟩
  | 122 => ⟨S32, .f32⟩
  | 123 => ⟨S32, .f32⟩
  | 124 => ⟨S128, .f32⟩
  | 125 => ⟨S32, .f32⟩
  | 126 => ⟨S32, .f32⟩
  | 127 => ⟨S64, .f32⟩
  | _ => ⟨S8x8192x1024, .f32⟩

abbrev hbmTy0_1 (i : Nat) : BufTy := match i % 128 with
  | 0 => ⟨S_, .f32⟩
  | 1 => ⟨S32, .f32⟩
  | 2 => ⟨S32, .f32⟩
  | 3 => ⟨S32, .f32⟩
  | 4 => ⟨S128, .f32⟩
  | 5 => ⟨S384, .f32⟩
  | 6 => ⟨S1x384, .f32⟩
  | 7 => ⟨S_, .bf16⟩
  | 8 => ⟨S256x256, .bf16⟩
  | 9 => ⟨S4, .i32⟩
  | 10 => ⟨S4x1, .i32⟩
  | 11 => ⟨S4x128, .i32⟩
  | 12 => ⟨S512, .i32⟩
  | 13 => ⟨S512x1, .i32⟩
  | 14 => ⟨S1x512, .i32⟩
  | 15 => ⟨S512x512, .i32⟩
  | 16 => ⟨S512x512, .i32⟩
  | 17 => ⟨S512x512, .i1⟩
  | 18 => ⟨S512x512, .bf16⟩
  | 19 => ⟨S8x4x8192x256, .bf16⟩
  | 20 => ⟨S8x4x8192x256, .bf16⟩
  | 21 => ⟨S8x4x8192x128, .bf16⟩
  | 22 => ⟨S8x8192x896, .f32⟩
  | 23 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2688, .bf16⟩
  | .local _ .vmem, ⟨4, _⟩ => ⟨S1x256, .f32⟩
  | .local _ .vmem, ⟨5, _⟩ => ⟨S256x1536, .bf16⟩
  | .local _ .vmem, ⟨6, _⟩ => ⟨S1x256, .f32⟩
  | .local _ .vmem, ⟨7, _⟩ => ⟨S256x1024, .bf16⟩
  | .local _ .vmem, ⟨8, _⟩ => ⟨S1x384, .f32⟩
  | .local _ .vmem, ⟨9, _⟩ => ⟨S1x384, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S256x256, .bf16⟩
  | .local _ .vmem, ⟨15, _⟩ => ⟨S512x512, .bf16⟩
  | .local _ .vmem, ⟨16, _⟩ => ⟨S1x4x512x256, .bf16⟩
  | .local _ .vmem, ⟨17, _⟩ => ⟨S1x4x512x256, .bf16⟩
  | .local _ .vmem, ⟨18, _⟩ => ⟨S1x4x512x256, .bf16⟩
  | .local _ .vmem, ⟨19, _⟩ => ⟨S1x4x512x256, .bf16⟩
  | .local _ .vmem, ⟨20, _⟩ => ⟨S1x4x512x128, .bf16⟩
  | .local _ .vmem, ⟨21, _⟩ => ⟨S1x4x512x128, .bf16⟩
  | .local _ .vmem, ⟨22, _⟩ => ⟨S1x512x896, .f32⟩
  | .local _ .vmem, ⟨23, _⟩ => ⟨S1x512x896, .f32⟩
  | .local _ .vmem, ⟨24, _⟩ => ⟨S1x512x1024, .f32⟩
  | .local _ .vmem, ⟨25, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_7 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_8 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_9 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_10 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_11 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_12 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_13 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120_0 : Ref sig .tc := ⟨.hbm, 147, rfl⟩
abbrev main_v120_1 : Ref sig .tc := ⟨.hbm, 148, rfl⟩
abbrev main_v120_2 : Ref sig .tc := ⟨.hbm, 149, rfl⟩
abbrev main_v120_3 : Ref sig .tc := ⟨.hbm, 150, rfl⟩
abbrev main_v120_4 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x4x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x896 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Kernel4Ideal.lean ====
variable {F : FTy → Type} [FloatOps F] [Named F]
def κ : String → Option EReal := fun
  | "inv_qk" => some ((1 / 192 : ℝ) : EReal)
  | _ => none
-- ==== Reference4Ideal.lean ====
abbrev S8x8192x1024 : Shape := ⟨3, ![8, 8192, 1024]⟩
abbrev S8x8192 : Shape := ⟨2, ![8, 8192]⟩
abbrev S1024 : Shape := ⟨1, ![1024]⟩
abbrev S1024x2384 : Shape := ⟨2, ![1024, 2384]⟩
abbrev S256 : Shape := ⟨1, ![256]⟩
abbrev S256x768 : Shape := ⟨2, ![256, 768]⟩
abbrev S256x1024 : Shape := ⟨2, ![256, 1024]⟩
abbrev S192 : Shape := ⟨1, ![192]⟩
abbrev S32 : Shape := ⟨1, ![32]⟩
abbrev S_ : Shape := ⟨0, ![]⟩
abbrev S8x8192x1 : Shape := ⟨3, ![8, 8192, 1]⟩
abbrev S1x1x32 : Shape := ⟨3, ![1, 1, 32]⟩
abbrev S8x8192x32 : Shape := ⟨3, ![8, 8192, 32]⟩
abbrev S8x8192x1x32 : Shape := ⟨4, ![8, 8192, 1, 32]⟩
abbrev S1x1x1024 : Shape := ⟨3, ![1, 1, 1024]⟩
abbrev S8x8192x2384 : Shape := ⟨3, ![8, 8192, 2384]⟩
abbrev S8x8192x256 : Shape := ⟨3, ![8, 8192, 256]⟩
abbrev S8x8192x64 : Shape := ⟨3, ![8, 8192, 64]⟩
abbrev S8x8192x128 : Shape := ⟨3, ![8, 8192, 128]⟩
abbrev S8x8192x16 : Shape := ⟨3, ![8, 8192, 16]⟩
abbrev S1x1x256 : Shape := ⟨3, ![1, 1, 256]⟩
abbrev S8x8192x768 : Shape := ⟨3, ![8, 8192, 768]⟩
abbrev S8x8192x4x192 : Shape := ⟨4, ![8, 8192, 4, 192]⟩
abbrev S8x8192x4x256 : Shape := ⟨4, ![8, 8192, 4, 256]⟩
abbrev S8x8192x4x128 : Shape := ⟨4, ![8, 8192, 4, 128]⟩
abbrev S8x8192x1x64 : Shape := ⟨4, ![8, 8192, 1, 64]⟩
abbrev S8x8192x4x64 : Shape := ⟨4, ![8, 8192, 4, 64]⟩
abbrev S8x8192x4 : Shape := ⟨3, ![8, 8192, 4]⟩
abbrev S8x8192x4x1 : Shape := ⟨4, ![8, 8192, 4, 1]⟩
abbrev S1x1x1x192 : Shape := ⟨4, ![1, 1, 1, 192]⟩
abbrev S8x8192x4x32 : Shape := ⟨4, ![8, 8192, 4, 32]⟩
abbrev S8x8192x112 : Shape := ⟨3, ![8, 8192, 112]⟩
abbrev S8x8192x896 : Shape := ⟨3, ![8, 8192, 896]⟩
abbrev S8x8192x4x160 : Shape := ⟨4, ![8, 8192, 4, 160]⟩
abbrev S8x4x8192x256 : Shape := ⟨4, ![8, 4, 8192, 256]⟩
abbrev S8x4x8192x128 : Shape := ⟨4, ![8, 4, 8192, 128]⟩

abbrev nBuf : Space → Nat
  | .hbm => 189
  | .vmem => 0
  | .smem => 0
  | _ => 0

abbrev hbmTy0_0 (i : Nat) : BufTy := match i % 128 with
  | 0 => ⟨S8x8192x1024, .f32⟩
  | 1 => ⟨S8x8192, .i32⟩
  | 2 => ⟨S1024, .f32⟩
  | 3 => ⟨S1024x2384, .f32⟩
  | 4 => ⟨S256, .f32⟩
  | 5 => ⟨S256x768, .f32⟩
  | 6 => ⟨S256, .f32⟩
  | 7 => ⟨S256x1024, .f32⟩
  | 8 => ⟨S192, .f32⟩
  | 9 => ⟨S192, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S8x8192, .f32⟩
  | 25 => ⟨S8x8192x1, .f32⟩
  | 26 => ⟨S1x1x32, .f32⟩
  | 27 => ⟨S8x8192x32, .f32⟩
  | 28 => ⟨S8x8192x32, .f32⟩
  | 29 => ⟨S8x8192x32, .f32⟩
  | 30 => ⟨S8x8192x32, .f32⟩
  | 31 => ⟨S8x8192x1x32, .f32⟩
  | 32 => ⟨S8x8192x32, .f32⟩
  | 33 => ⟨S8x8192x1x32, .f32⟩
  | 34 => ⟨S8x8192x1024, .f32⟩
  | 35 => ⟨S_, .f32⟩
  | 36 => ⟨S8x8192, .f32⟩
  | 37 => ⟨S8x8192x1, .f32⟩
  | 38 => ⟨S_, .f32⟩
  | 39 => ⟨S8x8192x1, .f32⟩
  | 40 => ⟨S8x8192x1, .f32⟩
  | 41 => ⟨S_, .f32⟩
  | 42 => ⟨S8x8192x1, .f32⟩
  | 43 => ⟨S8x8192x1, .f32⟩
  | 44 => ⟨S8x8192x1, .f32⟩
  | 45 => ⟨S8x8192x1024, .f32⟩
  | 46 => ⟨S8x8192x1024, .f32⟩
  | 47 => ⟨S1x1x1024, .f32⟩
  | 48 => ⟨S8x8192x1024, .f32⟩
  | 49 => ⟨S8x8192x1024, .f32⟩
  | 50 => ⟨S8x8192x2384, .f32⟩
  | 51 => ⟨S8x8192x256, .f32⟩
  | 52 => ⟨S8x8192x256, .f32⟩
  | 53 => ⟨S8x8192x64, .f32⟩
  | 54 => ⟨S8x8192x128, .f32⟩
  | 55 => ⟨S8x8192x128, .f32⟩
  | 56 => ⟨S8x8192x256, .f32⟩
  | 57 => ⟨S8x8192x16, .f32⟩
  | 58 => ⟨S8x8192x256, .f32⟩
  | 59 => ⟨S8x8192x256, .f32⟩
  | 60 => ⟨S8x8192x256, .f32⟩
  | 61 => ⟨S8x8192x256, .f32⟩
  | 62 => ⟨S8x8192x256, .f32⟩
  | 63 => ⟨S8x8192x256, .f32⟩
  | 64 => ⟨S_, .f32⟩
  | 65 => ⟨S8x8192, .f32⟩
  | 66 => ⟨S8x8192x1, .f32⟩
  | 67 => ⟨S_, .f32⟩
  | 68 => ⟨S8x8192x1, .f32⟩
  | 69 => ⟨S8x8192x1, .f32⟩
  | 70 => ⟨S_, .f32⟩
  | 71 => ⟨S8x8192x1, .f32⟩
  | 72 => ⟨S8x8192x1, .f32⟩
  | 73 => ⟨S8x8192x1, .f32⟩
  | 74 => ⟨S8x8192x256, .f32⟩
  | 75 => ⟨S8x8192x256, .f32⟩
  | 76 => ⟨S1x1x256, .f32⟩
  | 77 => ⟨S8x8192x256, .f32⟩
  | 78 => ⟨S8x8192x256, .f32⟩
  | 79 => ⟨S8x8192x768, .f32⟩
  | 80 => ⟨S8x8192x4x192, .f32⟩
  | 81 => ⟨S8x8192x256, .f32⟩
  | 82 => ⟨S_, .f32⟩
  | 83 => ⟨S8x8192, .f32⟩
  | 84 => ⟨S8x8192x1, .f32⟩
  | 85 => ⟨S_, .f32⟩
  | 86 => ⟨S8x8192x1, .f32⟩
  | 87 => ⟨S8x8192x1, .f32⟩
  | 88 => ⟨S_, .f32⟩
  | 89 => ⟨S8x8192x1, .f32⟩
  | 90 => ⟨S8x8192x1, .f32⟩
  | 91 => ⟨S8x8192x1, .f32⟩
  | 92 => ⟨S8x8192x256, .f32⟩
  | 93 => ⟨S8x8192x256, .f32⟩
  | 94 => ⟨S1x1x256, .f32⟩
  | 95 => ⟨S8x8192x256, .f32⟩
  | 96 => ⟨S8x8192x256, .f32⟩
  | 97 => ⟨S8x8192x1024, .f32⟩
  | 98 => ⟨S8x8192x4x256, .f32⟩
  | 99 => ⟨S8x8192x4x128, .f32⟩
  | 100 => ⟨S8x8192x4x128, .f32⟩
  | 101 => ⟨S8x8192x1x64, .f32⟩
  | 102 => ⟨S8x8192x4x64, .f32⟩
  | 103 => ⟨S8x8192x4x192, .f32⟩
  | 104 => ⟨S8x8192x4x192, .f32⟩
  | 105 => ⟨S_, .f32⟩
  | 106 => ⟨S8x8192x4, .f32⟩
  | 107 => ⟨S8x8192x4x1, .f32⟩
  | 108 => ⟨S_, .f32⟩
  | 109 => ⟨S8x8192x4x1, .f32⟩
  | 110 => ⟨S8x8192x4x1, .f32⟩
  | 111 => ⟨S_, .f32⟩
  | 112 => ⟨S8x8192x4x1, .f32⟩
  | 113 => ⟨S8x8192x4x1, .f32⟩
  | 114 => ⟨S8x8192x4x1, .f32⟩
  | 115 => ⟨S8x8192x4x192, .f32⟩
  | 116 => ⟨S8x8192x4x192, .f32⟩
  | 117 => ⟨S1x1x1x192, .f32⟩
  | 118 => ⟨S8x8192x4x192, .f32⟩
  | 119 => ⟨S8x8192x4x192, .f32⟩
  | 120 => ⟨S8x8192x4x192, .f32⟩
  | 121 => ⟨S_, .f32⟩
  | 122 => ⟨S8x8192x4, .f32⟩
  | 123 => ⟨S8x8192x4x1, .f32⟩
  | 124 => ⟨S_, .f32⟩
  | 125 => ⟨S8x8192x4x1, .f32⟩
  | 126 => ⟨S8x8192x4x1, .f32⟩
  | 127 => ⟨S_, .f32⟩
  | _ => ⟨S8x8192x1024, .f32⟩

abbrev hbmTy0_1 (i : Nat) : BufTy := match i % 128 with
  | 0 => ⟨S8x8192x4x1, .f32⟩
  | 1 => ⟨S8x8192x4x1, .f32⟩
  | 2 => ⟨S8x8192x4x1, .f32⟩
  | 3 => ⟨S8x8192x4x192, .f32⟩
  | 4 => ⟨S8x8192x4x192, .f32⟩
  | 5 => ⟨S1x1x1x192, .f32⟩
  | 6 => ⟨S8x8192x4x192, .f32⟩
  | 7 => ⟨S8x8192x4x192, .f32⟩
  | 8 => ⟨S8x8192x4x128, .f32⟩
  | 9 => ⟨S8x8192x4x64, .f32⟩
  | 10 => ⟨S8x8192x4x32, .f32⟩
  | 11 => ⟨S8x8192x4x32, .f32⟩
  | 12 => ⟨S8x8192x4x32, .f32⟩
  | 13 => ⟨S8x8192x4x32, .f32⟩
  | 14 => ⟨S8x8192x4x32, .f32⟩
  | 15 => ⟨S8x8192x4x32, .f32⟩
  | 16 => ⟨S8x8192x4x32, .f32⟩
  | 17 => ⟨S8x8192x4x32, .f32⟩
  | 18 => ⟨S8x8192x4x32, .f32⟩
  | 19 => ⟨S8x8192x4x32, .f32⟩
  | 20 => ⟨S8x8192x4x32, .f32⟩
  | 21 => ⟨S8x8192x4x32, .f32⟩
  | 22 => ⟨S8x8192x4x64, .f32⟩
  | 23 => ⟨S8x8192x4x192, .f32⟩
  | 24 => ⟨S8x8192x4x128, .f32⟩
  | 25 => ⟨S8x8192x4x64, .f32⟩
  | 26 => ⟨S8x8192x4x32, .f32⟩
  | 27 => ⟨S8x8192x4x32, .f32⟩
  | 28 => ⟨S8x8192x4x32, .f32⟩
  | 29 => ⟨S8x8192x4x32, .f32⟩
  | 30 => ⟨S8x8192x4x32, .f32⟩
  | 31 => ⟨S8x8192x4x32, .f32⟩
  | 32 => ⟨S8x8192x4x32, .f32⟩
  | 33 => ⟨S8x8192x4x32, .f32⟩
  | 34 => ⟨S8x8192x4x32, .f32⟩
  | 35 => ⟨S8x8192x4x32, .f32⟩
  | 36 => ⟨S8x8192x4x32, .f32⟩
  | 37 => ⟨S8x8192x4x32, .f32⟩
  | 38 => ⟨S8x8192x4x64, .f32⟩
  | 39 => ⟨S8x8192x4x192, .f32⟩
  | 40 => ⟨S_, .f32⟩
  | 41 => ⟨S8x8192x4x192, .f32⟩
  | 42 => ⟨S8x8192x4x192, .f32⟩
  | 43 => ⟨S_, .f32⟩
  | 44 => ⟨S8x8192x4x32, .f32⟩
  | 45 => ⟨S_, .f32⟩
  | 46 => ⟨S8x8192x112, .f32⟩
  | 47 => ⟨S8x8192x896, .f32⟩
  | 48 => ⟨S8x8192x1024, .f32⟩
  | 49 => ⟨S8x8192x4x160, .f32⟩
  | 50 => ⟨S8x8192x4x32, .f32⟩
  | 51 => ⟨S8x8192x4x256, .f32⟩
  | 52 => ⟨S8x4x8192x256, .f32⟩
  | 53 => ⟨S8x4x8192x256, .bf16⟩
  | 54 => ⟨S8x8192x4x160, .f32⟩
  | 55 => ⟨S8x8192x4x32, .f32⟩
  | 56 => ⟨S8x8192x4x256, .f32⟩
  | 57 => ⟨S8x4x8192x256, .f32⟩
  | 58 => ⟨S8x4x8192x256, .bf16⟩
  | 59 => ⟨S8x4x8192x128, .f32⟩
  | 60 => ⟨S8x4x8192x128, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_12 : Ref sig .tc := ⟨.hbm, 105, rfl⟩
abbrev main_v82 : Ref sig .tc := ⟨.hbm, 106, rfl⟩
abbrev main_v83 : Ref sig .tc := ⟨.hbm, 107, rfl⟩
abbrev main_cst_13 : Ref sig .tc := ⟨.hbm, 108, rfl⟩
abbrev main_v84 : Ref sig .tc := ⟨.hbm, 109, rfl⟩
abbrev main_v85 : Ref sig .tc := ⟨.hbm, 110, rfl⟩
abbrev main_cst_14 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_15 : Ref sig .tc := ⟨.hbm, 121, rfl⟩
abbrev main_v95 : Ref sig .tc := ⟨.hbm, 122, rfl⟩
abbrev main_v96 : Ref sig .tc := ⟨.hbm, 123, rfl⟩
abbrev main_cst_16 : Ref sig .tc := ⟨.hbm, 124, rfl⟩
abbrev main_v97 : Ref sig .tc := ⟨.hbm, 125, rfl⟩
abbrev main_v98 : Ref sig .tc := ⟨.hbm, 126, rfl⟩
abbrev main_cst_17 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_cst_18 : Ref sig .tc := ⟨.hbm, 168, rfl⟩
abbrev main_v139 : Ref sig .tc := ⟨.hbm, 169, rfl⟩
abbrev main_v140 : Ref sig .tc := ⟨.hbm, 170, rfl⟩
abbrev main_cst_19 : Ref sig .tc := ⟨.hbm, 171, rfl⟩
abbrev main_v141 : Ref sig .tc := ⟨.hbm, 172, rfl⟩
abbrev main_cst_20 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩

abbrev nD : Nat := 1
abbrev τ : Topo := Topo.v7x

variable {F : FTy → Type} [FloatOps F]
-- ==== Proof.Steps.lean ====
/-
  The attention kernel's body, read as what it is: two halves of a pair of query blocks are set up,
  then seventeen key tiles are visited, each by the same update of the running maximum, the running
  sum and the running weighted sum, and last the weighted sum is divided by the sum. The scores of
  a tile are formed one visit before they are used. `body_eq` says that the printed function is
  this program.
-/
module

public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL.Sem
open Facts₀ Facts

variable {F : FTy → Type} [FloatOps F] [Named F]

/-! ## The pure values -/

/-- A coordinate divided by 64, rounded down, as the kernel spells it. -/
def chunkOf (x : IVec S512x512 32) : IVec S512x512 32 :=
  select (andi (cmpi .ne (subi (extui 32 (cmpi .sgt x (broadcast S512x512 0#32)) natLt_1_32) (extui 32 (cmpi .slt x (broadcast S512x512 0#32)) natLt_1_32))
        (broadcast S512x512 (Scalar.subi (Scalar.extui (Scalar.cmpi .sgt 64#32 0#32)) (Scalar.extui (Scalar.cmpi .slt 64#32 0#32)) : BitVec 32)))
      (cmpi .ne (remsi x (broadcast S512x512 64#32)) (broadcast S512x512 0#32)))
    (subi (divsi x (broadcast S512x512 64#32)) (broadcast S512x512 1#32)) (divsi x (broadcast S512x512 64#32))

/-- Where a diagonal tile is kept: the key's chunk is not past the query's. -/
def diagMask : IVec S512x512 1 :=
  cmpi .sle (chunkOf (iota .tc S512x512 32 [1] iota_S512x512_d1_w32)) (chunkOf (iota .tc S512x512 32 [0] iota_S512x512_d0_w32))

/-- The scores of a diagonal tile: the mask's value past the diagonal. -/
def masked (s : FVec F S512x512 .f32) : FVec F S512x512 .f32 :=
  select diagMask s (broadcast S512x512 (Named.named κ "mask" 0xF149F2CA#32))

/-- Queries against one tile of keys. -/
def scoresOf (q : Vec F S512x256 .bf16) (k : Vec F S1x1x512x256 .bf16) : FVec F S512x512 .f32 :=
  matmul dot_S512x256_S512x256_S512x512_1_1_0_0_n_n none q (shapeCast S512x256 k shapeCasts_S1x1x512x256_S512x256) (constant S512x512 .f32 0x00000000#32)

/-- The running maximum after a tile. -/
def newMax (m : Vec F S512x128 .f32) (s : FVec F S512x512 .f32) : FVec F S512x128 .f32 :=
  maximumf m (broadcastTo S512x128 (shapeCast S512x1 (multiReduction .maximumf [1] S512 s 0xFF800000#32 reduces_S512x512_S512 (.inl rfl) rfl) shapeCasts_S512_S512x1) broadcasts_S512x1_S512x128)

/-- The factor that brings the sums so far to the new maximum. -/
def alpha (m : Vec F S512x128 .f32) (s : FVec F S512x512 .f32) : FVec F S512x128 .f32 := exp2 (subf m (newMax m s))

/-- The weights of a tile at the new maximum. -/
def weights (m : Vec F S512x128 .f32) (s : FVec F S512x512 .f32) : FVec F S512x512 .f32 :=
  exp2 (subf s (concatenate S512x512 1 [⟨S512x128, newMax m s⟩, ⟨S512x128, newMax m s⟩, ⟨S512x128, newMax m s⟩, ⟨S512x128, newMax m s⟩] concatenates_S512x128_S512x128_S512x128_S512x128_S512x512_d1))

/-- The running sum after a tile. -/
def newSum (m l : Vec F S512x128 .f32) (s : FVec F S512x512 .f32) : FVec F S512x128 .f32 :=
  addf (mulf (alpha m s) l) (broadcastTo S512x128 (shapeCast S512x1 (multiReduction .add [1] S512 (weights m s) 0x00000000#32 reduces_S512x512_S512 (.inl rfl) rfl) shapeCasts_S512_S512x1) broadcasts_S512x1_S512x128)

/-- The running weighted sum after a tile. -/
def newAcc (m a : Vec F S512x128 .f32) (s : FVec F S512x512 .f32) (v : Vec F S1x1x512x128 .bf16) : FVec F S512x128 .f32 :=
  addf (mulf (alpha m s) a) (matmul dot_S512x512_S512x128_S512x128_1_0_0_1_n_n none (truncf .bf16 (weights m s) bitsLt_bf16_f32) (shapeCast S512x128 v shapeCasts_S1x1x512x128_S512x128) (constant S512x128 .f32 0x00000000#32))

/-- What is stored: the weighted sums over the sums. -/
def quotient (a l : Vec F S1024x128 .f32) : FVec F S1024x128 .bf16 := truncf .bf16 (divf a l) bitsLt_bf16_f32

/-! ## The program, step by step -/

variable [Facts]
variable (arg3 : Memref sig .tc .vmem S1x1x512x256 .bf16) (arg4 : Memref sig .tc .vmem S1x1x512x256 .bf16) (arg5 : Memref sig .tc .vmem S1x1x8192x256 .bf16)
  (arg6 : Memref sig .tc .vmem S1x1x8192x128 .bf16) (arg7 : Memref sig .tc .vmem S1x2x1x512x128 .bf16) (harg7 : arg7.IsWhole)
  (arg8 : Memref sig .tc .vmem S1024x256 .bf16) (harg8 : arg8.IsWhole) (arg9 arg10 arg11 : Memref sig .tc .vmem S1024x128 .f32)
  (arg12 arg13 : Memref sig .tc .vmem S512x512 .f32)

/-- The queries' two blocks side by side, the maximum at the mask's value, both sums at zero. -/
def setup : Prog (TpuEff nD τ sig (Elt F) Λ₀ .tc) PUnit := do
  let v0 : Vec F S1x1x512x256 .bf16 ← Prog.lift (.load arg3 (Rect.unit (s := S1x1x512x256) ![0, 0, 0, 0] S1x1x512x256.size inb_S1x1x512x256_S1x1x512x256_0_0_0_0).toLoadRect (View.loadsAt_vmem h_S1x1x512x256))
  let _ : Vec F S512x256 .bf16 ← Prog.lift (.load arg8 (Rect.unit (s := S1024x256) ![0, 0] S512x256.size inb_S1024x256_S512x256_0_0).toLoadRect (View.loadsAt_vmem h_S512x256))
  Prog.lift (.store arg8 (Rect.unit (s := S1024x256) ![0, 0] S512x256.size inb_S1024x256_S512x256_0_0) (shapeCast S512x256 (shapeCast S512x256 v0 shapeCasts_S1x1x512x256_S512x256 : FVec F S512x256 .bf16) shapeCasts_S512x256_S512x256 : FVec F S512x256 .bf16) Finset.univ (View.stores_vmem h_S512x256 (harg8.storeExact_slice rfl _ packedbf16_S1024x256_S512x256_0_0) (fun _ => rfl)) (.inl rfl))
  let v5 : Vec F S1x1x512x256 .bf16 ← Prog.lift (.load arg4 (Rect.unit (s := S1x1x512x256) ![0, 0, 0, 0] S1x1x512x256.size inb_S1x1x512x256_S1x1x512x256_0_0_0_0).toLoadRect (View.loadsAt_vmem h_S1x1x512x256))
  let _ : Vec F S512x256 .bf16 ← Prog.lift (.load arg8 (Rect.unit (s := S1024x256) ![512, 0] S512x256.size inb_S1024x256_S512x256_512_0).toLoadRect (View.loadsAt_vmem h_S512x256))
  Prog.lift (.store arg8 (Rect.unit (s := S1024x256) ![512, 0] S512x256.size inb_S1024x256_S512x256_512_0) (shapeCast S512x256 (shapeCast S512x256 v5 shapeCasts_S1x1x512x256_S512x256 : FVec F S512x256 .bf16) shapeCasts_S512x256_S512x256 : FVec F S512x256 .bf16) Finset.univ (View.stores_vmem h_S512x256 (harg8.storeExact_slice rfl _ packedbf16_S1024x256_S512x256_512_0) (fun _ => rfl)) (.inl rfl))
  let _ : Vec F S1024x128 .f32 ← Prog.lift (.load arg9 (Rect.unit (s := S1024x128) ![0, 0] S1024x128.size inb_S1024x128_S1024x128_0_0).toLoadRect (View.loadsAt_vmem h_S1024x128))
  Prog.lift (.store arg9 (Rect.unit (s := S1024x128) ![0, 0] S1024x128.size inb_S1024x128_S1024x128_0_0) (shapeCast S1024x128 (broadcast S1024x128 (Named.named κ "mask" 0xF149F2CA#32) : FVec F S1024x128 .f32) shapeCasts_S1024x128_S1024x128 : FVec F S1024x128 .f32) Finset.univ (View.stores_vmem_bits_univ h_S1024x128 rfl) (.inl rfl))
  let _ : Vec F S1024x128 .f32 ← Prog.lift (.load arg10 (Rect.unit (s := S1024x128) ![0, 0] S1024x128.size inb_S1024x128_S1024x128_0_0).toLoadRect (View.loadsAt_vmem h_S1024x128))
  Prog.lift (.store arg10 (Rect.unit (s := S1024x128) ![0, 0] S1024x128.size inb_S1024x128_S1024x128_0_0) (shapeCast S1024x128 (broadcast S1024x128 (Scalar.ofBits .f32 0x00000000#32) : FVec F S1024x128 .f32) shapeCasts_S1024x128_S1024x128 : FVec F S1024x128 .f32) Finset.univ (View.stores_vmem_bits_univ h_S1024x128 rfl) (.inl rfl))
  let _ : Vec F S1024x128 .f32 ← Prog.lift (.load arg11 (Rect.unit (s := S1024x128) ![0, 0] S1024x128.size inb_S1024x128_S1024x128_0_0).toLoadRect (View.loadsAt_vmem h_S1024x128))
  Prog.lift (.store arg11 (Rect.unit (s := S1024x128) ![0, 0] S1024x128.size inb_S1024x128_S1024x128_0_0) (shapeCast S1024x128 (broadcast S1024x128 (Scalar.ofBits .f32 0x00000000#32) : FVec F S1024x128 .f32) shapeCasts_S1024x128_S1024x128 : FVec F S1024x128 .f32) Finset.univ (View.stores_vmem_bits_univ h_S1024x128 rfl) (.inl rfl))

/-- The scores of one tile, left in a buffer. -/
def scores (buf : Memref sig .tc .vmem S512x512 .f32) (oq : Fin 2 → ℕ) (hq : ∀ a, oq a + S512x256.size a ≤ S1024x256.size a)
    (ok : Fin 4 → ℕ) (hk : ∀ a, ok a + S1x1x512x256.size a ≤ S1x1x8192x256.size a) : Prog (TpuEff nD τ sig (Elt F) Λ₀ .tc) PUnit := do
  let q : Vec F S512x256 .bf16 ← Prog.lift (.load arg8 (Rect.unit (s := S1024x256) oq S512x256.size hq).toLoadRect (View.loadsAt_vmem h_S512x256))
  let k : Vec F S1x1x512x256 .bf16 ← Prog.lift (.load arg5 (Rect.unit (s := S1x1x8192x256) ok S1x1x512x256.size hk).toLoadRect (View.loadsAt_vmem h_S1x1x512x256))
  let _ : Vec F S512x512 .f32 ← Prog.lift (.load buf (Rect.unit (s := S512x512) ![0, 0] S512x512.size inb_S512x512_S512x512_0_0).toLoadRect (View.loadsAt_vmem h_S512x512))
  Prog.lift (.store buf (Rect.unit (s := S512x512) ![0, 0] S512x512.size inb_S512x512_S512x512_0_0) (shapeCast S512x512 (scoresOf q k) shapeCasts_S512x512_S512x512 : FVec F S512x512 .f32) Finset.univ (View.stores_vmem_bits_univ h_S512x512 rfl) (.inl rfl))

/-- One tile taken into the running maximum and sums of the rows at `o`: the scores read from `buf` through `f`, the values at `ov`. -/
def update (buf : Memref sig .tc .vmem S512x512 .f32) (f : FVec F S512x512 .f32 → FVec F S512x512 .f32)
    (o : Fin 2 → ℕ) (ho : ∀ a, o a + S512x128.size a ≤ S1024x128.size a)
    (ov : Fin 4 → ℕ) (hv : ∀ a, ov a + S1x1x512x128.size a ≤ S1x1x8192x128.size a) : Prog (TpuEff nD τ sig (Elt F) Λ₀ .tc) PUnit := do
  let s : Vec F S512x512 .f32 ← Prog.lift (.load buf (Rect.unit (s := S512x512) ![0, 0] S512x512.size inb_S512x512_S512x512_0_0).toLoadRect (View.loadsAt_vmem h_S512x512))
  let m : Vec F S512x128 .f32 ← Prog.lift (.load arg9 (Rect.unit (s := S1024x128) o S512x128.size ho).toLoadRect (View.loadsAt_vmem h_S512x128))
  let l : Vec F S512x128 .f32 ← Prog.lift (.load arg10 (Rect.unit (s := S1024x128) o S512x128.size ho).toLoadRect (View.loadsAt_vmem h_S512x128))
  let _ : Vec F S512x128 .f32 ← Prog.lift (.load arg10 (Rect.unit (s := S1024x128) o S512x128.size ho).toLoadRect (View.loadsAt_vmem h_S512x128))
  Prog.lift (.store arg10 (Rect.unit (s := S1024x128) o S512x128.size ho) (shapeCast S512x128 (newSum m l (f s)) shapeCasts_S512x128_S512x128 : FVec F S512x128 .f32) Finset.univ (View.stores_vmem_bits_univ h_S512x128 rfl) (.inl rfl))
  let v : Vec F S1x1x512x128 .bf16 ← Prog.lift (.load arg6 (Rect.unit (s := S1x1x8192x128) ov S1x1x512x128.size hv).toLoadRect (View.loadsAt_vmem h_S1x1x512x128))
  let a : Vec F S512x128 .f32 ← Prog.lift (.load arg11 (Rect.unit (s := S1024x128) o S512x128.size ho).toLoadRect (View.loadsAt_vmem h_S512x128))
  let _ : Vec F S512x128 .f32 ← Prog.lift (.load arg11 (Rect.unit (s := S1024x128) o S512x128.size ho).toLoadRect (View.loadsAt_vmem h_S512x128))
  Prog.lift (.store arg11 (Rect.unit (s := S1024x128) o S512x128.size ho) (shapeCast S512x128 (newAcc m a (f s) v) shapeCasts_S512x128_S512x128 : FVec F S512x128 .f32) Finset.univ (View.stores_vmem_bits_univ h_S512x128 rfl) (.inl rfl))
  let _ : Vec F S512x128 .f32 ← Prog.lift (.load arg9 (Rect.unit (s := S1024x128) o S512x128.size ho).toLoadRect (View.loadsAt_vmem h_S512x128))
  Prog.lift (.store arg9 (Rect.unit (s := S1024x128) o S512x128.size ho) (shapeCast S512x128 (newMax m (f s)) shapeCasts_S512x128_S512x128 : FVec F S512x128 .f32) Finset.univ (View.stores_vmem_bits_univ h_S512x128 rfl) (.inl rfl))

/-- The division, and the two blocks stored. -/
def finish : Prog (TpuEff nD τ sig (Elt F) Λ₀ .tc) PUnit := do
  let a : Vec F S1024x128 .f32 ← Prog.lift (.load arg11 (Rect.unit (s := S1024x128) ![0, 0] S1024x128.size inb_S1024x128_S1024x128_0_0).toLoadRect (View.loadsAt_vmem h_S1024x128))
  let l : Vec F S1024x128 .f32 ← Prog.lift (.load arg10 (Rect.unit (s := S1024x128) ![0, 0] S1024x128.size inb_S1024x128_S1024x128_0_0).toLoadRect (View.loadsAt_vmem h_S1024x128))
  let _ : Vec F S1x1x1x512x128 .bf16 ← Prog.lift (.load arg7 (Rect.unit (s := S1x2x1x512x128) ![0, 0, 0, 0, 0] S1x1x1x512x128.size inb_S1x2x1x512x128_S1x1x1x512x128_0_0_0_0_0).toLoadRect (View.loadsAt_vmem h_S1x1x1x512x128))
  Prog.lift (.store arg7 (Rect.unit (s := S1x2x1x512x128) ![0, 0, 0, 0, 0] S1x1x1x512x128.size inb_S1x2x1x512x128_S1x1x1x512x128_0_0_0_0_0) (shapeCast S1x1x1x512x128 (extractStridedSlice S512x128 ![0, 0] (quotient a l) slices_S1024x128_o0_0_S512x128 : FVec F S512x128 .bf16) shapeCasts_S512x128_S1x1x1x512x128 : FVec F S1x1x1x512x128 .bf16) Finset.univ (View.stores_vmem h_S1x1x1x512x128 (harg7.storeExact_slice rfl _ packedbf16_S1x2x1x512x128_S1x1x1x512x128_0_0_0_0_0) (fun _ => rfl)) (.inl rfl))
  let _ : Vec F S1x1x1x512x128 .bf16 ← Prog.lift (.load arg7 (Rect.unit (s := S1x2x1x512x128) ![0, 1, 0, 0, 0] S1x1x1x512x128.size inb_S1x2x1x512x128_S1x1x1x512x128_0_1_0_0_0).toLoadRect (View.loadsAt_vmem h_S1x1x1x512x128))
  Prog.lift (.store arg7 (Rect.unit (s := S1x2x1x512x128) ![0, 1, 0, 0, 0] S1x1x1x512x128.size inb_S1x2x1x512x128_S1x1x1x512x128_0_1_0_0_0) (shapeCast S1x1x1x512x128 (extractStridedSlice S512x128 ![512, 0] (quotient a l) slices_S1024x128_o512_0_S512x128 : FVec F S512x128 .bf16) shapeCasts_S512x128_S1x1x1x512x128 : FVec F S1x1x1x512x128 .bf16) Finset.univ (View.stores_vmem h_S1x1x1x512x128 (harg7.storeExact_slice rfl _ packedbf16_S1x2x1x512x128_S1x1x1x512x128_0_1_0_0_0) (fun _ => rfl)) (.inl rfl))

/-- The whole body. The first seven visits choose their half by the grid's coordinate, the next eight are of the second half, the last two are the diagonals. -/
def body (i : grid0.Coords) : Prog (TpuEff nD τ sig (Elt F) Λ₀ .tc) PUnit := do
  setup arg3 arg4 arg8 harg8 arg9 arg10 arg11
  scores arg5 arg8 arg12 (k0_off1 i 0#32) (k0_off1_inb i 0) (k0_off2 i 0#32 0#32) (k0_off2_inb i 0)
  scores arg5 arg8 arg13 (k0_off1 i 1#32) (k0_off1_inb i 1) (k0_off2 i 1#32 1#32) (k0_off2_inb i 1)
  update arg6 arg9 arg10 arg11 arg12 id (k0_off3 i 0#32) (k0_off3_inb i 0) (k0_off4 i 0#32 0#32) (k0_off4_inb i 0)
  scores arg5 arg8 arg12 (k0_off1 i 2#32) (k0_off1_inb i 2) (k0_off2 i 2#32 2#32) (k0_off2_inb i 2)
  update arg6 arg9 arg10 arg11 arg13 id (k0_off3 i 1#32) (k0_off3_inb i 1) (k0_off4 i 1#32 1#32) (k0_off4_inb i 1)
  scores arg5 arg8 arg13 (k0_off1 i 3#32) (k0_off1_inb i 3) (k0_off2 i 3#32 3#32) (k0_off2_inb i 3)
  update arg6 arg9 arg10 arg11 arg12 id (k0_off3 i 2#32) (k0_off3_inb i 2) (k0_off4 i 2#32 2#32) (k0_off4_inb i 2)
  scores arg5 arg8 arg12 (k0_off1 i 4#32) (k0_off1_inb i 4) (k0_off2 i 4#32 4#32) (k0_off2_inb i 4)
  update arg6 arg9 arg10 arg11 arg13 id (k0_off3 i 3#32) (k0_off3_inb i 3) (k0_off4 i 3#32 3#32) (k0_off4_inb i 3)
  scores arg5 arg8 arg13 (k0_off1 i 5#32) (k0_off1_inb i 5) (k0_off2 i 5#32 5#32) (k0_off2_inb i 5)
  update arg6 arg9 arg10 arg11 arg12 id (k0_off3 i 4#32) (k0_off3_inb i 4) (k0_off4 i 4#32 4#32) (k0_off4_inb i 4)
  scores arg5 arg8 arg12 (k0_off1 i 6#32) (k0_off1_inb i 6) (k0_off2 i 6#32 6#32) (k0_off2_inb i 6)
  update arg6 arg9 arg10 arg11 arg13 id (k0_off3 i 5#32) (k0_off3_inb i 5) (k0_off4 i 5#32 5#32) (k0_off4_inb i 5)
  scores arg5 arg8 arg13 ![512, 0] inb_S1024x256_S512x256_512_0 (k0_off5 i 7#32) (k0_off5_inb i 0)
  update arg6 arg9 arg10 arg11 arg12 id (k0_off3 i 6#32) (k0_off3_inb i 6) (k0_off4 i 6#32 6#32) (k0_off4_inb i 6)
  scores arg5 arg8 arg12 ![512, 0] inb_S1024x256_S512x256_512_0 (k0_off5 i 8#32) (k0_off5_inb i 1)
  update arg6 arg9 arg10 arg11 arg13 id ![512, 0] inb_S1024x128_S512x128_512_0 (k0_off6 i 7#32) (k0_off6_inb i 0)
  scores arg5 arg8 arg13 ![512, 0] inb_S1024x256_S512x256_512_0 (k0_off5 i 9#32) (k0_off5_inb i 2)
  update arg6 arg9 arg10 arg11 arg12 id ![512, 0] inb_S1024x128_S512x128_512_0 (k0_off6 i 8#32) (k0_off6_inb i 1)
  scores arg5 arg8 arg12 ![512, 0] inb_S1024x256_S512x256_512_0 (k0_off5 i 10#32) (k0_off5_inb i 3)
  update arg6 arg9 arg10 arg11 arg13 id ![512, 0] inb_S1024x128_S512x128_512_0 (k0_off6 i 9#32) (k0_off6_inb i 2)
  scores arg5 arg8 arg13 ![512, 0] inb_S1024x256_S512x256_512_0 (k0_off5 i 11#32) (k0_off5_inb i 4)
  update arg6 arg9 arg10 arg11 arg12 id ![512, 0] inb_S1024x128_S512x128_512_0 (k0_off6 i 10#32) (k0_off6_inb i 3)
  scores arg5 arg8 arg12 ![512, 0] inb_S1024x256_S512x256_512_0 (k0_off5 i 12#32) (k0_off5_inb i 5)
  update arg6 arg9 arg10 arg11 arg13 id ![512, 0] inb_S1024x128_S512x128_512_0 (k0_off6 i 11#32) (k0_off6_inb i 4)
  scores arg5 arg8 arg13 ![512, 0] inb_S1024x256_S512x256_512_0 (k0_off5 i 13#32) (k0_off5_inb i 6)
  update arg6 arg9 arg10 arg11 arg12 id ![512, 0] inb_S1024x128_S512x128_512_0 (k0_off6 i 12#32) (k0_off6_inb i 5)
  scores arg5 arg8 arg12 ![512, 0] inb_S1024x256_S512x256_512_0 (k0_off5 i 14#32) (k0_off5_inb i 7)
  update arg6 arg9 arg10 arg11 arg13 id ![512, 0] inb_S1024x128_S512x128_512_0 (k0_off6 i 13#32) (k0_off6_inb i 6)
  scores arg5 arg8 arg13 ![0, 0] inb_S1024x256_S512x256_0_0 (k0_off7 i) (k0_off7_inb i)
  update arg6 arg9 arg10 arg11 arg12 id ![512, 0] inb_S1024x128_S512x128_512_0 (k0_off6 i 14#32) (k0_off6_inb i 7)
  scores arg5 arg8 arg12 ![512, 0] inb_S1024x256_S512x256_512_0 (k0_off5 i 15#32) (k0_off5_inb i 8)
  update arg6 arg9 arg10 arg11 arg13 masked ![0, 0] inb_S1024x128_S512x128_0_0 (k0_off8 i) (k0_off8_inb i)
  update arg6 arg9 arg10 arg11 arg12 masked ![512, 0] inb_S1024x128_S512x128_512_0 (k0_off6 i 15#32) (k0_off6_inb i 8)
  finish arg7 harg7 arg10 arg11

/-- The printed function is this program. -/
theorem body_eq (i : grid0.Coords) (harg3 : arg3.IsWhole) (harg4 : arg4.IsWhole) (harg5 : arg5.IsWhole) (harg6 : arg6.IsWhole)
    (harg9 : arg9.IsWhole) (harg10 : arg10.IsWhole) (harg11 : arg11.IsWhole) (harg12 : arg12.IsWhole) (harg13 : arg13.IsWhole) :
    cc0_mla_attn (F := F) i arg3 harg3 arg4 harg4 arg5 harg5 arg6 harg6 arg7 harg7 arg8 harg8 arg9 harg9 arg10 harg10 arg11 harg11 arg12 harg12 arg13 harg13
      = body arg3 arg4 arg5 arg6 arg7 harg7 arg8 harg8 arg9 arg10 arg11 arg12 arg13 i := by
  chain_rfl

end Cert.KernelIdeal.Attn

end
-- ==== Proof.Triples.lean ====
/-
  What each step of the attention kernel's body does to the buffers it holds.
-/
module

public import proofs.«01_k».proof.Proof.Steps
public import Idealize.ShloMosaic.Lib.VecWindow
public import Idealize.ShloMosaic.Lib.WritesUnit
public import Idealize.ShloMosaic.Lib.Pipeline.Value
public import Idealize.ShloMosaic.Lib.Pointwise.Index

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Facts₀ Facts

variable {F : FTy → Type} [FloatOps F] [Named F]

local notation "𝕄" => MT nD τ sig Unit (Elt F) ℕ (UR sig nD τ) ℕ

variable [Facts] (c : Dev nD)
variable (arg3 : Memref sig .tc .vmem S1x1x512x256 .bf16) (arg4 : Memref sig .tc .vmem S1x1x512x256 .bf16) (arg5 : Memref sig .tc .vmem S1x1x8192x256 .bf16)
  (arg6 : Memref sig .tc .vmem S1x1x8192x128 .bf16) (arg7 : Memref sig .tc .vmem S1x2x1x512x128 .bf16) (harg7 : arg7.IsWhole)
  (arg8 : Memref sig .tc .vmem S1024x256 .bf16) (harg8 : arg8.IsWhole) (arg9 arg10 arg11 : Memref sig .tc .vmem S1024x128 .f32)
  (arg12 arg13 : Memref sig .tc .vmem S512x512 .f32)

/-- The two query blocks one under the other. -/
def queries (Y0 Y1 : Vec F S1x1x512x256 .bf16) : Vec F S1024x256 .bf16 := fun y =>
  if h : (y (0 : Fin 2)).val < 512 then shapeCast S512x256 Y0 shapeCasts_S1x1x512x256_S512x256 (ix2 (⟨(y (0 : Fin 2)).val, h⟩ : Fin 512) (y (1 : Fin 2) : Fin 256))
  else shapeCast S512x256 Y1 shapeCasts_S1x1x512x256_S512x256
    (ix2 (⟨(y (0 : Fin 2)).val - 512, by have : (y (0 : Fin 2)).val < 1024 := (y (0 : Fin 2)).isLt; omega⟩ : Fin 512) (y (1 : Fin 2) : Fin 256))

/-- The output block: the quotient's upper and lower halves, at the block's second coordinate. -/
def outBlock (L A : Vec F S1024x128 .f32) : Vec F S1x2x1x512x128 .bf16 := fun y =>
  quotient A L (ix2 (⟨512 * (y (1 : Fin 5)).val + (y (3 : Fin 5)).val, by
    have : (y (1 : Fin 5)).val < 2 := (y (1 : Fin 5)).isLt
    have : (y (3 : Fin 5)).val < 512 := (y (3 : Fin 5)).isLt
    omega⟩ : Fin 1024) (y (4 : Fin 5) : Fin 128))

/-- A block of the quotient's rows as it is stored: a slice given three leading axes of extent one. -/
theorem slab_apply (o : Fin 2 → ℕ) (hs : S1024x128.Slices o S512x128) (x : FVec F S1024x128 .bf16) (y : S1x1x1x512x128.Idx) (r : Fin 1024)
    (hr : r.val = o 0 + (y (3 : Fin 5)).val) (h1 : o 1 = 0) :
    (shapeCast S1x1x1x512x128 (extractStridedSlice S512x128 o x hs : FVec F S512x128 .bf16) shapeCasts_S512x128_S1x1x1x512x128 : FVec F S1x1x1x512x128 .bf16) y
      = x (ix2 r (y (4 : Fin 5) : Fin 128)) := by
  have h0 : (y (0 : Fin 5)).val < 1 := (y (0 : Fin 5)).isLt
  have h1' : (y (1 : Fin 5)).val < 1 := (y (1 : Fin 5)).isLt
  have h2 : (y (2 : Fin 5)).val < 1 := (y (2 : Fin 5)).isLt
  refine (shapeCast_apply _ _ y (ix2 (y (3 : Fin 5) : Fin 512) (y (4 : Fin 5) : Fin 128)) ?_).trans
    (extractStridedSlice_apply _ _ _ _ _ fun a => ?_)
  · rw [Shape.rowMajor_val_two, Shape.rowMajor_val_five]
    show (y (3 : Fin 5)).val * 128 + (y (4 : Fin 5)).val
      = ((((y (0 : Fin 5)).val * 1 + (y (1 : Fin 5)).val) * 1 + (y (2 : Fin 5)).val) * 512 + (y (3 : Fin 5)).val) * 128 + (y (4 : Fin 5)).val
    omega
  · match a with
    | ⟨0, _⟩ => exact hr
    | ⟨1, _⟩ => show (y (4 : Fin 5)).val = o 1 + (y (4 : Fin 5)).val; omega

/-- After `scores` the buffer holds the scores of the queries' rows at `oq` against the keys at `ok`. -/
theorem wp_scores (buf : Memref sig .tc .vmem S512x512 .f32) (oq : Fin 2 → ℕ) (hq : ∀ a, oq a + S512x256.size a ≤ S1024x256.size a)
    (ok : Fin 4 → ℕ) (hk : ∀ a, ok a + S1x1x512x256.size a ≤ S1x1x8192x256.size a)
    (Q : Vec F S1024x256 .bf16) (X : Vec F S1x1x8192x256 .bf16) (K : PUnit → sProp 𝕄) :
    iprop(owns (c : Thread nD τ) arg8 fullShare Q ∗ owns (c : Thread nD τ) arg5 fullShare X ∗ (∃ d, owns (c : Thread nD τ) buf fullShare d)
      ∗ (iprop(owns (c : Thread nD τ) arg8 fullShare Q ∗ owns (c : Thread nD τ) arg5 fullShare X
          ∗ owns (c : Thread nD τ) buf fullShare (scoresOf (window Q oq S512x256.size hq) (window X ok S1x1x512x256.size hk))) -∗ K ⟨⟩))
      ⊢ wp frame (wpE (defs₀ (F := F)) Variants.none c none) Set.univ (scores arg5 arg8 buf oq hq ok hk) K := by
  unfold scores owns
  iintro ⟨⟨%f8, %h8, H8⟩, ⟨%f5, %h5, H5⟩, ⟨%d, %fb, -, HB⟩, Hk⟩
  subst h8 h5
  sl_exec
  sl_step
  iapply Hk
  isplitl [H8]
  · iexists _; isplitr; swap; · iexact H8
    ipureintro; rfl
  isplitl [H5]
  · iexists _; isplitr; swap; · iexact H5
    ipureintro; rfl
  iexists _; isplitr; swap; · iexact HB
  ipureintro
  rw [View.read_writes_full, shapeCast_self]
  rfl

/-- After `update` the rows at `o` hold the maximum and the sums with the tile taken in; the other rows are as they were. -/
theorem wp_update (buf : Memref sig .tc .vmem S512x512 .f32) (f : FVec F S512x512 .f32 → FVec F S512x512 .f32)
    (o : Fin 2 → ℕ) (ho : ∀ a, o a + S512x128.size a ≤ S1024x128.size a)
    (ov : Fin 4 → ℕ) (hv : ∀ a, ov a + S1x1x512x128.size a ≤ S1x1x8192x128.size a)
    (X : Vec F S1x1x8192x128 .bf16) (S : Vec F S512x512 .f32) (M L A : Vec F S1024x128 .f32) (K : PUnit → sProp 𝕄) :
    iprop(owns (c : Thread nD τ) arg6 fullShare X ∗ owns (c : Thread nD τ) arg9 fullShare M ∗ owns (c : Thread nD τ) arg10 fullShare L
      ∗ owns (c : Thread nD τ) arg11 fullShare A ∗ owns (c : Thread nD τ) buf fullShare S
      ∗ (iprop(owns (c : Thread nD τ) arg6 fullShare X
          ∗ owns (c : Thread nD τ) arg9 fullShare (put M o S512x128.size (newMax (window M o S512x128.size ho) (f S)))
          ∗ owns (c : Thread nD τ) arg10 fullShare (put L o S512x128.size (newSum (window M o S512x128.size ho) (window L o S512x128.size ho) (f S)))
          ∗ owns (c : Thread nD τ) arg11 fullShare (put A o S512x128.size (newAcc (window M o S512x128.size ho) (window A o S512x128.size ho) (f S) (window X ov S1x1x512x128.size hv)))
          ∗ owns (c : Thread nD τ) buf fullShare S) -∗ K ⟨⟩))
      ⊢ wp frame (wpE (defs₀ (F := F)) Variants.none c none) Set.univ (update arg6 arg9 arg10 arg11 buf f o ho ov hv) K := by
  unfold update owns
  iintro ⟨⟨%f6, %h6, H6⟩, ⟨%f9, %h9, H9⟩, ⟨%f10, %h10, H10⟩, ⟨%f11, %h11, H11⟩, ⟨%fb, %hb, HB⟩, Hk⟩
  subst h6 h9 h10 h11 hb
  sl_exec
  sl_step
  iapply Hk
  isplitl [H6]
  · iexists _; isplitr; swap; · iexact H6
    ipureintro; rfl
  isplitl [H9]
  · iexists _; isplitr; swap; · iexact H9
    ipureintro
    rw [View.read_writes_cons_put _ _ _ _ _ rfl, View.writes_nil, shapeCast_self, View.readAt_full]
    rfl
  isplitl [H10]
  · iexists _; isplitr; swap; · iexact H10
    ipureintro
    rw [View.read_writes_cons_put _ _ _ _ _ rfl, View.writes_nil, shapeCast_self, View.readAt_full]
    rfl
  isplitl [H11]
  · iexists _; isplitr; swap; · iexact H11
    ipureintro
    rw [View.read_writes_cons_put _ _ _ _ _ rfl, View.writes_nil, shapeCast_self, View.readAt_full]
    rfl
  iexists _; isplitr; swap; · iexact HB
  ipureintro; rfl

/-- After `setup`: the queries' blocks one under the other, the maximum at the mask's value, both sums at zero. -/
theorem wp_setup (Y0 Y1 : Vec F S1x1x512x256 .bf16) (K : PUnit → sProp 𝕄) :
    iprop(owns (c : Thread nD τ) arg3 fullShare Y0 ∗ owns (c : Thread nD τ) arg4 fullShare Y1 ∗ (∃ d, owns (c : Thread nD τ) arg8 fullShare d)
      ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg3 fullShare Y0 ∗ owns (c : Thread nD τ) arg4 fullShare Y1
          ∗ owns (c : Thread nD τ) arg8 fullShare (queries Y0 Y1)
          ∗ owns (c : Thread nD τ) arg9 fullShare (broadcast S1024x128 (Named.named κ "mask" 0xF149F2CA#32))
          ∗ owns (c : Thread nD τ) arg10 fullShare (broadcast S1024x128 (Scalar.ofBits .f32 0x00000000#32))
          ∗ owns (c : Thread nD τ) arg11 fullShare (broadcast S1024x128 (Scalar.ofBits .f32 0x00000000#32))) -∗ K ⟨⟩))
      ⊢ wp frame (wpE (defs₀ (F := F)) Variants.none c none) Set.univ (setup arg3 arg4 arg8 harg8 arg9 arg10 arg11) K := by
  unfold setup owns
  iintro ⟨⟨%f3, %h3, H3⟩, ⟨%f4, %h4, H4⟩, ⟨%d8, %f8, -, H8⟩, ⟨%d9, %f9, -, H9⟩, ⟨%d10, %f10, -, H10⟩, ⟨%d11, %f11, -, H11⟩, Hk⟩
  subst h3 h4
  sl_exec
  sl_step
  iapply Hk
  isplitl [H3]
  · iexists _; isplitr; swap; · iexact H3
    ipureintro; rfl
  isplitl [H4]
  · iexists _; isplitr; swap; · iexact H4
    ipureintro; rfl
  isplitl [H8]
  · iexists _; isplitr; swap; · iexact H8
    ipureintro
    funext y
    have hy : (y (0 : Fin 2)).val < 1024 := (y (0 : Fin 2)).isLt
    rw [View.readAt_full, View.readAt_full, shapeCast_self, shapeCast_self]
    unfold queries
    by_cases h : (y (0 : Fin 2)).val < 512
    · rw [View.read_writes_cons_rows_of_not_mem _ _ _ _ _ _ rfl rfl (Or.inl h), dif_pos h]
      exact View.read_writes_cons_rows_of_mem _ _ _ _ _ y (ix2 (⟨(y (0 : Fin 2)).val, h⟩ : Fin 512) (y (1 : Fin 2) : Fin 256)) rfl (Nat.zero_add _).symm rfl
    · rw [dif_neg h]
      exact View.read_writes_cons_rows_of_mem _ _ _ _ _ y (ix2 (⟨(y (0 : Fin 2)).val - 512, by omega⟩ : Fin 512) (y (1 : Fin 2) : Fin 256)) rfl
        (by show _ = 512 + ((y (0 : Fin 2)).val - 512); omega) rfl
  isplitl [H9]
  · iexists _; isplitr; swap; · iexact H9
    ipureintro
    rw [View.read_writes_full, shapeCast_self]
  isplitl [H10]
  · iexists _; isplitr; swap; · iexact H10
    ipureintro
    rw [View.read_writes_full, shapeCast_self]
  iexists _; isplitr; swap; · iexact H11
  ipureintro
  rw [View.read_writes_full, shapeCast_self]

/-- After `finish` the output's buffer holds the two blocks of the quotient. -/
theorem wp_finish (L A : Vec F S1024x128 .f32) (K : PUnit → sProp 𝕄) :
    iprop((∃ d, owns (c : Thread nD τ) arg7 fullShare d) ∗ owns (c : Thread nD τ) arg10 fullShare L ∗ owns (c : Thread nD τ) arg11 fullShare A
      ∗ (iprop(owns (c : Thread nD τ) arg7 fullShare (outBlock L A) ∗ owns (c : Thread nD τ) arg10 fullShare L ∗ owns (c : Thread nD τ) arg11 fullShare A) -∗ K ⟨⟩))
      ⊢ wp frame (wpE (defs₀ (F := F)) Variants.none c none) Set.univ (finish arg7 harg7 arg10 arg11) K := by
  unfold finish owns
  iintro ⟨⟨%d7, %f7, -, H7⟩, ⟨%f10, %h10, H10⟩, ⟨%f11, %h11, H11⟩, Hk⟩
  subst h10 h11
  sl_exec
  sl_step
  iapply Hk
  isplitl [H7]
  · iexists _; isplitr; swap; · iexact H7
    ipureintro
    funext y
    have h1 : (y (1 : Fin 5)).val < 2 := (y (1 : Fin 5)).isLt
    have h0 : (y (0 : Fin 5)).val < 1 := (y (0 : Fin 5)).isLt
    have h2 : (y (2 : Fin 5)).val < 1 := (y (2 : Fin 5)).isLt
    rw [View.readAt_full, View.readAt_full]
    unfold outBlock
    by_cases h : (y (1 : Fin 5)).val = 0
    · refine (View.read_writes_cons_unit_of_not_mem _ _ _ _ _ y rfl (1 : Fin 5) (Or.inl (by rw [h]; exact Nat.one_pos))).trans ?_
      refine (View.read_writes_cons_unit_of_mem _ _ _ _ _ y (ix5 (0 : Fin 1) (0 : Fin 1) (0 : Fin 1) (y (3 : Fin 5) : Fin 512) (y (4 : Fin 5) : Fin 128)) rfl ?_).trans
        (slab_apply _ _ _ _ _ (by show 512 * _ + _ = 0 + _; rw [h]; rfl) rfl)
      intro a
      match a with
      | ⟨0, _⟩ => show (y (0 : Fin 5)).val = 0 + 0; omega
      | ⟨1, _⟩ => show (y (1 : Fin 5)).val = 0 + 0; omega
      | ⟨2, _⟩ => show (y (2 : Fin 5)).val = 0 + 0; omega
      | ⟨3, _⟩ => show (y (3 : Fin 5)).val = 0 + (y (3 : Fin 5)).val; omega
      | ⟨4, _⟩ => show (y (4 : Fin 5)).val = 0 + (y (4 : Fin 5)).val; omega
    · refine (View.read_writes_cons_unit_of_mem _ _ _ _ _ y (ix5 (0 : Fin 1) (0 : Fin 1) (0 : Fin 1) (y (3 : Fin 5) : Fin 512) (y (4 : Fin 5) : Fin 128)) rfl ?_).trans
        (slab_apply _ _ _ _ _ (by show 512 * _ + _ = 512 + _; rw [show (y (1 : Fin 5)).val = 1 by omega]; rfl) rfl)
      intro a
      match a with
      | ⟨0, _⟩ => show (y (0 : Fin 5)).val = 0 + 0; omega
      | ⟨1, _⟩ => show (y (1 : Fin 5)).val = 1 + 0; omega
      | ⟨2, _⟩ => show (y (2 : Fin 5)).val = 0 + 0; omega
      | ⟨3, _⟩ => show (y (3 : Fin 5)).val = 0 + (y (3 : Fin 5)).val; omega
      | ⟨4, _⟩ => show (y (4 : Fin 5)).val = 0 + (y (4 : Fin 5)).val; omega
  isplitl [H10]
  · iexists _; isplitr; swap; · iexact H10
    ipureintro; rfl
  iexists _; isplitr; swap; · iexact H11
  ipureintro; rfl

end Cert.KernelIdeal.Attn

end
-- ==== Proof.Run.lean ====
/-
  The attention kernel's body run at one grid point: from its windows' blocks to the block it
  stores, as a fold of one update over the seventeen visited tiles.
-/
module

public import proofs.«01_k».proof.Proof.Triples

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Facts₀ Facts

variable {F : FTy → Type} [FloatOps F] [Named F]

local notation "𝕄" => MT nD τ sig Unit (Elt F) ℕ (UR sig nD τ) ℕ

/-- One visit: where its queries, keys, rows and values lie, and whether its scores are masked. -/
structure Visit (F : FTy → Type) where
  f : FVec F S512x512 .f32 → FVec F S512x512 .f32
  oq : Fin 2 → ℕ
  hq : ∀ a, oq a + S512x256.size a ≤ S1024x256.size a
  ok : Fin 4 → ℕ
  hk : ∀ a, ok a + S1x1x512x256.size a ≤ S1x1x8192x256.size a
  o : Fin 2 → ℕ
  ho : ∀ a, o a + S512x128.size a ≤ S1024x128.size a
  ov : Fin 4 → ℕ
  hv : ∀ a, ov a + S1x1x512x128.size a ≤ S1x1x8192x128.size a

/-- The running maximum, sum and weighted sum. -/
structure State (F : FTy → Type) where
  m : Vec F S1024x128 .f32
  l : Vec F S1024x128 .f32
  a : Vec F S1024x128 .f32

/-- The state before the first tile. -/
def State.init : State F :=
  ⟨broadcast S1024x128 (Named.named κ "mask" 0xF149F2CA#32), broadcast S1024x128 (Scalar.ofBits .f32 0x00000000#32), broadcast S1024x128 (Scalar.ofBits .f32 0x00000000#32)⟩

/-- A visit's raw scores. -/
def Visit.raw (v : Visit F) (Q : Vec F S1024x256 .bf16) (X : Vec F S1x1x8192x256 .bf16) : FVec F S512x512 .f32 :=
  scoresOf (window Q v.oq S512x256.size v.hq) (window X v.ok S1x1x512x256.size v.hk)

/-- The state after a visit. -/
def State.take (st : State F) (Q : Vec F S1024x256 .bf16) (X : Vec F S1x1x8192x256 .bf16) (V : Vec F S1x1x8192x128 .bf16) (v : Visit F) : State F :=
  ⟨put st.m v.o S512x128.size (newMax (window st.m v.o S512x128.size v.ho) (v.f (v.raw Q X))),
   put st.l v.o S512x128.size (newSum (window st.m v.o S512x128.size v.ho) (window st.l v.o S512x128.size v.ho) (v.f (v.raw Q X))),
   put st.a v.o S512x128.size (newAcc (window st.m v.o S512x128.size v.ho) (window st.a v.o S512x128.size v.ho) (v.f (v.raw Q X)) (window V v.ov S1x1x512x128.size v.hv))⟩

variable [Facts]

/-- Visit `r` of the first seven. -/
abbrev visitA (i : grid0.Coords) (r : Fin 7) (b : BitVec 32) (h1 : BitVec.ofNat 32 r.val = b) (h2 : k0_off2_at r = (b, b)) (h4 : k0_off4_at r = (b, b)) : Visit F where
  f := id
  oq := k0_off1 i b
  hq := h1 ▸ k0_off1_inb i r
  ok := k0_off2 i b b
  hk := by have := k0_off2_inb i r; rw [h2] at this; exact this
  o := k0_off3 i b
  ho := h1 ▸ k0_off3_inb i r
  ov := k0_off4 i b b
  hv := by have := k0_off4_inb i r; rw [h4] at this; exact this

/-- Visit `7 + r`, of the second half's rows: the last of these is that half's diagonal. -/
abbrev visitB (f : FVec F S512x512 .f32 → FVec F S512x512 .f32) (i : grid0.Coords) (r : Fin 9) (b : BitVec 32) (h : BitVec.ofNat 32 (7 + r.val) = b) : Visit F where
  f := f
  oq := ![512, 0]
  hq := inb_S1024x256_S512x256_512_0
  ok := k0_off5 i b
  hk := h ▸ k0_off5_inb i r
  o := ![512, 0]
  ho := inb_S1024x128_S512x128_512_0
  ov := k0_off6 i b
  hv := h ▸ k0_off6_inb i r

/-- The first half's diagonal. -/
abbrev visitC (i : grid0.Coords) : Visit F where
  f := masked
  oq := ![0, 0]
  hq := inb_S1024x256_S512x256_0_0
  ok := k0_off7 i
  hk := k0_off7_inb i
  o := ![0, 0]
  ho := inb_S1024x128_S512x128_0_0
  ov := k0_off8 i
  hv := k0_off8_inb i

/-- The seventeen visits in order. -/
def visits (i : grid0.Coords) : List (Visit F) :=
  [visitA i 0 0#32 rfl rfl rfl, visitA i 1 1#32 rfl rfl rfl, visitA i 2 2#32 rfl rfl rfl, visitA i 3 3#32 rfl rfl rfl,
   visitA i 4 4#32 rfl rfl rfl, visitA i 5 5#32 rfl rfl rfl, visitA i 6 6#32 rfl rfl rfl,
   visitB id i 0 7#32 rfl, visitB id i 1 8#32 rfl, visitB id i 2 9#32 rfl, visitB id i 3 10#32 rfl,
   visitB id i 4 11#32 rfl, visitB id i 5 12#32 rfl, visitB id i 6 13#32 rfl, visitB id i 7 14#32 rfl,
   visitC i, visitB masked i 8 15#32 rfl]

/-- The state after all visits. -/
def final (i : grid0.Coords) (Q : Vec F S1024x256 .bf16) (X : Vec F S1x1x8192x256 .bf16) (V : Vec F S1x1x8192x128 .bf16) : State F :=
  (visits i).foldl (fun st v => st.take Q X V v) State.init

/-- What the body stores at a grid point, from its windows' blocks. -/
def stored (i : grid0.Coords) (Y0 Y1 : Vec F S1x1x512x256 .bf16) (X : Vec F S1x1x8192x256 .bf16) (V : Vec F S1x1x8192x128 .bf16) : Vec F S1x2x1x512x128 .bf16 :=
  outBlock (final i (queries Y0 Y1) X V).l (final i (queries Y0 Y1) X V).a

variable (c : Dev nD)
variable (arg3 : Memref sig .tc .vmem S1x1x512x256 .bf16) (arg4 : Memref sig .tc .vmem S1x1x512x256 .bf16) (arg5 : Memref sig .tc .vmem S1x1x8192x256 .bf16)
  (arg6 : Memref sig .tc .vmem S1x1x8192x128 .bf16) (arg7 : Memref sig .tc .vmem S1x2x1x512x128 .bf16) (harg7 : arg7.IsWhole)
  (arg8 : Memref sig .tc .vmem S1024x256 .bf16) (harg8 : arg8.IsWhole) (arg9 arg10 arg11 : Memref sig .tc .vmem S1024x128 .f32)
  (arg12 arg13 : Memref sig .tc .vmem S512x512 .f32)

/-- What is held between visits: keys, values, queries, the state, a rest, the buffer of the next scores and the other buffer. -/
def Held (R : sProp 𝕄) (Q : Vec F S1024x256 .bf16) (X : Vec F S1x1x8192x256 .bf16) (V : Vec F S1x1x8192x128 .bf16) (st : State F)
    (b : Memref sig .tc .vmem S512x512 .f32) (S : Vec F S512x512 .f32) (b' : Memref sig .tc .vmem S512x512 .f32) : sProp 𝕄 :=
  iprop(R ∗ owns (c : Thread nD τ) arg5 fullShare X ∗ owns (c : Thread nD τ) arg6 fullShare V ∗ owns (c : Thread nD τ) arg8 fullShare Q
    ∗ owns (c : Thread nD τ) arg9 fullShare st.m ∗ owns (c : Thread nD τ) arg10 fullShare st.l ∗ owns (c : Thread nD τ) arg11 fullShare st.a
    ∗ owns (c : Thread nD τ) b fullShare S ∗ (∃ d, owns (c : Thread nD τ) b' fullShare d))

/-- The update of a visit, its scores ready: the state takes the visit in. -/
theorem update_step (v : Visit F) (b b' : Memref sig .tc .vmem S512x512 .f32) (R : sProp 𝕄) (Q : Vec F S1024x256 .bf16) (X : Vec F S1x1x8192x256 .bf16)
    (V : Vec F S1x1x8192x128 .bf16) (st : State F) (k : PUnit → Prog (TpuEff nD τ sig (Elt F) Λ₀ .tc) PUnit) (K : PUnit → sProp 𝕄)
    (h : Held c arg5 arg6 arg8 arg9 arg10 arg11 R Q X V (st.take Q X V v) b (v.raw Q X) b'
      ⊢ wp frame (wpE (defs₀ (F := F)) Variants.none c none) Set.univ (k ⟨⟩) K) :
    Held c arg5 arg6 arg8 arg9 arg10 arg11 R Q X V st b (v.raw Q X) b'
      ⊢ wp frame (wpE (defs₀ (F := F)) Variants.none c none) Set.univ (update arg6 arg9 arg10 arg11 b v.f v.o v.ho v.ov v.hv >>= k) K := by
  rw [wp_bind]
  unfold Held
  iintro ⟨HR, H5, H6, H8, H9, H10, H11, HB, HB'⟩
  iapply (wp_update c arg6 arg9 arg10 arg11 b v.f v.o v.ho v.ov v.hv V (v.raw Q X) st.m st.l st.a)
  isplitl [H6]; · iexact H6
  isplitl [H9]; · iexact H9
  isplitl [H10]; · iexact H10
  isplitl [H11]; · iexact H11
  isplitl [HB]; · iexact HB
  iintro ⟨H6, H9, H10, H11, HB⟩
  iapply h
  unfold Held
  isplitl [HR]; · iexact HR
  isplitl [H5]; · iexact H5
  isplitl [H6]; · iexact H6
  isplitl [H8]; · iexact H8
  isplitl [H9]; · iexact H9
  isplitl [H10]; · iexact H10
  isplitl [H11]; · iexact H11
  isplitl [HB]; · iexact HB
  iexact HB'

/-- The next visit's scores, then this visit's update; the buffers change places. -/
theorem pair_step (v v' : Visit F) (b b' : Memref sig .tc .vmem S512x512 .f32) (R : sProp 𝕄) (Q : Vec F S1024x256 .bf16) (X : Vec F S1x1x8192x256 .bf16)
    (V : Vec F S1x1x8192x128 .bf16) (st : State F) (k : PUnit → Prog (TpuEff nD τ sig (Elt F) Λ₀ .tc) PUnit) (K : PUnit → sProp 𝕄)
    (h : Held c arg5 arg6 arg8 arg9 arg10 arg11 R Q X V (st.take Q X V v) b' (v'.raw Q X) b
      ⊢ wp frame (wpE (defs₀ (F := F)) Variants.none c none) Set.univ (k ⟨⟩) K) :
    Held c arg5 arg6 arg8 arg9 arg10 arg11 R Q X V st b (v.raw Q X) b'
      ⊢ wp frame (wpE (defs₀ (F := F)) Variants.none c none) Set.univ
        (scores arg5 arg8 b' v'.oq v'.hq v'.ok v'.hk >>= fun _ => update arg6 arg9 arg10 arg11 b v.f v.o v.ho v.ov v.hv >>= k) K := by
  rw [wp_bind]
  unfold Held
  iintro ⟨HR, H5, H6, H8, H9, H10, H11, HB, HB'⟩
  iapply (wp_scores c arg5 arg8 b' v'.oq v'.hq v'.ok v'.hk Q X)
  isplitl [H8]; · iexact H8
  isplitl [H5]; · iexact H5
  isplitl [HB']; · iexact HB'
  iintro ⟨H8, H5, HB'⟩
  rw [wp_bind]
  iapply (wp_update c arg6 arg9 arg10 arg11 b v.f v.o v.ho v.ov v.hv V (v.raw Q X) st.m st.l st.a)
  isplitl [H6]; · iexact H6
  isplitl [H9]; · iexact H9
  isplitl [H10]; · iexact H10
  isplitl [H11]; · iexact H11
  isplitl [HB]; · iexact HB
  iintro ⟨H6, H9, H10, H11, HB⟩
  iapply h
  unfold Held
  isplitl [HR]; · iexact HR
  isplitl [H5]; · iexact H5
  isplitl [H6]; · iexact H6
  isplitl [H8]; · iexact H8
  isplitl [H9]; · iexact H9
  isplitl [H10]; · iexact H10
  isplitl [H11]; · iexact H11
  isplitl [HB']; · iexact HB'
  iexists _; iexact HB

/-- What the body gives back: its windows, the output at `O`, and the scratch at some contents. -/
def Given (Y0 Y1 : Vec F S1x1x512x256 .bf16) (X : Vec F S1x1x8192x256 .bf16) (V : Vec F S1x1x8192x128 .bf16) (O : Vec F S1x2x1x512x128 .bf16) : sProp 𝕄 :=
  iprop(owns (c : Thread nD τ) arg3 fullShare Y0 ∗ owns (c : Thread nD τ) arg4 fullShare Y1 ∗ owns (c : Thread nD τ) arg5 fullShare X ∗ owns (c : Thread nD τ) arg6 fullShare V
    ∗ owns (c : Thread nD τ) arg7 fullShare O ∗ (∃ d, owns (c : Thread nD τ) arg8 fullShare d) ∗ (∃ d, owns (c : Thread nD τ) arg9 fullShare d)
    ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))

/-- What the visits leave alone: the query blocks, the output and the continuation. -/
def Rest (Y0 Y1 : Vec F S1x1x512x256 .bf16) (X : Vec F S1x1x8192x256 .bf16) (V : Vec F S1x1x8192x128 .bf16) (O : Vec F S1x2x1x512x128 .bf16) (K : PUnit → sProp 𝕄) : sProp 𝕄 :=
  iprop(owns (c : Thread nD τ) arg3 fullShare Y0 ∗ owns (c : Thread nD τ) arg4 fullShare Y1 ∗ (∃ d, owns (c : Thread nD τ) arg7 fullShare d)
    ∗ (Given c arg3 arg4 arg5 arg6 arg7 arg8 arg9 arg10 arg11 arg12 arg13 Y0 Y1 X V O -∗ K ⟨⟩))

/-- After the last visit the quotient is stored and everything given back. -/
theorem wp_last (b b' : Memref sig .tc .vmem S512x512 .f32) (hb : b = arg12 ∧ b' = arg13 ∨ b = arg13 ∧ b' = arg12) (S : Vec F S512x512 .f32)
    (Y0 Y1 : Vec F S1x1x512x256 .bf16) (X : Vec F S1x1x8192x256 .bf16) (V : Vec F S1x1x8192x128 .bf16) (Q : Vec F S1024x256 .bf16) (st : State F) (K : PUnit → sProp 𝕄) :
    Held c arg5 arg6 arg8 arg9 arg10 arg11 (Rest c arg3 arg4 arg5 arg6 arg7 arg8 arg9 arg10 arg11 arg12 arg13 Y0 Y1 X V (outBlock st.l st.a) K) Q X V st b S b'
      ⊢ wp frame (wpE (defs₀ (F := F)) Variants.none c none) Set.univ (finish arg7 harg7 arg10 arg11) K := by
  unfold Held Rest
  iintro ⟨⟨H3, H4, H7, Hk⟩, H5, H6, H8, H9, H10, H11, HB, HB'⟩
  iapply (wp_finish c arg7 harg7 arg10 arg11 st.l st.a)
  isplitl [H7]; · iexact H7
  isplitl [H10]; · iexact H10
  isplitl [H11]; · iexact H11
  iintro ⟨H7, H10, H11⟩
  iapply Hk
  unfold Given
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  rcases hb with ⟨rfl, rfl⟩ | ⟨rfl, rfl⟩
  · isplitl [HB]; · iexists _; iexact HB
    iexact HB'
  · isplitl [HB']; · iexact HB'
    iexists _; iexact HB

/-- The visits from one whose scores are ready, the score buffers changing places, then the stores. -/
def chain (v : Visit F) (b b' : Memref sig .tc .vmem S512x512 .f32) : List (Visit F) → Prog (TpuEff nD τ sig (Elt F) Λ₀ .tc) PUnit
  | [] => update arg6 arg9 arg10 arg11 b v.f v.o v.ho v.ov v.hv >>= fun _ => finish arg7 harg7 arg10 arg11
  | v' :: vs => scores arg5 arg8 b' v'.oq v'.hq v'.ok v'.hk >>= fun _ => update arg6 arg9 arg10 arg11 b v.f v.o v.ho v.ov v.hv >>= fun _ => chain v' b' b vs

/-- The body is its set-up, the first scores and the chain of visits. -/
theorem body_chain (i : grid0.Coords) : body arg3 arg4 arg5 arg6 arg7 harg7 arg8 harg8 arg9 arg10 arg11 arg12 arg13 i
    = (setup (F := F) arg3 arg4 arg8 harg8 arg9 arg10 arg11 >>= fun _ =>
        scores arg5 arg8 arg12 (visitA (F := F) i 0 0#32 rfl rfl rfl).oq (visitA (F := F) i 0 0#32 rfl rfl rfl).hq (visitA (F := F) i 0 0#32 rfl rfl rfl).ok (visitA (F := F) i 0 0#32 rfl rfl rfl).hk >>= fun _ =>
          chain arg5 arg6 arg7 harg7 arg8 arg9 arg10 arg11 (visitA i 0 0#32 rfl rfl rfl) arg12 arg13 (visits i).tail) := by
  chain_rfl

/-- The chain run: the state of its last visit divided out and stored. -/
theorem wp_chain (Q : Vec F S1024x256 .bf16) (X : Vec F S1x1x8192x256 .bf16) (V : Vec F S1x1x8192x128 .bf16) (R : sProp 𝕄) (K : PUnit → sProp 𝕄)
    (fin : State F) (P : Memref sig .tc .vmem S512x512 .f32 → Memref sig .tc .vmem S512x512 .f32 → Prop) (hP : ∀ b b', P b b' → P b' b)
    (h : ∀ b S b', P b b' → (Held c arg5 arg6 arg8 arg9 arg10 arg11 R Q X V fin b S b'
      ⊢ wp frame (wpE (defs₀ (F := F)) Variants.none c none) Set.univ (finish arg7 harg7 arg10 arg11) K))
    (vs : List (Visit F)) : ∀ (v : Visit F) (b b' : Memref sig .tc .vmem S512x512 .f32) (st : State F), P b b' →
    (v :: vs).foldl (fun st v => st.take Q X V v) st = fin →
    (Held c arg5 arg6 arg8 arg9 arg10 arg11 R Q X V st b (v.raw Q X) b'
      ⊢ wp frame (wpE (defs₀ (F := F)) Variants.none c none) Set.univ (chain arg5 arg6 arg7 harg7 arg8 arg9 arg10 arg11 v b b' vs) K) := by
  induction vs with
  | nil => exact fun v b b' st p e => update_step c arg5 arg6 arg8 arg9 arg10 arg11 v b b' R Q X V st _ K (by rw [show st.take Q X V v = fin from e]; exact h _ _ _ p)
  | cons v' vs ih => exact fun v b b' st p e => pair_step c arg5 arg6 arg8 arg9 arg10 arg11 v v' b b' R Q X V st _ K (ih v' b' b _ (hP _ _ p) e)

/-- The body at a grid point: from the windows' blocks, the block stored; the scratch at some contents before and after. -/
theorem wp_body (i : grid0.Coords) (Y0 Y1 : Vec F S1x1x512x256 .bf16) (X : Vec F S1x1x8192x256 .bf16) (V : Vec F S1x1x8192x128 .bf16) (K : PUnit → sProp 𝕄) :
    iprop(owns (c : Thread nD τ) arg3 fullShare Y0 ∗ owns (c : Thread nD τ) arg4 fullShare Y1 ∗ owns (c : Thread nD τ) arg5 fullShare X ∗ owns (c : Thread nD τ) arg6 fullShare V
      ∗ (∃ d, owns (c : Thread nD τ) arg7 fullShare d) ∗ (∃ d, owns (c : Thread nD τ) arg8 fullShare d) ∗ (∃ d, owns (c : Thread nD τ) arg9 fullShare d)
      ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (Given c arg3 arg4 arg5 arg6 arg7 arg8 arg9 arg10 arg11 arg12 arg13 Y0 Y1 X V (stored i Y0 Y1 X V) -∗ K ⟨⟩))
      ⊢ wp frame (wpE (defs₀ (F := F)) Variants.none c none) Set.univ (body arg3 arg4 arg5 arg6 arg7 harg7 arg8 harg8 arg9 arg10 arg11 arg12 arg13 i) K := by
  rw [body_chain, wp_bind]
  iintro ⟨H3, H4, H5, H6, H7, H8, H9, H10, H11, H12, H13, Hk⟩
  iapply (wp_setup c arg3 arg4 arg8 harg8 arg9 arg10 arg11 Y0 Y1)
  isplitl [H3]; · iexact H3
  isplitl [H4]; · iexact H4
  isplitl [H8]; · iexact H8
  isplitl [H9]; · iexact H9
  isplitl [H10]; · iexact H10
  isplitl [H11]; · iexact H11
  iintro ⟨H3, H4, H8, H9, H10, H11⟩
  rw [wp_bind]
  iapply (wp_scores c arg5 arg8 arg12 _ _ _ _ (queries Y0 Y1) X)
  isplitl [H8]; · iexact H8
  isplitl [H5]; · iexact H5
  isplitl [H12]; · iexact H12
  iintro ⟨H8, H5, H12⟩
  iapply (wp_chain c arg5 arg6 arg7 harg7 arg8 arg9 arg10 arg11 (queries Y0 Y1) X V
    (Rest c arg3 arg4 arg5 arg6 arg7 arg8 arg9 arg10 arg11 arg12 arg13 Y0 Y1 X V (stored i Y0 Y1 X V) K)
    K (final i (queries Y0 Y1) X V) (fun b b' => b = arg12 ∧ b' = arg13 ∨ b = arg13 ∧ b' = arg12)
    (fun b b' h => h.symm.imp And.symm And.symm) (fun b S b' hb => wp_last c arg3 arg4 arg5 arg6 arg7 harg7 arg8 arg9 arg10 arg11 arg12 arg13 b b' hb S Y0 Y1 X V _ _ K)
    (visits i).tail (visitA i 0 0#32 rfl rfl rfl) arg12 arg13 State.init (.inl ⟨rfl, rfl⟩) rfl)
  · unfold Held Rest
    isplitl [H3 H4 H7 Hk]
    · isplitl [H3]; · iexact H3
      isplitl [H4]; · iexact H4
      isplitl [H7]; · iexact H7
      iexact Hk
    isplitl [H5]; · iexact H5
    isplitl [H6]; · iexact H6
    isplitl [H8]; · iexact H8
    isplitl [H9]; · iexact H9
    isplitl [H10]; · iexact H10
    isplitl [H11]; · iexact H11
    isplitl [H12]; · iexact H12
    iexact H13

end Cert.KernelIdeal.Attn

end
-- ==== Proof.Frame.lean ====
/-
  The attention kernel's whole run: every grid point's body leaves its inputs and stores the block
  `stored` names, so the program ends with each output array assembled from those blocks.
-/
module

public import proofs.«01_k».proof.Proof.Run
public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block stored at a point. -/
def block (c : Dev nD) (t : Fin cfg0.N) : Vec F S1x2x1x512x128 .bf16 :=
  stored (grid0.coords t) (iblk m c 0 t) (iblk m c 1 t) (iblk m c 2 t) (iblk m c 3 t)

/-- The pipeline's data: the arrays as launched, each input block left in place, the output block stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c t
  Φ _ := Pipeline.ΦA spec0 c
  q w := Pipeline.shareOf spec0 w
  owed _ := 0

/-- The data's arrays are those the region finds. -/
theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
/-- The output buffer after a point holds the point's block. -/
theorem after_4 (c : Dev nD) (t : Fin cfg0.N) : (dats m 0 c).after 4 t = block m c t := by dsimp only [dats]

/-- The scratch buffers, each held at some contents. -/
theorem scratch_eq (c : Dev nD) :
    (Pipeline.scopedRest (Ix := Unit) (Name := ℕ) (U := UR sig nD τ) (Lvl := ℕ) (Val := Elt F) spec0 c : sProp 𝕄)
      = iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d) ∗ (∃ d, owns (c : Thread nD τ) (Memref.whole cc0_scratch5) fullShare d)) := by
  rw [scopedRest0_eq]
  simp only [owns_whole]

/-- The body at any point: inputs kept, the block stored, the scratch given back. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t))) := by
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c)]
  rw [show (dats m 0 c).owesAt () t.succ = (dats m 0 c).owesAt () t.castSucc from rfl,
    show (dats m 0 c).Φ t.succ = iprop(Pipeline.scopedRest spec0 c ∗ ∃ r, prngReg c r) from rfl,
    show (dats m 0 c).Φ t.castSucc = iprop(Pipeline.scopedRest spec0 c ∗ ∃ r, prngReg c r) from rfl,
    after_0, after_1, after_2, after_3, after_4, scratch_eq]
  unfold bodyAt0
  rw [body_eq]
  iintro ⟨⟨⟨S0, S1, S2, S3, S4, S5⟩, Hg⟩, Ho, ⟨%d0, H0⟩, ⟨%d1, H1⟩, ⟨%d2, H2⟩, ⟨%d3, H3⟩, ⟨%d4, H4⟩⟩
  iapply (wp_body c _ _ _ _ _ _ _ _ _ _ _ _ _ (grid0.coords t) (iblk m c 0 t) (iblk m c 1 t) (iblk m c 2 t) (iblk m c 3 t))
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  isplitl [S2]; · iexact S2
  isplitl [S3]; · iexact S3
  isplitl [S4]; · iexact S4
  isplitl [S5]; · iexact S5
  unfold Given
  iintro ⟨H0, H1, H2, H3, H4, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  iexact H4

/-- The body called at a point is the kernel on the point's buffers. -/
theorem row_eq (t : Fin cfg0.N) : defs₀ (F := F) .tc cfg0.body (cfg0.bodyArgs t (cfg0.slots t)) = bodyAt0 t := by
  unfold defs₀; rw [Defs.onTc_tc]

/-- The obligation of the pipeline's body at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The program runs; at the end the output array is assembled from the stored blocks and every semaphore is at zero. -/
theorem run : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl) (howed := fun _ _ => rfl) (V := V m) (hmain := hmain m Variants.none)
    (hA := A_eq m) (hΦ := fun _ _ => rfl)

/-- The program runs, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run m ρ)

end Cert.KernelIdeal.Attn

end
-- ==== Proof.Printed.lean ====
/-
  The printed kernel is the idealized one with the named constant read as the literal it names.
-/
module

public import proofs.«01_k».proof.Proof.Frame
public import proofs.«01_k».proof.Proof.Gen.Kernel.Frame
public import Idealize.ShloMosaic.PureOps.BitExact

@[expose] public section

set_option maxRecDepth 16384

noncomputable section

namespace Cert.KernelIdeal.Attn

open Idealize.ShloMosaic Idealize.ShloMosaic.TcCoe Idealize.ShloMosaic.Tactic
open Idealize.SL.Sem

/-- A named constant read as the literal it names. -/
@[reducible] def literal : Named Bits where
  named _ _ b := FloatOps.ofBits b

attribute [local instance] literal

/-- The frame of the idealized program at machine words. -/
def FrameIdealized : Prop :=
  ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The frame of the printed program. -/
def FramePrinted : Prop :=
  ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

/-- The two statements are one: the programs' texts agree once the named constant is the literal. -/
theorem frames_eq : FrameIdealized = FramePrinted := by chain_rfl

/-- The printed program runs, leaves its arguments as they were and every semaphore at zero. -/
theorem frame_printed : FramePrinted := frames_eq ▸ (fun m g => frame (F := Bits) m g : FrameIdealized)

end Cert.KernelIdeal.Attn

end
-- ==== Proof.Softmax.lean ====
/-
  Softmax over the extended reals, taken tile by tile: the running maximum, sum and weighted sum
  over a prefix of the scores, one step of each, and the quotient at the end.
-/
module

public import Idealize.ShloMosaic.PureOps.Ideal
public import Idealize.ShloMosaic.PureOps.Ideal.Laws

@[expose] public section

noncomputable section

namespace Softmax

open Idealize.ShloMosaic
open Finset (range)

/-- A nonnegative real factor moves into a sum of extended reals. -/
theorem coe_mul_sum {ι : Type} [DecidableEq ι] (r : ℝ) (hr : 0 ≤ r) (J : Finset ι) (f : ι → EReal) : (r : EReal) * ∑ j ∈ J, f j = ∑ j ∈ J, (r : EReal) * f j := by
  induction J using Finset.induction_on with
  | empty => simp
  | insert a J ha ih =>
    rw [Finset.sum_insert ha, Finset.sum_insert ha, ← ih]
    exact EReal.left_distrib_of_nonneg_of_ne_top (EReal.coe_nonneg.2 hr) (EReal.coe_ne_top r) _ _

/-- Shifting a weight from one maximum to a larger one multiplies it by the weight of the old maximum. -/
theorem exp2_shift {s m m' : EReal} (hs : s ≤ m) (hm : m ≤ m') : Ideal.exp2 (m - m') * Ideal.exp2 (s - m) = Ideal.exp2 (s - m') := by
  induction m' with
  | top => simp [EReal.sub_top]
  | bot =>
    obtain rfl := le_bot_iff.1 hm
    obtain rfl := le_bot_iff.1 hs
    simp [EReal.bot_sub]
  | coe m' =>
    induction m with
    | top => exact absurd hm (by simp)
    | bot => obtain rfl := le_bot_iff.1 hs; simp [EReal.bot_sub]
    | coe m =>
      induction s with
      | top => exact absurd hs (by simp)
      | bot => simp [EReal.bot_sub]
      | coe s =>
        rw [← EReal.coe_sub, ← EReal.coe_sub, ← EReal.coe_sub, Ideal.exp2_coe, Ideal.exp2_coe, Ideal.exp2_coe, ← EReal.coe_mul]
        congr 1
        show (2 : ℝ) ^ (m - m') * (2 : ℝ) ^ (s - m) = (2 : ℝ) ^ (s - m')
        rw [← Real.rpow_add two_pos]; congr 1; ring

/-- The weight of a score not above the maximum is a nonnegative real. -/
theorem exp2_real {m m' : EReal} (hm : m ≤ m') : ∃ r : ℝ, 0 ≤ r ∧ Ideal.exp2 (m - m') = r := by
  induction m' with
  | top => exact ⟨0, le_rfl, by simp [EReal.sub_top]⟩
  | bot => obtain rfl := le_bot_iff.1 hm; exact ⟨0, le_rfl, by simp [EReal.bot_sub]⟩
  | coe m' =>
    induction m with
    | top => exact absurd hm (by simp)
    | bot => exact ⟨0, le_rfl, by simp [EReal.bot_sub]⟩
    | coe m => exact ⟨(2 : ℝ) ^ (m - m'), Real.rpow_nonneg two_pos.le _, by rw [← EReal.coe_sub, Ideal.exp2_coe]; rfl⟩

/-- What the running maximum, sum and weighted sum hold after the first `n` keys of scores `S` and values `w`. -/
def Holds (S w : ℕ → EReal) (n : ℕ) (m l a : EReal) : Prop :=
  m = (range n).sup S ∧ l = ∑ j ∈ range n, Ideal.exp2 (S j - m) ∧ a = ∑ j ∈ range n, Ideal.exp2 (S j - m) * w j

/-- Before any key. -/
theorem Holds.zero (S w : ℕ → EReal) : Holds S w 0 ⊥ 0 0 := by simp [Holds]

/-- The maximum over a prefix and the next `k` keys. -/
theorem sup_range_add (S : ℕ → EReal) (n k : ℕ) : (range (n + k)).sup S = max ((range n).sup S) ((range k).sup fun c => S (n + c)) := by
  induction k with
  | zero => simp
  | succ k ih =>
    rw [← Nat.add_assoc, Finset.range_add_one, Finset.sup_insert, ih, Finset.range_add_one, Finset.sup_insert]
    show max _ (max _ _) = max _ (max _ _)
    ac_rfl

/-- One tile of `k` keys more. -/
theorem Holds.step {S w : ℕ → EReal} {n : ℕ} {m l a : EReal} (h : Holds S w n m l a) (k : ℕ) {m' : EReal} (hm' : m' = max m ((range k).sup fun c => S (n + c))) :
    Holds S w (n + k) m' (Ideal.exp2 (m - m') * l + ∑ c ∈ range k, Ideal.exp2 (S (n + c) - m')) (Ideal.exp2 (m - m') * a + ∑ c ∈ range k, Ideal.exp2 (S (n + c) - m') * w (n + c)) := by
  obtain ⟨hm, hl, ha⟩ := h
  have hle : m ≤ m' := hm' ▸ le_max_left _ _
  obtain ⟨r, hr, he⟩ := exp2_real hle
  have hS : ∀ j ∈ range n, S j ≤ m := fun j hj => hm ▸ Finset.le_sup (f := S) hj
  refine ⟨by rw [hm', hm, sup_range_add], ?_, ?_⟩
  · rw [Finset.sum_range_add, hl, he, coe_mul_sum r hr, ← he]
    exact congrArg (· + _) (Finset.sum_congr rfl fun j hj => exp2_shift (hS j hj) hle)
  · rw [Finset.sum_range_add, ha, he, coe_mul_sum r hr, ← he]
    exact congrArg (· + _) (Finset.sum_congr rfl fun j hj => by rw [← mul_assoc, exp2_shift (hS j hj) hle])

/-- Keys at minus infinity change nothing. -/
theorem Holds.extend {S w : ℕ → EReal} {n : ℕ} {m l a : EReal} (h : Holds S w n m l a) (k : ℕ) (hS : ∀ c, S (n + c) = ⊥) : Holds S w (n + k) m l a := by
  obtain ⟨hm, hl, ha⟩ := h
  refine ⟨?_, ?_, ?_⟩
  · rw [sup_range_add, ← hm]; simp [hS]
  · rw [Finset.sum_range_add, ← hl]; simp [hS, EReal.bot_sub]
  · rw [Finset.sum_range_add, ← ha]; simp [hS, EReal.bot_sub]

/-- The natural exponential of scores at scale `log 2` is the exponential to base two. -/
theorem exp_log_two (S : EReal) (m : ℝ) : Ideal.exp ((Real.log 2 : ℝ) * S - (Real.log 2 : ℝ) * (m : EReal)) = Ideal.exp2 (S - m) := by
  have h2 : 0 < Real.log 2 := Real.log_pos one_lt_two
  induction S with
  | top => rw [EReal.coe_mul_top_of_pos h2, ← EReal.coe_mul, EReal.top_sub_coe, EReal.top_sub_coe]; rfl
  | bot => rw [EReal.coe_mul_bot_of_pos h2, EReal.bot_sub, EReal.bot_sub]; rfl
  | coe S =>
    rw [← EReal.coe_mul, ← EReal.coe_mul, ← EReal.coe_sub, ← EReal.coe_sub]
    show ((Real.exp _ : ℝ) : EReal) = (((2 : ℝ) ^ (S - m) : ℝ) : EReal)
    rw [Real.rpow_def_of_pos two_pos, mul_sub]

/-- Dividing by a sum that is a positive real after weighting, or each weight before, is the same. -/
theorem div_sum {ι : Type} [DecidableEq ι] (J : Finset ι) (p w : ι → EReal) (l : ℝ) (hl : 0 < l) :
    Ideal.div (∑ j ∈ J, p j * w j) (l : EReal) = ∑ j ∈ J, w j * Ideal.div (p j) (l : EReal) := by
  rw [Ideal.div_coe hl.ne', mul_comm, coe_mul_sum _ (one_div_nonneg.2 hl.le)]
  exact Finset.sum_congr rfl fun j _ => by rw [Ideal.div_coe hl.ne']; ac_rfl

/-- Softmax of scores that are reals or minus infinity, one of them real: the quotient of the running sums over all keys is the
    sum of the values under the weights `exp (s j - sup s) / Σ exp (s i - sup s)`, where `s` is `S` at scale `log 2`. -/
theorem Holds.softmax {S w : ℕ → EReal} {n : ℕ} {m l a : EReal} (h : Holds S w n m l a) (hS : ∀ j < n, S j = ⊥ ∨ ∃ r : ℝ, S j = r)
    (h0 : ∃ j < n, ∃ r : ℝ, S j = r) (s : ℕ → EReal) (hs : ∀ j < n, s j = (Real.log 2 : ℝ) * S j) :
    Ideal.div a l = ∑ j ∈ range n, w j * Ideal.div (Ideal.exp (s j - (range n).sup s)) (∑ i ∈ range n, Ideal.exp (s i - (range n).sup s)) := by
  obtain ⟨hm, hl, ha⟩ := h
  have h2 : 0 < Real.log 2 := Real.log_pos one_lt_two
  obtain ⟨j0, hj0, r0, hr0⟩ := h0
  obtain ⟨i, hi, hi'⟩ := Finset.exists_mem_eq_sup (range n) ⟨j0, Finset.mem_range.2 hj0⟩ S
  obtain ⟨r, hr⟩ : ∃ r : ℝ, m = r := by
    rcases hS i (Finset.mem_range.1 hi) with hb | ⟨r, hr⟩
    · exact absurd (Finset.le_sup (f := S) (Finset.mem_range.2 hj0)) (by rw [hi', hb, hr0]; simp)
    · exact ⟨r, by rw [hm, hi', hr]⟩
  have hsup : (range n).sup s = (Real.log 2 : ℝ) * (r : EReal) := by
    rw [← hr, hm, Finset.sup_congr rfl fun j hj => hs j (Finset.mem_range.1 hj)]
    refine (Finset.apply_sup_eq_sup_comp_of_linearOrder (g := fun x : EReal => (Real.log 2 : ℝ) * x) ?_ ?_).symm
    · exact fun x y hxy => mul_le_mul_of_nonneg_left hxy (EReal.coe_nonneg.2 h2.le)
    · exact EReal.coe_mul_bot_of_pos h2
  have hp : ∀ j ∈ range n, Ideal.exp (s j - (range n).sup s) = Ideal.exp2 (S j - m) := fun j hj => by
    rw [hsup, hs j (Finset.mem_range.1 hj), exp_log_two, hr]
  rw [Finset.sum_congr rfl hp, ← hl]
  have hreal : ∀ j ∈ range n, ∃ x : ℝ, 0 ≤ x ∧ Ideal.exp2 (S j - m) = x := fun j hj => exp2_real (hm ▸ Finset.le_sup (f := S) hj)
  obtain ⟨L, hL, hlL⟩ : ∃ L : ℝ, 0 < L ∧ l = L := by
    choose! x hx hx' using hreal
    refine ⟨∑ j ∈ range n, x j, Finset.sum_pos' hx ⟨i, hi, ?_⟩, ?_⟩
    · have : ((x i : ℝ) : EReal) = ((1 : ℝ) : EReal) := by
        rw [← hx' i hi, ← hi', ← hm, hr, ← EReal.coe_sub, sub_self, Ideal.exp2_coe]
        exact congrArg _ (Real.rpow_zero 2)
      rw [EReal.coe_eq_coe_iff.1 this]; exact one_pos
    · rw [hl, Finset.sum_congr rfl hx']
      induction range n using Finset.induction_on with
      | empty => simp
      | insert b J hb ih => rw [Finset.sum_insert hb, Finset.sum_insert hb, ih, EReal.coe_add]
  rw [ha, hlL, div_sum _ _ _ L hL]
  exact Finset.sum_congr rfl fun j hj => by rw [hp j hj]

end Softmax

end
-- ==== Proof.Tile.lean ====
/-
  One update of the attention kernel read at a row and a lane, over the extended reals.
-/
module

public import proofs.«01_k».proof.Proof.Run
public import proofs.«01_k».proof.Proof.Softmax
public import Idealize.ShloMosaic.Lib.Pointwise

@[expose] public section

set_option maxRecDepth 16384

noncomputable section

namespace Cert.KernelIdeal.Attn

open Idealize.ShloMosaic Idealize.ShloMosaic.TcCoe
open Idealize.ShloMosaic.VecWindow (window put)
open Facts₀ Facts
open Finset (range)

/-- The pattern the row maximum starts from is minus infinity. -/
theorem negInf : Ideal.ofBits .f32 0xFF800000#32 = (⊥ : EReal) := by simp [Ideal.ofBits, Ideal.ieee]

/-- The new maximum of a row: the old one and the tile's scores. -/
theorem newMax_apply (m : Vec Ideal S512x128 .f32) (s : FVec Ideal S512x512 .f32) (x : Fin 512) (d : Fin 128) :
    newMax m s (ix2 x d) = max (m (ix2 x d)) (Finset.univ.sup fun c : Fin 512 => s (ix2 x c)) := by
  pointwise [newMax]
  rw [show Ideal.ofBits FTy.f32 4286578688#32 = ⊥ from negInf]; rfl

theorem alpha_apply (m : Vec Ideal S512x128 .f32) (s : FVec Ideal S512x512 .f32) (x : Fin 512) (d : Fin 128) :
    alpha m s (ix2 x d) = Ideal.exp2 (m (ix2 x d) - newMax m s (ix2 x d)) := by
  pointwise [alpha]
  rfl

theorem weights_apply (m : Vec Ideal S512x128 .f32) (s : FVec Ideal S512x512 .f32) (x : Fin 512) (c : Fin 512) :
    weights m s (ix2 x c) = Ideal.exp2 (s (ix2 x c) - newMax m s (ix2 x (⟨c.val % 128, Nat.mod_lt _ (by decide)⟩ : Fin 128))) := by
  pointwise [weights]
  show Ideal.exp2 _ = _
  have hc := c.isLt
  congr 2
  split
  · exact congrArg (fun d => newMax m s (ix2 x d)) (Fin.ext (by show c.val = c.val % 128; omega))
  split
  · exact congrArg (fun d => newMax m s (ix2 x d)) (Fin.ext (by show c.val - 128 = c.val % 128; omega))
  split
  · exact congrArg (fun d => newMax m s (ix2 x d)) (Fin.ext (by show c.val - 128 - 128 = c.val % 128; omega))
  · exact congrArg (fun d => newMax m s (ix2 x d)) (Fin.ext (by show c.val - 128 - 128 - 128 = c.val % 128; omega))

theorem newSum_apply (m l : Vec Ideal S512x128 .f32) (s : FVec Ideal S512x512 .f32) (x : Fin 512) (d : Fin 128) :
    newSum m l s (ix2 x d) = alpha m s (ix2 x d) * l (ix2 x d) + ∑ c : Fin 512, weights m s (ix2 x c) := by
  pointwise [newSum]

theorem newAcc_apply (m a : Vec Ideal S512x128 .f32) (s : FVec Ideal S512x512 .f32) (v : Vec Ideal S1x1x512x128 .bf16) (x : Fin 512) (d : Fin 128) :
    newAcc m a s v (ix2 x d) = alpha m s (ix2 x d) * a (ix2 x d) + ∑ c : Fin 512, weights m s (ix2 x c) * v (ix4 (0 : Fin 1) (0 : Fin 1) c d) := by
  pointwise [newAcc]

theorem scoresOf_apply (q : Vec Ideal S512x256 .bf16) (k : Vec Ideal S1x1x512x256 .bf16) (x c : Fin 512) :
    scoresOf q k (ix2 x c) = ∑ e : Fin 256, q (ix2 x e) * k (ix4 (0 : Fin 1) (0 : Fin 1) c e) := by
  pointwise [scoresOf]

theorem quotient_apply (a l : Vec Ideal S1024x128 .f32) (x : Fin 1024) (d : Fin 128) :
    quotient a l (ix2 x d) = Ideal.div (a (ix2 x d)) (l (ix2 x d)) := by
  pointwise [quotient]

/-- A coordinate's chunk of 64, as the kernel's words compute it. -/
def chunkWord (x : BitVec 32) : BitVec 32 :=
  Scalar.select
    (IntOp.andi (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi ArithUnit.vector x 64#32) 0#32))
    (IntOp.subi (IntOp.divsi ArithUnit.vector x 64#32) 1#32) (IntOp.divsi ArithUnit.vector x 64#32)

theorem chunkWord_eq : ∀ x : Fin 512, chunkWord (BitVec.ofNat 32 x.val) = BitVec.ofNat 32 (x.val / 64) := by decide +kernel

theorem sle_words : ∀ a b : Fin 8, IntOp.cmpi .sle (BitVec.ofNat 32 a.val) (BitVec.ofNat 32 b.val) = if a.val ≤ b.val then 1#1 else 0#1 := by decide +kernel

/-- The tile's mask keeps the keys whose chunk of 64 is not past the row's. -/
theorem diagMask_apply (x c : Fin 512) : diagMask (ix2 x c) = if c.val / 64 ≤ x.val / 64 then 1#1 else 0#1 := by
  pointwise [diagMask, chunkOf]
  refine (congrArg₂ (IntOp.cmpi .sle) (chunkWord_eq c) (chunkWord_eq x)).trans ?_
  have hc := c.isLt
  have hx := x.isLt
  exact sle_words ⟨c.val / 64, by omega⟩ ⟨x.val / 64, by omega⟩

end Cert.KernelIdeal.Attn

end
-- ==== Proof.Rows.lean ====
/-
  The seventeen visits followed row by row: which tile each takes into which half's rows, and what
  every row of the running maximum and sums holds when all are done.
-/
module

public import proofs.«01_k».proof.Proof.Tile

@[expose] public section

set_option maxRecDepth 16384

noncomputable section

namespace Cert.KernelIdeal.Attn

open Idealize.ShloMosaic Idealize.ShloMosaic.TcCoe
open Idealize.ShloMosaic.VecWindow (window put)
open Facts₀ Facts
open Softmax (Holds)
open Finset (range)

/-! ## Where the visits lie -/

/-- A visit lies at half `h` of the rows and at tile `t` of the keys. -/
structure Lies (v : Visit Ideal) (h t : ℕ) : Prop where
  oq : v.oq = ![512 * h, 0]
  ok : v.ok = ![0, 0, 512 * t, 0]
  o : v.o = ![512 * h, 0]
  ov : v.ov = ![0, 0, 512 * t, 0]

section
variable [Facts]

/-- Visit `r` of the first seven is of the upper half at tile `r` while `r` is below the grid's coordinate, then of the lower half from tile 0. -/
theorem lies_A (i : grid0.Coords) (r : Fin 7) (b : BitVec 32) (h1 : BitVec.ofNat 32 r.val = b) (h2 : k0_off2_at r = (b, b)) (h4 : k0_off4_at r = (b, b)) :
    Lies (visitA i r b h1 h2 h4) (if (i 2).val ≤ r.val then 1 else 0) (if (i 2).val ≤ r.val then r.val - (i 2).val else r.val) := by
  subst h1
  have hrow : ∀ (g : Fin 8) (r : Fin 7), (Scalar.indexCast (Scalar.muli (Scalar.extui (Scalar.cmpi .sle (BitVec.ofNat 32 g.val) (BitVec.ofNat 32 r.val)) : BitVec 32) 512#32) : Index).toNat
      = 512 * (if g.val ≤ r.val then 1 else 0) := by decide +kernel
  have hkey : ∀ (g : Fin 8) (r : Fin 7), (Scalar.indexCast (Scalar.muli (Scalar.subi (BitVec.ofNat 32 r.val)
        (Scalar.muli (Scalar.extui (Scalar.cmpi .sle (BitVec.ofNat 32 g.val) (BitVec.ofNat 32 r.val)) : BitVec 32) (BitVec.ofNat 32 g.val))) 512#32) : Index).toNat
      = 512 * (if g.val ≤ r.val then r.val - g.val else r.val) := by decide +kernel
  exact ⟨congrArg (fun n : ℕ => (![n, 0] : Fin 2 → ℕ)) (hrow (i 2) r), congrArg (fun n : ℕ => (![0, 0, n, 0] : Fin 4 → ℕ)) (hkey (i 2) r),
    congrArg (fun n : ℕ => (![n, 0] : Fin 2 → ℕ)) (hrow (i 2) r), congrArg (fun n : ℕ => (![0, 0, n, 0] : Fin 4 → ℕ)) (hkey (i 2) r)⟩

/-- Visit `7 + r` is of the lower half, at the tile that far past the grid's coordinate. -/
theorem lies_B (f : FVec Ideal S512x512 .f32 → FVec Ideal S512x512 .f32) (i : grid0.Coords) (r : Fin 9) (b : BitVec 32) (h : BitVec.ofNat 32 (7 + r.val) = b) :
    Lies (visitB f i r b h) 1 (7 + r.val - (i 2).val) := by
  subst h
  have hkey : ∀ (g : Fin 8) (r : Fin 9), (Scalar.indexCast (Scalar.muli (Scalar.subi (BitVec.ofNat 32 (7 + r.val)) (BitVec.ofNat 32 g.val)) 512#32) : Index).toNat
      = 512 * (7 + r.val - g.val) := by decide +kernel
  exact ⟨rfl, congrArg (fun n : ℕ => (![0, 0, n, 0] : Fin 4 → ℕ)) (hkey (i 2) r), rfl, congrArg (fun n : ℕ => (![0, 0, n, 0] : Fin 4 → ℕ)) (hkey (i 2) r)⟩

/-- The upper half's diagonal visit is at the grid's coordinate. -/
theorem lies_C (i : grid0.Coords) : Lies (visitC i) 0 (i 2).val := by
  have hkey : ∀ g : Fin 8, (Scalar.indexCast (Scalar.muli (BitVec.ofNat 32 g.val) 512#32) : Index).toNat = 512 * g.val := by decide +kernel
  exact ⟨rfl, congrArg (fun n : ℕ => (![0, 0, n, 0] : Fin 4 → ℕ)) (hkey (i 2)), rfl, congrArg (fun n : ℕ => (![0, 0, n, 0] : Fin 4 → ℕ)) (hkey (i 2))⟩
end

/-! ## The rows -/

/-- The mask's value is minus infinity. -/
theorem mask_bot : (Named.named (F := Ideal) κ "mask" 0xF149F2CA#32 : Ideal .f32) = (⊥ : EReal) := by
  rfl

/-- Key `j`'s entry `e`; zero past the last key. -/
def keyAt (X : Vec Ideal S1x1x8192x256 .bf16) (j : ℕ) (e : Fin 256) : EReal := if h : j < 8192 then X (ix4 (0 : Fin 1) (0 : Fin 1) (⟨j, h⟩ : Fin 8192) e) else 0

/-- Value `j`'s entry `d`; zero past the last. -/
def valueAt (V : Vec Ideal S1x1x8192x128 .bf16) (d : Fin 128) (j : ℕ) : EReal := if h : j < 8192 then V (ix4 (0 : Fin 1) (0 : Fin 1) (⟨j, h⟩ : Fin 8192) d) else 0

theorem keyAt_of_lt (X : Vec Ideal S1x1x8192x256 .bf16) {j : ℕ} (h : j < 8192) (e : Fin 256) : keyAt X j e = X (ix4 (0 : Fin 1) (0 : Fin 1) (⟨j, h⟩ : Fin 8192) e) := dif_pos h

theorem valueAt_of_lt (V : Vec Ideal S1x1x8192x128 .bf16) {j : ℕ} (h : j < 8192) (d : Fin 128) : valueAt V d j = V (ix4 (0 : Fin 1) (0 : Fin 1) (⟨j, h⟩ : Fin 8192) d) := dif_pos h

/-- The score of query row `r` against key `j`. -/
def scoreAt (Q : Vec Ideal S1024x256 .bf16) (X : Vec Ideal S1x1x8192x256 .bf16) (r : Fin 1024) (j : ℕ) : EReal := ∑ e : Fin 256, Q (ix2 r e) * keyAt X j e

/-- The same where key `j`'s chunk is not past the chunk of the sequence's row `n`, minus infinity elsewhere. -/
def seenAt (Q : Vec Ideal S1024x256 .bf16) (X : Vec Ideal S1x1x8192x256 .bf16) (r : Fin 1024) (n j : ℕ) : EReal := if j / 64 ≤ n / 64 then scoreAt Q X r j else ⊥

/-- Row `x` of half `h`. -/
def rowOf (h : Fin 2) (x : Fin 512) : Fin 1024 := ⟨512 * h.val + x.val, by omega⟩

/-- Every row of half `h`, whose rows begin at the sequence's tile `T`, has taken in the first `t` tiles. -/
def Half (Q : Vec Ideal S1024x256 .bf16) (X : Vec Ideal S1x1x8192x256 .bf16) (V : Vec Ideal S1x1x8192x128 .bf16) (T : ℕ) (st : State Ideal) (h : Fin 2) (t : ℕ) : Prop :=
  ∀ (x : Fin 512) (d : Fin 128), Holds (seenAt Q X (rowOf h x) (512 * T + x.val)) (valueAt V d) (512 * t) (st.m (ix2 (rowOf h x) d)) (st.l (ix2 (rowOf h x) d)) (st.a (ix2 (rowOf h x) d))

section
variable {Q : Vec Ideal S1024x256 .bf16} {X : Vec Ideal S1x1x8192x256 .bf16} {V : Vec Ideal S1x1x8192x128 .bf16}

/-- A window of rows, read. -/
theorem window_rows {n : ℕ} {α : Type} (m : (⟨2, ![1024, n]⟩ : Shape).Idx → α) (h : Fin 2) (o : Fin 2 → ℕ) (ho : o = ![512 * h.val, 0])
    (inb : ∀ a, o a + (![512, n] : Fin 2 → ℕ) a ≤ (⟨2, ![1024, n]⟩ : Shape).size a) (x : Fin 512) (d : Fin n) :
    window m o ![512, n] inb (ix2 x d) = m (ix2 (rowOf h x) d) := by
  subst ho
  refine congrArg m (funext fun a => Fin.ext ?_)
  match a with
  | ⟨0, _⟩ => show 512 * h.val + 1 * x.val = 512 * h.val + x.val; omega
  | ⟨1, _⟩ => show 0 + 1 * d.val = d.val; omega

/-- A window of keys or values, read. -/
theorem window_keys {n : ℕ} {α : Type} (m : (⟨4, ![1, 1, 8192, n]⟩ : Shape).Idx → α) (t : ℕ) (o : Fin 4 → ℕ) (ho : o = ![0, 0, 512 * t, 0])
    (inb : ∀ a, o a + (![1, 1, 512, n] : Fin 4 → ℕ) a ≤ (⟨4, ![1, 1, 8192, n]⟩ : Shape).size a) (c : Fin 512) (d : Fin n) (hj : 512 * t + c.val < 8192) :
    window m o ![1, 1, 512, n] inb (ix4 (0 : Fin 1) (0 : Fin 1) c d) = m (ix4 (0 : Fin 1) (0 : Fin 1) (⟨512 * t + c.val, hj⟩ : Fin 8192) d) := by
  subst ho
  refine congrArg m (funext fun a => Fin.ext ?_)
  match a with
  | ⟨0, _⟩ => show 0 + 1 * 0 = 0; omega
  | ⟨1, _⟩ => show 0 + 1 * 0 = 0; omega
  | ⟨2, _⟩ => show 512 * t + 1 * c.val = 512 * t + c.val; omega
  | ⟨3, _⟩ => show 0 + 1 * d.val = d.val; omega

/-- A row of a half just written. -/
theorem put_hit {α : Type} (m : S1024x128.Idx → α) (h : Fin 2) (o : Fin 2 → ℕ) (ho : o = ![512 * h.val, 0]) (w : S512x128.Idx → α) (x : Fin 512) (d : Fin 128) :
    put m o S512x128.size w (ix2 (rowOf h x) d) = w (ix2 x d) := by
  subst ho
  have hin : ∀ a, (![512 * h.val, 0] : Fin 2 → ℕ) a ≤ ((ix2 (rowOf h x) d : S1024x128.Idx) a).val
      ∧ ((ix2 (rowOf h x) d : S1024x128.Idx) a).val < (![512 * h.val, 0] : Fin 2 → ℕ) a + S512x128.size a := fun a => by
    match a with
    | ⟨0, _⟩ => show 512 * h.val ≤ 512 * h.val + x.val ∧ 512 * h.val + x.val < 512 * h.val + 512; omega
    | ⟨1, _⟩ => show 0 ≤ d.val ∧ d.val < 0 + 128; omega
  refine (dif_pos hin).trans (congrArg w (funext fun a => Fin.ext ?_))
  match a with
  | ⟨0, _⟩ => show 512 * h.val + x.val - 512 * h.val = x.val; omega
  | ⟨1, _⟩ => show d.val - 0 = d.val; omega

/-- A row of the other half stays. -/
theorem put_miss {α : Type} (m : S1024x128.Idx → α) (h h' : Fin 2) (hh : h' ≠ h) (o : Fin 2 → ℕ) (ho : o = ![512 * h.val, 0]) (w : S512x128.Idx → α) (x : Fin 512) (d : Fin 128) :
    put m o S512x128.size w (ix2 (rowOf h' x) d) = m (ix2 (rowOf h' x) d) := by
  subst ho
  refine dif_neg fun hin => ?_
  have h0 : 512 * h.val ≤ 512 * h'.val + x.val ∧ 512 * h'.val + x.val < 512 * h.val + 512 := hin (0 : Fin 2)
  exact hh (Fin.ext (by omega))

/-- A visit's raw scores. -/
theorem raw_apply {v : Visit Ideal} {h : Fin 2} {t : ℕ} (hv : Lies v h.val t) (ht : t < 16) (x c : Fin 512) : v.raw Q X (ix2 x c) = scoreAt Q X (rowOf h x) (512 * t + c.val) := by
  refine (scoresOf_apply _ _ x c).trans (Finset.sum_congr rfl fun e _ => congrArg₂ (· * ·) (window_rows Q h _ hv.oq _ x e) ?_)
  have hj : 512 * t + c.val < 8192 := by omega
  exact (window_keys X t _ hv.ok _ c e hj).trans (keyAt_of_lt X hj e).symm

/-- A visit of the other half leaves a half alone. -/
theorem Half.miss {T : ℕ} {st : State Ideal} {h h' : Fin 2} {t u : ℕ} (H : Half Q X V T st h' u) {v : Visit Ideal} (hv : Lies v h.val t) (hh : h' ≠ h) :
    Half Q X V T (st.take Q X V v) h' u := fun x d => by
  have := H x d
  dsimp only [State.take]
  rwa [put_miss _ h h' hh _ hv.o, put_miss _ h h' hh _ hv.o, put_miss _ h h' hh _ hv.o]

/-- A visit of a half's next tile takes it in, if what it reads as scores are the row's. -/
theorem Half.hit {T : ℕ} {st : State Ideal} {h : Fin 2} {t : ℕ} (H : Half Q X V T st h t) {v : Visit Ideal} (hv : Lies v h.val t) (ht : t < 16)
    (hs : ∀ x c : Fin 512, v.f (v.raw Q X) (ix2 x c) = seenAt Q X (rowOf h x) (512 * T + x.val) (512 * t + c.val)) :
    Half Q X V T (st.take Q X V v) h (t + 1) := fun x d => by
  dsimp only [State.take]
  rw [put_hit _ h _ hv.o, put_hit _ h _ hv.o, put_hit _ h _ hv.o]
  generalize v.f (v.raw Q X) = s at hs
  have hmax : ∀ d', newMax (window st.m v.o S512x128.size v.ho) s (ix2 x d')
      = max (st.m (ix2 (rowOf h x) d)) ((range 512).sup fun c => seenAt Q X (rowOf h x) (512 * T + x.val) (512 * t + c)) := fun d' => by
    rw [newMax_apply, window_rows st.m h _ hv.o, (H x d').1, (H x d).1]
    refine congrArg (max _) ?_
    rw [Finset.sup_congr rfl fun c _ => hs x c]
    exact le_antisymm (Finset.sup_le fun c _ => Finset.le_sup (f := fun c => seenAt Q X (rowOf h x) (512 * T + x.val) (512 * t + c)) (Finset.mem_range.2 c.isLt))
      (Finset.sup_le fun c hc => Finset.le_sup (f := fun c : Fin 512 => seenAt Q X (rowOf h x) (512 * T + x.val) (512 * t + c.val)) (Finset.mem_univ ⟨c, Finset.mem_range.1 hc⟩))
  have hw : ∀ c, weights (window st.m v.o S512x128.size v.ho) s (ix2 x c)
      = Ideal.exp2 (seenAt Q X (rowOf h x) (512 * T + x.val) (512 * t + c.val) - newMax (window st.m v.o S512x128.size v.ho) s (ix2 x d)) := fun c => by
    rw [weights_apply, hs, hmax, hmax]
  rw [newSum_apply, newAcc_apply, alpha_apply, window_rows st.m h _ hv.o, window_rows st.l h _ hv.o, window_rows st.a h _ hv.o,
    Finset.sum_congr rfl fun c _ => hw c, Finset.sum_congr rfl fun c _ => congrArg₂ (· * ·) (hw c) ((window_keys V t _ hv.ov _ c d (by omega)).trans (valueAt_of_lt V (by omega) d).symm)]
  have := (H x d).step 512 (hmax d)
  rw [Finset.sum_range, Finset.sum_range] at this
  exact this

/-- A tile before the diagonal is seen whole. -/
theorem Half.before {T : ℕ} {st : State Ideal} {h : Fin 2} {t : ℕ} (H : Half Q X V T st h t) {v : Visit Ideal} (hv : Lies v h.val t) (hT : T < 16) (ht : t < T) (hf : v.f = id) :
    Half Q X V T (st.take Q X V v) h (t + 1) :=
  H.hit hv (by omega) fun x c => by
    rw [hf]
    exact (raw_apply hv (by omega) x c).trans (if_pos (by omega)).symm

/-- The diagonal tile is seen where its mask keeps it. -/
theorem Half.diag {T : ℕ} {st : State Ideal} {h : Fin 2} (H : Half Q X V T st h T) {v : Visit Ideal} (hv : Lies v h.val T) (hT : T < 16) (hf : v.f = masked) :
    Half Q X V T (st.take Q X V v) h (T + 1) :=
  H.hit hv hT fun x c => by
    rw [hf]
    have hm : masked (v.raw Q X) (ix2 x c) = if diagMask (ix2 x c) = 1#1 then v.raw Q X (ix2 x c) else ⊥ := by
      pointwise [masked]
      rw [mask_bot]; rfl
    rw [hm, diagMask_apply, raw_apply hv hT, seenAt]
    by_cases hc : c.val / 64 ≤ x.val / 64
    · rw [if_pos hc, if_pos rfl, if_pos (by omega)]
    · rw [if_neg hc, if_neg (by decide), if_neg (by omega)]

/-- Before any tile. -/
theorem Half.init (T : ℕ) (h : Fin 2) : Half Q X V T State.init h 0 := fun x d => by
  have h0 : (Scalar.ofBits .f32 0x00000000#32 : Ideal .f32) = (0 : EReal) := Ideal.ofBits_zero _
  have hm : (State.init (F := Ideal)).m (ix2 (rowOf h x) d) = (⊥ : EReal) := mask_bot
  have hl : (State.init (F := Ideal)).l (ix2 (rowOf h x) d) = (0 : EReal) := h0
  have ha : (State.init (F := Ideal)).a (ix2 (rowOf h x) d) = (0 : EReal) := h0
  rw [hm, hl, ha]
  exact Holds.zero _ _

/-- Both halves: the upper's rows begin at tile `g` and have taken `a` tiles, the lower's at tile `15 - g` and have taken `b`. -/
def Both (Q : Vec Ideal S1024x256 .bf16) (X : Vec Ideal S1x1x8192x256 .bf16) (V : Vec Ideal S1x1x8192x128 .bf16) (g a b : ℕ) (st : State Ideal) : Prop :=
  Half Q X V g st 0 a ∧ Half Q X V (15 - g) st 1 b

variable [Facts]

/-- One of the first seven visits. -/
theorem Both.stepA {st : State Ideal} (i : grid0.Coords) (r : Fin 7) (b : BitVec 32) (h1 : BitVec.ofNat 32 r.val = b) (h2 : k0_off2_at r = (b, b)) (h4 : k0_off4_at r = (b, b))
    (H : Both Q X V (i 2).val (min r.val (i 2).val) (r.val - (i 2).val) st) :
    Both Q X V (i 2).val (min (r.val + 1) (i 2).val) (r.val + 1 - (i 2).val) (st.take Q X V (visitA i r b h1 h2 h4)) := by
  have hg : (i 2).val < 8 := (i 2).isLt
  have hr := r.isLt
  have hv := lies_A i r b h1 h2 h4
  by_cases hc : (i 2).val ≤ r.val
  · rw [if_pos hc, if_pos hc] at hv
    refine ⟨?_, ?_⟩
    · rw [show min (r.val + 1) (i 2).val = min r.val (i 2).val by omega]
      exact H.1.miss (h := 1) hv (by decide)
    · rw [show r.val + 1 - (i 2).val = r.val - (i 2).val + 1 by omega]
      exact H.2.before (h := 1) hv (by omega) (by omega) rfl
  · rw [if_neg hc, if_neg hc] at hv
    refine ⟨?_, ?_⟩
    · have h' := H.1
      rw [show min r.val (i 2).val = r.val by omega] at h'
      rw [show min (r.val + 1) (i 2).val = r.val + 1 by omega]
      exact h'.before (h := 0) hv (by omega) (by omega) rfl
    · rw [show r.val + 1 - (i 2).val = r.val - (i 2).val by omega]
      exact H.2.miss (h := 0) hv (by decide)

/-- One of the next eight. -/
theorem Both.stepB {st : State Ideal} (i : grid0.Coords) (r : Fin 9) (b : BitVec 32) (h : BitVec.ofNat 32 (7 + r.val) = b) (hr : r.val < 8)
    (H : Both Q X V (i 2).val (i 2).val (7 + r.val - (i 2).val) st) :
    Both Q X V (i 2).val (i 2).val (7 + (r.val + 1) - (i 2).val) (st.take Q X V (visitB id i r b h)) := by
  have hg : (i 2).val < 8 := (i 2).isLt
  refine ⟨H.1.miss (h := 1) (lies_B id i r b h) (by decide), ?_⟩
  rw [show 7 + (r.val + 1) - (i 2).val = 7 + r.val - (i 2).val + 1 by omega]
  exact H.2.before (h := 1) (lies_B id i r b h) (by omega) (by omega) rfl

/-- After all visits every row has taken in the tiles up to its own. -/
theorem final_both (i : grid0.Coords) : Both Q X V (i 2).val ((i 2).val + 1) (16 - (i 2).val) (final i Q X V) := by
  have hg : (i 2).val < 8 := (i 2).isLt
  have H0 : Both Q X V (i 2).val (min (0 : Fin 7).val (i 2).val) ((0 : Fin 7).val - (i 2).val) State.init := by
    rw [show min (0 : Fin 7).val (i 2).val = 0 from Nat.zero_min _, show (0 : Fin 7).val - (i 2).val = 0 from Nat.zero_sub _]
    exact ⟨Half.init _ _, Half.init _ _⟩
  have H7 := ((((((H0.stepA i 0 0#32 rfl rfl rfl).stepA i 1 1#32 rfl rfl rfl).stepA i 2 2#32 rfl rfl rfl).stepA i 3 3#32 rfl rfl rfl).stepA i 4 4#32 rfl rfl rfl).stepA i 5 5#32 rfl rfl rfl).stepA i 6 6#32 rfl rfl rfl
  rw [show min ((6 : Fin 7).val + 1) (i 2).val = (i 2).val from by show min (6 + 1) _ = _; omega] at H7
  have H15 := (((((((H7.stepB i 0 7#32 rfl (by decide)).stepB i 1 8#32 rfl (by decide)).stepB i 2 9#32 rfl (by decide)).stepB i 3 10#32 rfl (by decide)).stepB i 4 11#32 rfl (by decide)).stepB i 5 12#32 rfl
    (by decide)).stepB i 6 13#32 rfl (by decide)).stepB i 7 14#32 rfl (by decide)
  have hA := lies_C i
  have hB := lies_B masked i 8 15#32 rfl
  have HA := H15.1.diag (h := 0) hA (by omega) rfl
  have HA' := HA.miss (h := 1) hB (by decide)
  have HB := H15.2.miss (h := 0) hA (by decide)
  rw [show 7 + ((7 : Fin 9).val + 1) - (i 2).val = 15 - (i 2).val from rfl] at HB
  have HB' := HB.diag (h := 1) hB (by omega) rfl
  rw [show 15 - (i 2).val + 1 = 16 - (i 2).val by omega] at HB'
  exact ⟨HA', HB'⟩

/-- The tile of the sequence at which half `h` of grid point `g` begins. -/
def tileOf (h : Fin 2) (g : ℕ) : ℕ := if h = 0 then g else 15 - g

/-- After all visits every row has taken in every key: those past its own tile count nothing. -/
theorem final_row (i : grid0.Coords) (h : Fin 2) (x : Fin 512) (d : Fin 128) :
    Holds (seenAt Q X (rowOf h x) (512 * tileOf h (i 2).val + x.val)) (valueAt V d) 8192 ((final i Q X V).m (ix2 (rowOf h x) d)) ((final i Q X V).l (ix2 (rowOf h x) d)) ((final i Q X V).a (ix2 (rowOf h x) d)) := by
  have hg : (i 2).val < 8 := (i 2).isLt
  have H : Half Q X V (tileOf h (i 2).val) (final i Q X V) h (tileOf h (i 2).val + 1) := by
    have := final_both (Q := Q) (X := X) (V := V) i
    match h with
    | ⟨0, _⟩ => exact this.1
    | ⟨1, _⟩ =>
      have h2 := this.2
      rw [show 16 - (i 2).val = 15 - (i 2).val + 1 by omega] at h2
      exact h2
  have hT : tileOf h (i 2).val < 16 := by unfold tileOf; split <;> omega
  generalize tileOf h (i 2).val = T at H hT
  have := (H x d).extend (8192 - 512 * (T + 1)) fun c => if_neg (by omega)
  rwa [show 512 * (T + 1) + (8192 - 512 * (T + 1)) = 8192 by omega] at this

end

end Cert.KernelIdeal.Attn

end
-- ==== Proof.Prefix.lean ====
/-
  The arrays the host prepares for the attention kernel, read at an index: queries scaled and padded
  to 256, keys padded the same way, heads moved in front of the rows.
-/
module

public import proofs.«01_k».proof.Proof.Frame
public import Idealize.ShloMosaic.Lib.Pointwise
public import Idealize.ShloMosaic.Lib.Pipeline.Value
public import Idealize.ShloMosaic.Lib.StableHlo.Run

@[expose] public section

set_option maxRecDepth 16384

noncomputable section

namespace Cert.KernelIdeal.Attn

open Idealize.ShloMosaic Idealize.ShloMosaic.TcCoe Idealize.ShloMosaic.StableHlo
open Cert.KernelIdeal Cert.KernelIdeal.Gen

/-- Queries scaled by the softmax scale and by `1 / log 2`. -/
def prescaled (q : FVec Ideal S8x8192x4x192 .f32) : FVec Ideal S8x8192x4x192 .f32 :=
  Host.divf (mulf q (broadcastInDim S8x8192x4x192 ![] bcast_S_S8x8192x4x192 (constant S_ .f32 0x3D93CD3A#32)))
    (broadcastInDim S8x8192x4x192 ![] bcast_S_S8x8192x4x192 (id (Host.log (constant S_ .f32 0x40000000#32))))

/-- The last 64 entries of each row, split in halves with 32 zeros after each. -/
def spread (x : FVec Ideal S8x8192x4x64 .f32) : FVec Ideal S8x8192x4x128 .f32 :=
  concatenate S8x8192x4x128 3
    [⟨S8x8192x4x32, extractStridedSlice S8x8192x4x32 ![0, 0, 0, 0] x slices_S8x8192x4x64_S8x8192x4x32_0_0_0_0⟩,
     ⟨S8x8192x4x32, broadcastInDim S8x8192x4x32 ![] bcast_S_S8x8192x4x32 (constant (F := Ideal) S_ .f32 0x00000000#32)⟩,
     ⟨S8x8192x4x32, extractStridedSlice S8x8192x4x32 ![0, 0, 0, 32] x slices_S8x8192x4x64_S8x8192x4x32_0_0_0_32⟩,
     ⟨S8x8192x4x32, broadcastInDim S8x8192x4x32 ![] bcast_S_S8x8192x4x32 (constant (F := Ideal) S_ .f32 0x00000000#32)⟩]
    concatenates_S8x8192x4x32_S8x8192x4x32_S8x8192x4x32_S8x8192x4x32_S8x8192x4x128_d3

/-- Rows of 192 padded to 256, heads in front of rows. -/
def padded (x : FVec Ideal S8x8192x4x192 .f32) : FVec Ideal S8x4x8192x256 .bf16 :=
  truncf .bf16 (transpose S8x4x8192x256 [0, 2, 1, 3]
    (concatenate S8x8192x4x256 3
      [⟨S8x8192x4x128, extractStridedSlice S8x8192x4x128 ![0, 0, 0, 0] x slices_S8x8192x4x192_S8x8192x4x128_0_0_0_0⟩,
       ⟨S8x8192x4x128, spread (extractStridedSlice S8x8192x4x64 ![0, 0, 0, 128] x slices_S8x8192x4x192_S8x8192x4x64_0_0_0_128)⟩]
      concatenates_S8x8192x4x128_S8x8192x4x128_S8x8192x4x256_d3)
    transposes_S8x8192x4x256_S8x4x8192x256_0_2_1_3) bitsLt_bf16_f32

/-- Values with heads in front of rows. -/
def headed (v : FVec Ideal S8x8192x4x128 .f32) : FVec Ideal S8x4x8192x128 .bf16 :=
  truncf .bf16 (transpose S8x4x8192x128 [0, 2, 1, 3] v transposes_S8x8192x4x128_S8x4x8192x128_0_2_1_3) bitsLt_bf16_f32

variable (m : (ℓ : Loc nD τ sig) → Buf (Elt Ideal) ℓ) (c : Dev nD)

/-- The values the kernel reads. -/
theorem V_values : V m c main_v25 = headed (m ((c : Thread nD τ).loc main_arg2)) := by
  show StableHlo.after hostOps0 _ _ = _
  simp only [hostOps0, List.flatten_cons, List.flatten_nil, List.append_nil, List.cons_append, List.nil_append]
  after_results_simp
  rfl

/-- The keys the kernel reads. -/
theorem V_keys : V m c main_v23 = padded (m ((c : Thread nD τ).loc main_arg1)) := by
  show StableHlo.after hostOps0 _ _ = _
  simp only [hostOps0, List.flatten_cons, List.flatten_nil, List.append_nil, List.cons_append, List.nil_append]
  after_results_simp
  rfl

/-- The queries the kernel reads. -/
theorem V_queries : V m c main_v14 = padded (prescaled (m ((c : Thread nD τ).loc main_arg0))) := by
  show StableHlo.after hostOps0 _ _ = _
  simp only [hostOps0, List.flatten_cons, List.flatten_nil, List.append_nil, List.cons_append, List.nil_append]
  after_results_simp
  rfl

theorem headed_apply (v : FVec Ideal S8x8192x4x128 .f32) (b : Fin 8) (h : Fin 4) (n : Fin 8192) (d : Fin 128) :
    headed v (ix4 b h n d) = v (ix4 b n h d) := by
  pointwise [headed]

theorem prescaled_apply (q : FVec Ideal S8x8192x4x192 .f32) (b : Fin 8) (n : Fin 8192) (h : Fin 4) (e : Fin 192) :
    prescaled q (ix4 b n h e) = Ideal.div (q (ix4 b n h e) * Ideal.ofBits .f32 0x3D93CD3A#32) (Ideal.log (Ideal.ofBits .f32 0x40000000#32)) := by
  pointwise [prescaled]
  rfl

theorem padded_apply (x : FVec Ideal S8x8192x4x192 .f32) (b : Fin 8) (h : Fin 4) (n : Fin 8192) (e : Fin 256) :
    padded x (ix4 b h n e) = if hA : e.val < 160 then x (ix4 b n h ⟨e.val, by omega⟩)
      else if hB : 192 ≤ e.val ∧ e.val < 224 then x (ix4 b n h ⟨e.val - 32, by omega⟩) else 0 := by
  pointwise [padded, spread]
  repeat' split
  all_goals first
    | rfl
    | omega
    | (congr 2; apply Fin.ext; simp only []; omega)

end Cert.KernelIdeal.Attn

end
-- ==== Proof.Reference.lean ====
/-
  The reference's result, stage by stage and read at an index: a masked softmax over the keys, the
  values summed under it, and the sixteen groups of rows laid out in pairs.
-/
module

public import proofs.«01_k».proof.Proof.Softmax
public import proofs.«01_k».proof.Proof.Gen.ReferenceIdeal.Run
public import Idealize.ShloMosaic.Lib.Pointwise
public import Idealize.ShloMosaic.Lib.Pipeline.Value

@[expose] public section

set_option maxRecDepth 16384

noncomputable section

namespace Cert.ReferenceIdeal.Attn

open Cert.ReferenceIdeal Cert.ReferenceIdeal.Gen Idealize.ShloMosaic Idealize.ShloMosaic.TcCoe
open Finset (range)

/-! ## The stages -/

/-- Each position's chunk of 64. -/
def chunks : IVec S8192 32 :=
  select (andi (cmpi .ne (signi (iotaInDim S8192 32 0)) (broadcastInDim S8192 ![] bcast_S_S8192 (signi (id (constantI S_ 32 64#32)))))
      (cmpi .ne (Host.remsi (iotaInDim S8192 32 0) (broadcastInDim S8192 ![] bcast_S_S8192 (id (constantI S_ 32 64#32)))) (broadcastInDim S8192 ![] bcast_S_S8192 (constantI S_ 32 0#32))))
    (subi (Host.divsi (iotaInDim S8192 32 0) (broadcastInDim S8192 ![] bcast_S_S8192 (id (constantI S_ 32 64#32)))) (broadcastInDim S8192 ![] bcast_S_S8192 (constantI S_ 32 1#32)))
    (Host.divsi (iotaInDim S8192 32 0) (broadcastInDim S8192 ![] bcast_S_S8192 (id (constantI S_ 32 64#32))))

/-- Which keys each query sees. -/
def keep : IVec S8192x8192 1 :=
  cmpi .sle (broadcastInDim S8192x8192 ![0, 1] bcast_S1x8192_S8192x8192_0_1 (broadcastInDim S1x8192 ![1] bcast_S8192_S1x8192_1 chunks))
    (broadcastInDim S8192x8192 ![0, 1] bcast_S8192x1_S8192x8192_0_1 (broadcastInDim S8192x1 ![0] bcast_S8192_S8192x1_0 chunks))

/-- The scaled scores, minus infinity at the keys not seen. -/
def scores (q k : FVec Ideal S8x8192x4x192 .f32) : FVec Ideal S8x4x8192x8192 .f32 :=
  select (broadcastInDim S8x4x8192x8192 ![2, 3] bcast_S8192x8192_S8x4x8192x8192_2_3 keep)
    (mulf (Host.dotGeneral dot_S8x8192x4x192_S8x8192x4x192_S8x4x8192x8192_3_3_1_1_02_02 none q k) (broadcastInDim S8x4x8192x8192 ![] bcast_S_S8x4x8192x8192 (constant S_ .f32 0x3D93CD3A#32)))
    (broadcastInDim S8x4x8192x8192 ![] bcast_S_S8x4x8192x8192 (id (constant S_ .f32 0xFF800000#32)))

/-- Each row's largest score. -/
def rowMax (s : FVec Ideal S8x4x8192x8192 .f32) : FVec Ideal S8x4x8192 .f32 :=
  maximumf (broadcastInDim S8x4x8192 ![] bcast_S_S8x4x8192 (constant S_ .f32 0xFF800000#32)) (Host.reduce FloatOps.maximumf s (constant S_ .f32 0xFF800000#32) reducesTo_S8x4x8192x8192_S8x4x8192_d3 h_S_)

/-- The exponentials of the scores less the row's largest. -/
def expd (s : FVec Ideal S8x4x8192x8192 .f32) (M : FVec Ideal S8x4x8192 .f32) : FVec Ideal S8x4x8192x8192 .f32 :=
  Host.exp (subf s (broadcastInDim S8x4x8192x8192 ![0, 1, 2, 3] bcast_S8x4x8192x1_S8x4x8192x8192_0_1_2_3 (broadcastInDim S8x4x8192x1 ![0, 1, 2] bcast_S8x4x8192_S8x4x8192x1_0_1_2 M)))

/-- The softmax. -/
def probs (e : FVec Ideal S8x4x8192x8192 .f32) : FVec Ideal S8x4x8192x8192 .f32 :=
  Host.divf e (broadcastInDim S8x4x8192x8192 ![0, 1, 2, 3] bcast_S8x4x8192x1_S8x4x8192x8192_0_1_2_3
    (broadcastInDim S8x4x8192x1 ![0, 1, 2] bcast_S8x4x8192_S8x4x8192x1_0_1_2 (Host.reduceAdd e (constant S_ .f32 0x00000000#32) reducesTo_S8x4x8192x8192_S8x4x8192_d3 h_S_)))

/-- The values summed under the softmax. -/
def summed (v : FVec Ideal S8x8192x4x128 .f32) (p : FVec Ideal S8x4x8192x8192 .f32) : FVec Ideal S8x8192x4x128 .f32 :=
  transpose S8x8192x4x128 [0, 3, 1, 2] (Host.dotGeneral dot_S8x8192x4x128_S8x4x8192x8192_S8x4x128x8192_1_3_3_2_02_01 none v p) transposes_S8x4x128x8192_S8x8192x4x128_0_3_1_2

/-- Rows in groups of 512, heads side by side; group `g` paired with group `15 - g`. -/
def paired (a : FVec Ideal S8x8192x4x128 .f32) : FVec Ideal S8x2x8x512x512 .bf16 :=
  truncf .bf16 (concatenate S8x2x8x512x512 1
    [⟨S8x1x8x512x512, broadcastInDim S8x1x8x512x512 ![0, 2, 3, 4] bcast_S8x8x512x512_S8x1x8x512x512_0_2_3_4
        (extractStridedSlice S8x8x512x512 ![0, 0, 0, 0] (shapeCast _ a shapeCasts_S8x8192x4x128_S8x16x512x512) slices_S8x16x512x512_S8x8x512x512_0_0_0_0)⟩,
     ⟨S8x1x8x512x512, broadcastInDim S8x1x8x512x512 ![0, 2, 3, 4] bcast_S8x8x512x512_S8x1x8x512x512_0_2_3_4
        (Host.reverse [1] (extractStridedSlice S8x8x512x512 ![0, 8, 0, 0] (shapeCast _ a shapeCasts_S8x8192x4x128_S8x16x512x512) slices_S8x16x512x512_S8x8x512x512_0_8_0_0))⟩]
    concatenates_S8x1x8x512x512_S8x1x8x512x512_S8x2x8x512x512_d1) bitsLt_bf16_f32

/-- The reference's result is its stages composed. -/
theorem result_eq (m : (ℓ : Loc nD τ sig) → Buf (Elt Ideal) ℓ) (c : Dev nD) :
    Cert.ReferenceIdeal.Value.res_out0 m c
      = paired (summed (m ((c.tc : Thread nD τ).loc main_arg2))
          (probs (expd (scores (m ((c.tc : Thread nD τ).loc main_arg0)) (m ((c.tc : Thread nD τ).loc main_arg1)))
            (rowMax (scores (m ((c.tc : Thread nD τ).loc main_arg0)) (m ((c.tc : Thread nD τ).loc main_arg1))))))) := by
  unfold Cert.ReferenceIdeal.Value.res_out0 Cert.ReferenceIdeal.Value.res_main_v31
  rfl

/-! ## The stages at an index -/

/-- A word's sign, as a word. -/
def signWord (x : BitVec 32) : BitVec 32 := if x = 0 then 0 else if x.msb = true then -1 else 1

/-- A position's chunk, as the reference's words compute it. -/
def chunkWord (x : BitVec 32) : BitVec 32 :=
  Scalar.select (IntOp.andi (IntOp.cmpi .ne (signWord x) (signWord 64#32)) (IntOp.cmpi .ne (IntOp.remsi .host x 64#32) 0#32))
    (IntOp.subi (IntOp.divsi .host x 64#32) 1#32) (IntOp.divsi .host x 64#32)

theorem chunkWord_eq : ∀ n : Fin 8192, chunkWord (BitVec.ofNat 32 n.val) = BitVec.ofNat 32 (n.val / 64) := by decide +kernel

theorem chunks_apply (n : Fin 8192) : chunks (ix1 n) = BitVec.ofNat 32 (n.val / 64) := by
  rw [← chunkWord_eq n]
  pointwise [chunks]
  rfl

theorem sle_words : ∀ a b : Fin 128, IntOp.cmpi .sle (BitVec.ofNat 32 a.val) (BitVec.ofNat 32 b.val) = if a.val ≤ b.val then 1#1 else 0#1 := by
  decide +kernel

theorem scores_apply (q k : FVec Ideal S8x8192x4x192 .f32) (b : Fin 8) (h : Fin 4) (n j : Fin 8192) :
    scores q k (ix4 b h n j) = if j.val / 64 ≤ n.val / 64 then (∑ e : Fin 192, q (ix4 b n h e) * k (ix4 b j h e)) * Ideal.ofBits .f32 0x3D93CD3A#32 else ⊥ := by
  have hbot : Ideal.ofBits .f32 0xFF800000#32 = ⊥ := by simp [Ideal.ofBits, Ideal.ieee]
  pointwise [scores, keep]
  rw [chunks_apply, chunks_apply]
  rw [sle_words ⟨j.val / 64, by omega⟩ ⟨n.val / 64, by omega⟩]
  show Scalar.select _ _ (Ideal.ofBits .f32 0xFF800000#32) = _
  rw [hbot]
  split <;> rfl

/-- The maximum with minus infinity broadcast, at an index. -/
theorem max_bot_apply (R : FVec Ideal S8x4x8192 .f32) (i : S8x4x8192.Idx) :
    maximumf (broadcastInDim S8x4x8192 ![] bcast_S_S8x4x8192 (constant S_ .f32 0xFF800000#32)) R i = R i := by
  have hbot : Ideal.ofBits .f32 0xFF800000#32 = ⊥ := by simp [Ideal.ofBits, Ideal.ieee]
  show max (Ideal.ofBits .f32 0xFF800000#32) (R i) = _
  rw [hbot]
  exact bot_sup_eq _

/-- A largest entry along the last of four axes, at an index. -/
theorem reduce_last {A B C D : ℕ} (s : FVec Ideal ⟨4, ![A, B, C, D]⟩ .f32) (init : FVec Ideal S_ .f32) (h0 : init (Shape.Idx.first h_S_) = ⊥)
    (h' : Shape.ReducesTo ⟨4, ![A, B, C, D]⟩ [3] ⟨3, ![A, B, C]⟩) (hr : Shape.Reduces ⟨4, ![A, B, C, D]⟩ [3] ⟨3, ![A, B, C]⟩)
    (a : Fin A) (b : Fin B) (c : Fin C) :
    Host.reduce (FloatOps.maximumf (F := Ideal) (φ := .f32)) s init h' h_S_ (ix3 a b c) = Finset.univ.sup fun j : Fin D => s (ix4 a b c j) := by
  rw [Host.reduce_eq_fold_single (FloatOps.maximumf (F := Ideal) (φ := .f32)) s _ h' hr, h0]
  have hx : ∀ j : Fin D, hr.lift (ix3 a b c) j = ix4 a b c j := fun j => by
    funext x; fin_cases x <;> rfl
  exact Finset.sup_congr rfl fun j _ => congrArg s (hx j)

theorem rowMax_apply (s : FVec Ideal S8x4x8192x8192 .f32) (b : Fin 8) (h : Fin 4) (n : Fin 8192) : rowMax s (ix3 b h n) = Finset.univ.sup fun j : Fin 8192 => s (ix4 b h n j) := by
  unfold rowMax
  rw [max_bot_apply]
  refine reduce_last s _ ?_ _ (by decide) b h n
  show Ideal.ofBits .f32 0xFF800000#32 = ⊥
  simp [Ideal.ofBits, Ideal.ieee]

theorem expd_apply (s : FVec Ideal S8x4x8192x8192 .f32) (M : FVec Ideal S8x4x8192 .f32) (b : Fin 8) (h : Fin 4) (n j : Fin 8192) :
    expd s M (ix4 b h n j) = Ideal.exp (s (ix4 b h n j) - M (ix3 b h n)) := by
  pointwise [expd]

theorem probs_apply (e : FVec Ideal S8x4x8192x8192 .f32) (b : Fin 8) (h : Fin 4) (n j : Fin 8192) :
    probs e (ix4 b h n j) = Ideal.div (e (ix4 b h n j)) (∑ i : Fin 8192, e (ix4 b h n i)) := by
  pointwise [probs]

theorem summed_apply (v : FVec Ideal S8x8192x4x128 .f32) (p : FVec Ideal S8x4x8192x8192 .f32) (b : Fin 8) (n : Fin 8192) (h : Fin 4) (d : Fin 128) :
    summed v p (ix4 b n h d) = ∑ j : Fin 8192, v (ix4 b j h d) * p (ix4 b h n j) := by
  pointwise [summed]

theorem paired_apply (a : FVec Ideal S8x8192x4x128 .f32) (b : Fin 8) (s : Fin 2) (g : Fin 8) (r c : Fin 512) (n : Fin 8192) (hn : n.val = 512 * (if s = 0 then g.val else 15 - g.val) + r.val)
    (h : Fin 4) (d : Fin 128) (hc : c.val = 128 * h.val + d.val) : paired a (ix5 b s g r c) = a (ix4 b n h d) := by
  pointwise [paired]
  have hs : s = 0 ∨ s = 1 := by omega
  rcases hs with rfl | rfl
  · simp only [if_true] at hn
    simp only [Fin.val_zero, Nat.zero_lt_one, dite_true]
    congr 1
    congr 1 <;> apply Fin.ext <;> simp <;> omega
  · simp at hn
    simp
    congr 1
    congr 1 <;> apply Fin.ext <;> simp [Fin.rev] <;> omega

end Cert.ReferenceIdeal.Attn

end
-- ==== Proof.Value.lean ====
/-
  The attention kernel's result is the reference's: at every point the block stored is the reference's
  result under the block's place, and the blocks cover the array.
-/
module

public import proofs.«01_k».proof.Proof.Rows
public import proofs.«01_k».proof.Proof.Prefix
public import proofs.«01_k».proof.Proof.Reference
public import Idealize.ShloMosaic.Lib.Pipeline.ValueKit

@[expose] public section

set_option maxRecDepth 16384

noncomputable section

namespace Cert.KernelIdeal.Attn

open Idealize.ShloMosaic Idealize.ShloMosaic.TcCoe
open Cert.KernelIdeal Cert.KernelIdeal.Gen Idealize.SL.Sem
open Cert.ReferenceIdeal.Attn renaming scores → refScores
open Cert.ReferenceIdeal.Attn (rowMax expd probs summed paired)
open Softmax (Holds)
open Finset (range)

/-! ## The blocks' places -/

/-- The grid's points: batch, head and group of rows from the point's number, and each window's block there. -/
theorem points : ∀ t : Fin cfg0.N, (grid0.coords t 2).val = t.val % 8
    ∧ (win0_0.index t 0 = t.val / 32 ∧ win0_0.index t 1 = t.val / 8 % 4 ∧ win0_0.index t 2 = t.val % 8 ∧ win0_0.index t 3 = 0)
    ∧ (win0_1.index t 0 = t.val / 32 ∧ win0_1.index t 1 = t.val / 8 % 4 ∧ win0_1.index t 2 = 15 - t.val % 8 ∧ win0_1.index t 3 = 0)
    ∧ (win0_2.index t 0 = t.val / 32 ∧ win0_2.index t 1 = t.val / 8 % 4 ∧ win0_2.index t 2 = 0 ∧ win0_2.index t 3 = 0)
    ∧ (win0_3.index t 0 = t.val / 32 ∧ win0_3.index t 1 = t.val / 8 % 4 ∧ win0_3.index t 2 = 0 ∧ win0_3.index t 3 = 0)
    ∧ (win0_4.index t 0 = t.val / 32 ∧ win0_4.index t 1 = 0 ∧ win0_4.index t 2 = t.val % 8 ∧ win0_4.index t 3 = 0 ∧ win0_4.index t 4 = t.val / 8 % 4) := by
  decide +kernel

variable (m : (ℓ : Loc nD τ sig) → Buf (Elt Ideal) ℓ) (c : Dev nD)

/-- A point's batch, head and group. -/
def batchOf (t : Fin cfg0.N) : Fin 8 := ⟨t.val / 32, by have : t.val < 256 := t.isLt; omega⟩
def headOf (t : Fin cfg0.N) : Fin 4 := ⟨t.val / 8 % 4, by omega⟩
def groupOf (t : Fin cfg0.N) : Fin 8 := ⟨t.val % 8, by omega⟩

/-- The first block of queries: the group's rows. -/
theorem iblk0_apply (t : Fin cfg0.N) (x : Fin 512) (e : Fin 256) (n : Fin 8192) (hn : n.val = 512 * (t.val % 8) + x.val) :
    iblk m c 0 t (ix4 (0 : Fin 1) (0 : Fin 1) x e) = padded (prescaled (m ((c : Thread nD τ).loc main_arg0))) (ix4 (batchOf t) (headOf t) n e) := by
  obtain ⟨-, ⟨h0, h1, h2, h3⟩, -⟩ := points t
  rw [← V_queries]
  blk_ext [iblk, h0, h1, h2, h3, batchOf, headOf, hn]

/-- The second: the rows of the group paired with it. -/
theorem iblk1_apply (t : Fin cfg0.N) (x : Fin 512) (e : Fin 256) (n : Fin 8192) (hn : n.val = 512 * (15 - t.val % 8) + x.val) :
    iblk m c 1 t (ix4 (0 : Fin 1) (0 : Fin 1) x e) = padded (prescaled (m ((c : Thread nD τ).loc main_arg0))) (ix4 (batchOf t) (headOf t) n e) := by
  obtain ⟨-, -, ⟨h0, h1, h2, h3⟩, -⟩ := points t
  rw [← V_queries]
  blk_ext [iblk, h0, h1, h2, h3, batchOf, headOf, hn]

/-- The keys of the batch and head. -/
theorem iblk2_apply (t : Fin cfg0.N) (j : Fin 8192) (e : Fin 256) :
    iblk m c 2 t (ix4 (0 : Fin 1) (0 : Fin 1) j e) = padded (m ((c : Thread nD τ).loc main_arg1)) (ix4 (batchOf t) (headOf t) j e) := by
  obtain ⟨-, -, -, ⟨h0, h1, h2, h3⟩, -⟩ := points t
  rw [← V_keys]
  blk_ext [iblk, h0, h1, h2, h3, batchOf, headOf]

/-- The values of the batch and head. -/
theorem iblk3_apply (t : Fin cfg0.N) (j : Fin 8192) (d : Fin 128) :
    iblk m c 3 t (ix4 (0 : Fin 1) (0 : Fin 1) j d) = headed (m ((c : Thread nD τ).loc main_arg2)) (ix4 (batchOf t) (headOf t) j d) := by
  obtain ⟨-, -, -, -, ⟨h0, h1, h2, h3⟩, -⟩ := points t
  rw [← V_values]
  blk_ext [iblk, h0, h1, h2, h3, batchOf, headOf]

/-- A query block's rows, its two leading axes dropped. -/
theorem rows_apply (Y : Vec Ideal S1x1x512x256 .bf16) (x : Fin 512) (e : Fin 256) :
    shapeCast S512x256 Y shapeCasts_S1x1x512x256_S512x256 (ix2 x e) = Y (ix4 (0 : Fin 1) (0 : Fin 1) x e) := by
  pointwise []

/-- The stacked queries' rows: the first block's, then the second's. -/
theorem queries_first (Y0 Y1 : Vec Ideal S1x1x512x256 .bf16) (x : Fin 512) (e : Fin 256) : queries Y0 Y1 (ix2 (rowOf 0 x) e) = Y0 (ix4 (0 : Fin 1) (0 : Fin 1) x e) := by
  have hx : (rowOf 0 x).val < 512 := by show 512 * 0 + x.val < 512; omega
  refine (dif_pos hx).trans ((rows_apply Y0 _ e).trans (congrArg (fun z => Y0 (ix4 (0 : Fin 1) (0 : Fin 1) z e)) (Fin.ext ?_)))
  show 512 * 0 + x.val = x.val
  omega

theorem queries_second (Y0 Y1 : Vec Ideal S1x1x512x256 .bf16) (x : Fin 512) (e : Fin 256) : queries Y0 Y1 (ix2 (rowOf 1 x) e) = Y1 (ix4 (0 : Fin 1) (0 : Fin 1) x e) := by
  have hx : ¬ (rowOf 1 x).val < 512 := by show ¬ 512 * 1 + x.val < 512; omega
  refine (dif_neg hx).trans ((rows_apply Y1 _ e).trans (congrArg (fun z => Y1 (ix4 (0 : Fin 1) (0 : Fin 1) z e)) (Fin.ext ?_)))
  show 512 * 1 + x.val - 512 = x.val
  omega

/-- A row of the stacked queries is the sequence's row of its half's tile. -/
theorem queries_apply (t : Fin cfg0.N) (s : Fin 2) (x : Fin 512) (e : Fin 256) (n : Fin 8192) (hn : n.val = 512 * tileOf s (t.val % 8) + x.val) :
    queries (iblk m c 0 t) (iblk m c 1 t) (ix2 (rowOf s x) e) = padded (prescaled (m ((c : Thread nD τ).loc main_arg0))) (ix4 (batchOf t) (headOf t) n e) := by
  have hs : s = 0 ∨ s = 1 := by omega
  rcases hs with rfl | rfl
  · exact (queries_first _ _ x e).trans (iblk0_apply m c t x e n hn)
  · exact (queries_second _ _ x e).trans (iblk1_apply m c t x e n hn)

/-! ## The scores -/

/-- The zeros between and after the spread entries drop out of a sum. -/
theorem spread_sum (t : ℕ → EReal) :
    ∑ e ∈ range 256, (if e < 160 then t e else if 192 ≤ e ∧ e < 224 then t (e - 32) else 0) = ∑ e ∈ range 192, t e := by
  rw [show 256 = 160 + (32 + (32 + 32)) from rfl, show 192 = 160 + 32 from rfl, Finset.sum_range_add, Finset.sum_range_add, Finset.sum_range_add, Finset.sum_range_add]
  have h1 : ∀ f : ℕ → EReal, (∀ x < 160, f x = t x) → ∑ x ∈ range 160, f x = ∑ x ∈ range 160, t x := fun f hf => Finset.sum_congr rfl fun x hx => hf x (Finset.mem_range.1 hx)
  have h2 : ∀ f : ℕ → EReal, (∀ x < 32, f x = t (160 + x)) → ∑ x ∈ range 32, f x = ∑ x ∈ range 32, t (160 + x) := fun f hf => Finset.sum_congr rfl fun x hx => hf x (Finset.mem_range.1 hx)
  have h3 : ∀ f : ℕ → EReal, (∀ x < 32, f x = 0) → ∑ x ∈ range 32, f x = 0 := fun f hf => Finset.sum_eq_zero fun x hx => hf x (Finset.mem_range.1 hx)
  refine (congrArg₂ _ (h1 _ fun x hx => if_pos hx) (congrArg₂ _ (h3 _ fun x hx => ?_) (congrArg₂ _ (h2 _ fun x hx => ?_) (h3 _ fun x hx => ?_)))).trans (by rw [zero_add, add_zero])
  · rw [if_neg (by omega), if_neg (by omega)]
  · rw [if_neg (by omega), if_pos (by omega), show 160 + (32 + x) - 32 = 160 + x by omega]
  · rw [if_neg (by omega), if_neg (by omega)]

/-- A sum of reals, as an extended real. -/
theorem coe_sum {ι : Type} [DecidableEq ι] (J : Finset ι) (f : ι → ℝ) : ((∑ j ∈ J, f j : ℝ) : EReal) = ∑ j ∈ J, (f j : EReal) := by
  induction J using Finset.induction_on with
  | empty => simp
  | insert a J ha ih => rw [Finset.sum_insert ha, Finset.sum_insert ha, EReal.coe_add, ih]

/-- A largest value over the naturals below `n`, over `Fin n`. -/
theorem sup_range (n : ℕ) (s : ℕ → EReal) : (range n).sup s = Finset.univ.sup fun j : Fin n => s j.val := by
  rw [← Nat.Iio_eq_range, ← Fin.map_valEmbedding_univ, Finset.sup_map]
  rfl

/-- The kernel's product of a padded query and a padded key is a real, and `log 2` times it is the reference's scaled product. -/
theorem padded_dot (q k : FVec Ideal S8x8192x4x192 .f32) (hq : ∀ i, ∃ r : ℝ, q i = r) (hk : ∀ i, ∃ r : ℝ, k i = r) (b : Fin 8) (h : Fin 4) (n j : Fin 8192) :
    ∃ r : ℝ, ∑ e : Fin 256, padded (prescaled q) (ix4 b h n e) * padded k (ix4 b h j e) = r
      ∧ (∑ e : Fin 192, q (ix4 b n h e) * k (ix4 b j h e)) * Ideal.ofBits .f32 0x3D93CD3A#32 = (Real.log 2 : ℝ) * (r : EReal) := by
  choose qr hqr using hq
  choose kr hkr using hk
  obtain ⟨s, hs⟩ : ∃ r : ℝ, Ideal.ofBits .f32 0x3D93CD3A#32 = r := ⟨9686330 * (2 ^ 27)⁻¹, by simp [Ideal.ofBits, Ideal.ieee]⟩
  have h2 : Ideal.ofBits .f32 0x40000000#32 = ((2 : ℝ) : EReal) := by
    simp [Ideal.ofBits, Ideal.ieee]
    rw [← EReal.coe_mul]
    norm_num
  have hl : Ideal.log ((2 : ℝ) : EReal) = (Real.log 2 : ℝ) := by
    show (if (2 : ℝ) ≤ 0 then (⊥ : EReal) else ((Real.log 2 : ℝ) : EReal)) = _
    rw [if_neg (by norm_num)]
  have hl0 : Real.log 2 ≠ 0 := (Real.log_pos one_lt_two).ne'
  have hp : ∀ e, prescaled q (ix4 b n h e) = ((qr (ix4 b n h e) * s * (1 / Real.log 2) : ℝ) : EReal) := fun e => by
    rw [prescaled_apply, h2, hl, Ideal.div_coe hl0, hqr, hs, ← EReal.coe_mul, ← EReal.coe_mul]
  let t : ℕ → EReal := fun e => if he : e < 192 then ((qr (ix4 b n h ⟨e, he⟩) * s * (1 / Real.log 2) * kr (ix4 b j h ⟨e, he⟩) : ℝ) : EReal) else 0
  have ht : ∀ e (he : e < 192), t e = prescaled q (ix4 b n h ⟨e, he⟩) * k (ix4 b j h ⟨e, he⟩) := fun e he => by
    rw [hp, hkr, ← EReal.coe_mul]; exact dif_pos he
  refine ⟨∑ e : Fin 192, qr (ix4 b n h e) * s * (1 / Real.log 2) * kr (ix4 b j h e), ?_, ?_⟩
  · have : ∀ e : Fin 256, padded (prescaled q) (ix4 b h n e) * padded k (ix4 b h j e) = if e.val < 160 then t e.val else if 192 ≤ e.val ∧ e.val < 224 then t (e.val - 32) else 0 := fun e => by
      rw [padded_apply, padded_apply]
      by_cases hA : e.val < 160
      · rw [dif_pos hA, dif_pos hA, if_pos hA, ht _ (by omega)]
      · rw [dif_neg hA, dif_neg hA, if_neg hA]
        by_cases hB : 192 ≤ e.val ∧ e.val < 224
        · rw [dif_pos hB, dif_pos hB, if_pos hB, ht _ (by omega)]
        · rw [dif_neg hB, dif_neg hB, if_neg hB, zero_mul]
    rw [Finset.sum_congr rfl fun e _ => this e, ← Finset.sum_range (fun e => if e < 160 then t e else if 192 ≤ e ∧ e < 224 then t (e - 32) else 0), spread_sum, Finset.sum_range, coe_sum]
    exact Finset.sum_congr rfl fun e _ => dif_pos e.isLt
  · have : ∀ e : Fin 192, q (ix4 b n h e) * k (ix4 b j h e) = ((qr (ix4 b n h e) * kr (ix4 b j h e) : ℝ) : EReal) := fun e => by
      rw [hqr, hkr, ← EReal.coe_mul]
    rw [Finset.sum_congr rfl fun e _ => this e, ← coe_sum, hs, ← EReal.coe_mul, ← EReal.coe_mul, Finset.sum_mul, Finset.mul_sum]
    refine congrArg _ (Finset.sum_congr rfl fun e _ => ?_)
    field_simp

/-! ## The blocks stored -/

/-- The kernel's arguments: queries, keys, values. -/
abbrev argQ : FVec Ideal S8x8192x4x192 .f32 := m ((c : Thread nD τ).loc main_arg0)
abbrev argK : FVec Ideal S8x8192x4x192 .f32 := m ((c : Thread nD τ).loc main_arg1)
abbrev argV : FVec Ideal S8x8192x4x128 .f32 := m ((c : Thread nD τ).loc main_arg2)

/-- The reference's result, of the kernel's arguments. -/
def result : FVec Ideal S8x2x8x512x512 .bf16 :=
  paired (summed (argV m c)
    (probs (expd (refScores (argQ m c) (argK m c))
      (rowMax (refScores (argQ m c) (argK m c))))))

/-- The block stored at a point holds the reference's result: half `s`, row `x`, entry `d`. -/
theorem block_apply (hq : ∀ i, ∃ r : ℝ, argQ m c i = r) (hk : ∀ i, ∃ r : ℝ, argK m c i = r)
    (t : Fin cfg0.N) (s : Fin 2) (x : Fin 512) (d : Fin 128) (n : Fin 8192) (hn : n.val = 512 * tileOf s (t.val % 8) + x.val) :
    block m c t (ix5 (0 : Fin 1) s (0 : Fin 1) x d)
      = ∑ j : Fin 8192, argV m c (ix4 (batchOf t) j (headOf t) d)
          * probs (expd (refScores (argQ m c) (argK m c))
              (rowMax (refScores (argQ m c) (argK m c)))) (ix4 (batchOf t) (headOf t) n j) := by
  have hi : (grid0.coords t 2).val = t.val % 8 := (points t).1
  have H := final_row (Q := queries (iblk m c 0 t) (iblk m c 1 t)) (X := iblk m c 2 t) (V := iblk m c 3 t) (grid0.coords t) s x d
  rw [hi, ← hn] at H
  have hS : ∀ j : Fin 8192, scoreAt (queries (iblk m c 0 t) (iblk m c 1 t)) (iblk m c 2 t) (rowOf s x) j.val
      = ∑ e : Fin 256, padded (prescaled (argQ m c)) (ix4 (batchOf t) (headOf t) n e) * padded (argK m c) (ix4 (batchOf t) (headOf t) j e) := fun j =>
    Finset.sum_congr rfl fun e _ => by rw [queries_apply m c t s x e n hn, keyAt_of_lt _ j.isLt, iblk2_apply]
  choose r hr hdot using fun j => padded_dot _ _ hq hk (batchOf t) (headOf t) n j
  let sc : ℕ → EReal := fun j => if hj : j < 8192 then refScores (argQ m c) (argK m c) (ix4 (batchOf t) (headOf t) n ⟨j, hj⟩) else ⊥
  have hsc : ∀ j : Fin 8192, sc j.val = refScores (argQ m c) (argK m c) (ix4 (batchOf t) (headOf t) n j) := fun j => dif_pos j.isLt
  have hlog : 0 < Real.log 2 := Real.log_pos one_lt_two
  have E := H.softmax (s := sc)
    (fun j hj => by
      unfold seenAt
      split
      · exact .inr ⟨_, (hS ⟨j, hj⟩).trans (hr ⟨j, hj⟩)⟩
      · exact .inl rfl)
    ⟨n.val, n.isLt, _, by unfold seenAt; rw [if_pos le_rfl]; exact (hS n).trans (hr n)⟩
    (fun j hj => by
      rw [hsc ⟨j, hj⟩, Cert.ReferenceIdeal.Attn.scores_apply]
      unfold seenAt
      show (if j / 64 ≤ n.val / 64 then _ else _) = _
      by_cases hm : j / 64 ≤ n.val / 64
      · rw [if_pos hm, if_pos hm, hS ⟨j, hj⟩, hr ⟨j, hj⟩, hdot ⟨j, hj⟩]
      · rw [if_neg hm, if_neg hm, EReal.coe_mul_bot_of_pos hlog])
  have hrow : block m c t (ix5 (0 : Fin 1) s (0 : Fin 1) x d)
      = quotient (final (grid0.coords t) (queries (iblk m c 0 t) (iblk m c 1 t)) (iblk m c 2 t) (iblk m c 3 t)).a
          (final (grid0.coords t) (queries (iblk m c 0 t) (iblk m c 1 t)) (iblk m c 2 t) (iblk m c 3 t)).l (ix2 (rowOf s x) d) := rfl
  rw [hrow, quotient_apply, E, Finset.sum_range, Finset.sum_range]
  refine Finset.sum_congr rfl fun j _ => ?_
  rw [valueAt_of_lt _ j.isLt, iblk3_apply, headed_apply, Cert.ReferenceIdeal.Attn.probs_apply, Cert.ReferenceIdeal.Attn.expd_apply, Cert.ReferenceIdeal.Attn.rowMax_apply, sup_range]
  simp only [hsc, Cert.ReferenceIdeal.Attn.expd_apply, Cert.ReferenceIdeal.Attn.rowMax_apply]

/-- The output array after the run is the reference's result. -/
theorem final_out (hq : ∀ i, ∃ r : ℝ, argQ m c i = r) (hk : ∀ i, ∃ r : ℝ, argK m c i = r) :
    (dats m 0 c).arrAt 4 cfg0.N = result m c := by
  refine (dats m 0 c).arrAt_eq_of_covers 4 _ (by decide +kernel) fun t _ y => ?_
  obtain ⟨-, -, -, -, -, ⟨h0, h1, h2, h3, h4⟩⟩ := points t
  blk_simp
  rw [after_4]
  have hx : (y (3 : Fin 5)).val < 512 := (y (3 : Fin 5)).isLt
  have hs : (y (1 : Fin 5)).val < 2 := (y (1 : Fin 5)).isLt
  have hd : (y (4 : Fin 5)).val < 128 := (y (4 : Fin 5)).isLt
  have hb : t.val < 256 := t.isLt
  have hn : 512 * tileOf ⟨(y (1 : Fin 5)).val, hs⟩ (t.val % 8) + (y (3 : Fin 5)).val < 8192 := by unfold tileOf; split <;> omega
  have hy : y = ix5 (0 : Fin 1) (⟨(y (1 : Fin 5)).val, hs⟩ : Fin 2) (0 : Fin 1) (⟨(y (3 : Fin 5)).val, hx⟩ : Fin 512) (⟨(y (4 : Fin 5)).val, hd⟩ : Fin 128) := by
    blk_ext []
  have he : (win0_4.blk t).view.emb y = ix5 (batchOf t) (⟨(y (1 : Fin 5)).val, hs⟩ : Fin 2) (groupOf t) (⟨(y (3 : Fin 5)).val, hx⟩ : Fin 512)
      (⟨128 * (headOf t).val + (y (4 : Fin 5)).val, by have := (headOf t).isLt; omega⟩ : Fin 512) := by
    blk_ext [h0, h1, h2, h3, h4, batchOf, groupOf, headOf]
  rw [he]
  refine (congrArg (block m c t) hy).trans ((block_apply m c hq hk t _ _ _ ⟨_, hn⟩ rfl).trans ?_)
  exact ((Cert.ReferenceIdeal.Attn.paired_apply _ _ _ _ _ _ ⟨_, hn⟩ rfl (headOf t) ⟨(y (4 : Fin 5)).val, hd⟩ rfl).trans (Cert.ReferenceIdeal.Attn.summed_apply _ _ _ _ _ _)).symm

/-- The program ends with the output array at the reference's result of its arguments, the arguments as they were. -/
theorem run_value (ρ : Dev nD → PrngReg) (hq : ∀ c i, ∃ r : ℝ, argQ m c i = r) (hk : ∀ c i, ∃ r : ℝ, argK m c i = r) :
    θ_run defs (onTc (τ := τ) (main (F := Ideal))) ⟨m, fun _ => 0, ρ⟩ (fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 4).trans (final_out m c (hq c) (hk c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run m ρ)

end Cert.KernelIdeal.Attn

end
-- ==== Proof.FfnTile.lean ====
/-
  One point of the feed-forward kernel: what it stores for its tile of rows and what it leaves in the
  carried scratch, in terms of its blocks and of what the point before left there; both read at an index.
-/
module

public import proofs.«01_k».proof.Proof.Gen.Kernel2Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel2Ideal.Ffn

open Cert.Kernel2Ideal Cert.Kernel2Ideal.Gen Idealize.ShloMosaic Idealize.ShloMosaic.TcCoe

/-! ## What a point leaves -/

/-- Eight rows `P` and 512 rows `G` below them, read `r` rows down. -/
def shifted {α : Type} {N : ℕ} (r : ℕ) (hr : r ≤ 8) (G : (⟨2, ![512, N]⟩ : Shape).Idx → α) (P : (⟨2, ![8, N]⟩ : Shape).Idx → α) : (⟨2, ![512, N]⟩ : Shape).Idx → α := fun i =>
  if h : (i 0).val + r < 8 then P (ix2 ⟨(i 0).val + r, h⟩ (i 1)) else G (ix2 ⟨(i 0).val + r - 8, by have h0 : (i 0).val < 512 := (i 0).isLt; omega⟩ (i 1))

/-- The scratch holding eight rows and 512 below them, read back. -/
theorem reread {Val : EltTy → Type} [∀ e, Nonempty (Val e)] {κ : Kind} {sp : Space} (v : View sig κ sp S520x1536 .f32) {N r : ℕ} (hr : r ≤ 8)
    (i1 : ∀ a, (![8, 0] : Fin 2 → ℕ) a + (![512, N] : Fin 2 → ℕ) a ≤ S520x1536.size a) (i2 : ∀ a, (![0, 0] : Fin 2 → ℕ) a + (![8, N] : Fin 2 → ℕ) a ≤ S520x1536.size a)
    (i3 : ∀ a, (![r, 0] : Fin 2 → ℕ) a + (![512, N] : Fin 2 → ℕ) a ≤ S520x1536.size a)
    (G : (⟨2, ![512, N]⟩ : Shape).Idx → Val .f32) (P : (⟨2, ![8, N]⟩ : Shape).Idx → Val .f32) (L : List (View.Piece Val S520x1536 .f32)) :
    v.readCov (⟨Rect.unit (s := S520x1536) ![8, 0] ![512, N] i1, G⟩ :: ⟨Rect.unit (s := S520x1536) ![0, 0] ![8, N] i2, P⟩ :: L) (Rect.unit (s := S520x1536) ![r, 0] ![512, N] i3).toLoadRect
      = shifted r hr G P := by
  rw [View.readCov_eq_canon']
  funext (i : (⟨2, ![512, N]⟩ : Shape).Idx)
  have h0 : (i 0).val < 512 := (i 0).isLt
  by_cases h : (i 0).val + r < 8
  · rw [show shifted r hr G P i = P (ix2 ⟨(i 0).val + r, h⟩ (i 1)) from dif_pos h]
    refine (View.canon_cons_of_not_mem _ _ ?_).trans ?_
    · intro hm
      have h1 : 8 ≤ r + 1 * (i 0).val := ((Rect.mem_set_unit (inb := i1)).mp hm 0).1
      omega
    · refine Eq.trans (congrArg _ ?_) (View.canon_cons_emb (Rect.unit (s := S520x1536) ![0, 0] ![8, N] i2) P L (ix2 ⟨(i 0).val + r, h⟩ (i 1)))
      funext a
      fin_cases a
      · exact Fin.ext (show r + 1 * (i 0).val = 0 + 1 * ((i 0).val + r) by omega)
      · rfl
  · rw [show shifted r hr G P i = G (ix2 ⟨(i 0).val + r - 8, by omega⟩ (i 1)) from dif_neg h]
    refine Eq.trans (congrArg _ ?_) (View.canon_cons_emb (Rect.unit (s := S520x1536) ![8, 0] ![512, N] i1) G _ (ix2 ⟨(i 0).val + r - 8, by omega⟩ (i 1)))
    funext a
    fin_cases a
    · exact Fin.ext (show r + 1 * (i 0).val = 8 + 1 * ((i 0).val + r - 8) by omega)
    · rfl

section
variable {F : FTy → Type} [FloatOps F]

/-- What a point stores: from its blocks and the carried rows `P`. -/
def tile (B0 : Vec F S1x512x1024 .f32) (B1 : Vec F S1x1024 .f32) (B2 B3 : Vec F S1024x2816 .bf16) (B4 : Vec F S8x2816 .f32) (B5 : Vec F S1x2816 .f32)
    (B6 : Vec F S2816x1024 .bf16) (P : Vec F S8x2816 .f32) : FVec F S1x512x1024 .f32 :=
  let G := k0_pay7 B0 B1 (View.ld B2 (Rect.unit ![0, 0] ![1024, 1536] inb_S1024x2816_S1024x1536_0_0))
  let C := k0_pay6 (View.ld P (Rect.unit ![0, 0] ![8, 1536] inb_S8x2816_S8x1536_0_0))
  let G' := k0_pay12 (k0_pay4 B0 B1) (View.ld B2 (Rect.unit ![0, 1536] ![1024, 1280] inb_S1024x2816_S1024x1280_0_1536))
  let C' := k0_pay11 (View.ld P (Rect.unit ![0, 1536] ![8, 1280] inb_S8x2816_S8x1280_0_1536))
  k0_pay1 (k0_pay4 B0 B1)
    (k0_pay9 (k0_pay3 B0) (k0_pay4 B0 B1)
      (k0_pay5 B0 B1 (View.ld B2 (Rect.unit ![0, 0] ![1024, 1536] inb_S1024x2816_S1024x1536_0_0)))
      (View.ld B5 (Rect.unit ![0, 0] ![1, 1536] inb_S1x2816_S1x1536_0_0))
      (shifted 6 (by decide) G C)
      (View.ld B4 (Rect.unit ![0, 0] ![1, 1536] inb_S8x2816_S1x1536_0_0))
      (shifted 7 (by decide) G C)
      (View.ld B4 (Rect.unit ![1, 0] ![1, 1536] inb_S8x2816_S1x1536_1_0))
      (View.ld B4 (Rect.unit ![2, 0] ![1, 1536] inb_S8x2816_S1x1536_2_0))
      (View.ld B3 (Rect.unit ![0, 0] ![1024, 1536] inb_S1024x2816_S1024x1536_0_0))
      (View.ld B6 (Rect.unit ![0, 0] ![1536, 1024] inb_S2816x1024_S1536x1024_0_0)))
    (k0_pay14 (k0_pay4 B0 B1)
      (View.ld B2 (Rect.unit ![0, 1536] ![1024, 1280] inb_S1024x2816_S1024x1280_0_1536))
      (View.ld B5 (Rect.unit ![0, 1536] ![1, 1280] inb_S1x2816_S1x1280_0_1536))
      (shifted 6 (by decide) G' C')
      (View.ld B4 (Rect.unit ![0, 1536] ![1, 1280] inb_S8x2816_S1x1280_0_1536))
      (shifted 7 (by decide) G' C')
      (View.ld B4 (Rect.unit ![1, 1536] ![1, 1280] inb_S8x2816_S1x1280_1_1536))
      (View.ld B4 (Rect.unit ![2, 1536] ![1, 1280] inb_S8x2816_S1x1280_2_1536)))
    (View.ld B3 (Rect.unit ![0, 1536] ![1024, 1280] inb_S1024x2816_S1024x1280_0_1536))
    (View.ld B6 (Rect.unit ![1536, 0] ![1280, 1024] inb_S2816x1024_S1280x1024_1536_0))

/-- The two stores of the gate's last eight rows, over what was stored before. -/
def kept (B0 : Vec F S1x512x1024 .f32) (B1 : Vec F S1x1024 .f32) (B2 : Vec F S1024x2816 .bf16) (L : List (View.Piece (Elt F) S8x2816 .f32)) : List (View.Piece (Elt F) S8x2816 .f32) :=
  ⟨Rect.unit ![0, 1536] ![8, 1280] inb_S8x2816_S8x1280_0_1536, k0_pay13 (k0_pay4 B0 B1) (View.ld B2 (Rect.unit ![0, 1536] ![1024, 1280] inb_S1024x2816_S1024x1280_0_1536))⟩ ::
  ⟨Rect.unit ![0, 0] ![8, 1536] inb_S8x2816_S8x1536_0_0, k0_pay8 B0 B1 (View.ld B2 (Rect.unit ![0, 0] ![1024, 1536] inb_S1024x2816_S1024x1536_0_0))⟩ :: L

variable (m : (ℓ : Loc nD τ sig) → Buf (Elt F) ℓ) (c : Dev nD) (t : Fin cfg0.N)

set_option maxHeartbeats 2000000 in
/-- A sequence's first tile is worked out over carried rows of zeros. -/
theorem stored_first (h0 : t.val % 16 = 0) : (outsAt0 m c t.val t.isLt).1
    = tile (iblk m c 0 t) (iblk m c 1 t) (iblk m c 2 t) (iblk m c 3 t) (iblk m c 4 t) (iblk m c 5 t) (iblk m c 6 t) k0_pay2 := by
  rw [outsAt0_A m c t h0]
  dsimp only
  frame_open
  simp (disch := decide) only [↓ View.readCov_skip, ↓ View.readCov_cons_toLoadRect, ↓ View.readCov_fill]
  frame_out
  rw [reread (r := 6) (N := 1536) _ (by decide), reread (r := 7) (N := 1536) _ (by decide), reread (r := 6) (N := 1280) _ (by decide), reread (r := 7) (N := 1280) _ (by decide)]
  rfl

set_option maxHeartbeats 2000000 in
/-- Every other tile over what the tile before left. -/
theorem stored_next (h0 : ¬ t.val % 16 = 0) : (outsAt0 m c t.val t.isLt).1
    = tile (iblk m c 0 t) (iblk m c 1 t) (iblk m c 2 t) (iblk m c 3 t) (iblk m c 4 t) (iblk m c 5 t) (iblk m c 6 t)
        (outsAt0 m c (t.val - 1) (Nat.lt_of_le_of_lt (Nat.sub_le _ _) t.isLt)).2 := by
  rw [outsAt0_B m c t h0]
  dsimp only
  frame_open
  simp (disch := decide) only [↓ View.readCov_skip, ↓ View.readCov_cons_toLoadRect, ↓ View.readCov_fill]
  frame_out
  simp only [read_unread_whole]
  rw [reread (r := 6) (N := 1536) _ (by decide), reread (r := 7) (N := 1536) _ (by decide), reread (r := 6) (N := 1280) _ (by decide), reread (r := 7) (N := 1280) _ (by decide)]
  rfl

set_option maxHeartbeats 2000000 in
/-- Either way the point leaves the gate's last eight rows. -/
theorem carried : ∃ L, (outsAt0 m c t.val t.isLt).2 = View.canon (kept (iblk m c 0 t) (iblk m c 1 t) (iblk m c 2 t) L) := by
  by_cases h0 : t.val % 16 = 0
  · refine ⟨[⟨Rect.unit ![0, 0] ![8, 2816] inb_S8x2816_S8x2816_0_0, k0_pay2⟩], ?_⟩
    rw [outsAt0_A m c t h0]
    dsimp only
    frame_open
    simp (disch := decide) only [↓ View.readCov_skip, ↓ View.readCov_cons_toLoadRect, ↓ View.readCov_fill]
    frame_out
    rfl
  · refine ⟨[], ?_⟩
    rw [outsAt0_B m c t h0]
    dsimp only
    frame_open
    simp (disch := decide) only [↓ View.readCov_skip, ↓ View.readCov_cons_toLoadRect, ↓ View.readCov_fill]
    frame_out
    rfl
end

/-! ## At an index -/

/-- The first 1536 of the 2816 columns, and the last 1280. -/
def lo (f : Fin 1536) : Fin 2816 := Fin.castAdd 1280 f
def hi (f : Fin 1280) : Fin 2816 := Fin.natAdd 1536 f

/-- A sum over the columns is one over each part. -/
theorem sum_split (t : Fin 2816 → EReal) : ∑ f, t f = ∑ f, t (lo f) + ∑ f, t (hi f) := Fin.sum_univ_add (a := 1536) (b := 1280) t

/-- The gate of a convolved value. -/
def swish (v : EReal) : EReal := v * Ideal.div 1 (1 + Ideal.exp (-v))

theorem swish_sub (v : EReal) : v * Ideal.div 1 (1 + Ideal.exp (0 - v)) = swish v := by
  rw [zero_sub]
  rfl

/-- A tile's normalised rows. -/
theorem normed_apply (B0 : Vec Ideal S1x512x1024 .f32) (B1 : Vec Ideal S1x1024 .f32) (x : Fin 512) (k : Fin 1024) :
    k0_pay4 B0 B1 (ix2 x k) = B0 (ix3 (0 : Fin 1) x k)
      * Ideal.rsqrt ((∑ j : Fin 1024, B0 (ix3 (0 : Fin 1) x j) * B0 (ix3 (0 : Fin 1) x j)) * Ideal.ofBits .f32 0x3A800000#32 + Ideal.ofBits .f32 0x358637BD#32) * B1 (ix2 (0 : Fin 1) k) := by
  pointwise [k0_pay4, k0_pay3]

section
variable (B0 : Vec Ideal S1x512x1024 .f32) (B1 : Vec Ideal S1x1024 .f32) (B2 B3 : Vec Ideal S1024x2816 .bf16) (B4 : Vec Ideal S8x2816 .f32) (B5 : Vec Ideal S1x2816 .f32)
    (B6 : Vec Ideal S2816x1024 .bf16) (P : Vec Ideal S8x2816 .f32)

/-- A tile's rows under one column of weights. -/
def tileDot (W : Vec Ideal S1024x2816 .bf16) (x : Fin 512) (f : Fin 2816) : EReal := ∑ k : Fin 1024, k0_pay4 B0 B1 (ix2 x k) * W (ix2 k f)

/-- The gate's row `p` of the eight carried and the tile's 512. -/
def behind (p : ℕ) (hp : p < 520) (f : Fin 2816) : EReal := if h : p < 8 then P (ix2 ⟨p, h⟩ f) else tileDot B0 B1 B2 ⟨p - 8, by omega⟩ f

/-- A row's gate convolved with the two rows before it. -/
def tileConv (x : Fin 512) (f : Fin 2816) : EReal :=
  B5 (ix2 (0 : Fin 1) f) + behind B0 B1 B2 P (x.val + 6) (by omega) f * B4 (ix2 (0 : Fin 8) f) + behind B0 B1 B2 P (x.val + 7) (by omega) f * B4 (ix2 (1 : Fin 8) f)
    + tileDot B0 B1 B2 x f * B4 (ix2 (2 : Fin 8) f)

theorem gate_lo (x : Fin 512) (f : Fin 1536) :
    k0_pay5 B0 B1 (View.ld B2 (Rect.unit ![0, 0] ![1024, 1536] inb_S1024x2816_S1024x1536_0_0)) (ix2 x f) = tileDot B0 B1 B2 x (lo f) := by
  pointwise [k0_pay5]
  rfl

theorem gate_hi (x : Fin 512) (f : Fin 1280) :
    k0_pay10 (k0_pay4 B0 B1) (View.ld B2 (Rect.unit ![0, 1536] ![1024, 1280] inb_S1024x2816_S1024x1280_0_1536)) (ix2 x f) = tileDot B0 B1 B2 x (hi f) := by
  pointwise [k0_pay10]
  rfl

theorem shifted_lo {r : ℕ} (hr : r ≤ 8) (x : Fin 512) (f : Fin 1536) :
    shifted r hr (k0_pay7 B0 B1 (View.ld B2 (Rect.unit ![0, 0] ![1024, 1536] inb_S1024x2816_S1024x1536_0_0)))
      (k0_pay6 (View.ld P (Rect.unit ![0, 0] ![8, 1536] inb_S8x2816_S8x1536_0_0))) (ix2 x f) = behind B0 B1 B2 P (x.val + r) (by omega) (lo f) := by
  by_cases h : x.val + r < 8
  · refine (dif_pos h).trans (Eq.trans ?_ (dif_pos h).symm)
    pointwise [k0_pay6]
    rfl
  · refine (dif_neg h).trans (Eq.trans ?_ (dif_neg h).symm)
    pointwise [k0_pay7]
    exact gate_lo B0 B1 B2 _ f

theorem shifted_hi {r : ℕ} (hr : r ≤ 8) (x : Fin 512) (f : Fin 1280) :
    shifted r hr (k0_pay12 (k0_pay4 B0 B1) (View.ld B2 (Rect.unit ![0, 1536] ![1024, 1280] inb_S1024x2816_S1024x1280_0_1536)))
      (k0_pay11 (View.ld P (Rect.unit ![0, 1536] ![8, 1280] inb_S8x2816_S8x1280_0_1536))) (ix2 x f) = behind B0 B1 B2 P (x.val + r) (by omega) (hi f) := by
  by_cases h : x.val + r < 8
  · refine (dif_pos h).trans (Eq.trans ?_ (dif_pos h).symm)
    pointwise [k0_pay11]
    rfl
  · refine (dif_neg h).trans (Eq.trans ?_ (dif_neg h).symm)
    pointwise [k0_pay12]
    exact gate_hi B0 B1 B2 _ f

set_option maxHeartbeats 1000000 in
/-- What a point stores, at an index: the row, and its gated values under the output weights. -/
theorem tile_apply (x : Fin 512) (d : Fin 1024) : tile B0 B1 B2 B3 B4 B5 B6 P (ix3 (0 : Fin 1) x d)
    = B0 (ix3 (0 : Fin 1) x d) + ∑ f : Fin 2816, swish (tileConv B0 B1 B2 B4 B5 P x f) * tileDot B0 B1 B3 x f * B6 (ix2 f d) := by
  rw [sum_split, ← add_assoc]
  unfold tile
  pointwise [k0_pay1]
  refine congrArg₂ (· + ·) ?_ (Finset.sum_congr rfl fun f _ => ?_)
  · pointwise [k0_pay9]
    refine congrArg₂ (· + ·) ?_ (Finset.sum_congr rfl fun f _ => ?_)
    · pointwise [k0_pay3]
    · refine congrArg₂ (· * ·) (congrArg₂ (· * ·) ((swish_sub _).trans (congrArg swish ?_)) rfl) rfl
      exact congrArg₂ (· + ·) (congrArg₂ (· + ·) (congrArg (_ + ·) (congrArg (· * _) (shifted_lo B0 B1 B2 P _ x f))) (congrArg (· * _) (shifted_lo B0 B1 B2 P _ x f)))
        (congrArg (· * _) (gate_lo B0 B1 B2 x f))
  · refine congrArg₂ (· * ·) (congrArg₂ (· * ·) ((swish_sub _).trans (congrArg swish ?_)) rfl) rfl
    pointwise [k0_pay14]
    exact congrArg₂ (· + ·) (congrArg₂ (· + ·) (congrArg (_ + ·) (congrArg (· * _) (shifted_hi B0 B1 B2 P _ x f))) (congrArg (· * _) (shifted_hi B0 B1 B2 P _ x f)))
      (congrArg (· * _) (gate_hi B0 B1 B2 x f))

/-- What a point keeps, at an index: the tile's last eight rows. -/
theorem kept_apply (L : List (View.Piece (Elt Ideal) S8x2816 .f32)) (i : Fin 8) (f : Fin 2816) :
    View.canon (kept B0 B1 B2 L) (ix2 i f) = tileDot B0 B1 B2 ⟨504 + i.val, by omega⟩ f := by
  unfold kept
  by_cases h : f.val < 1536
  · obtain ⟨f, rfl⟩ : ∃ g, lo g = f := ⟨⟨f.val, h⟩, rfl⟩
    refine (View.canon_cons_of_not_mem _ _ ?_).trans (Eq.trans (Eq.trans (congrArg _ ?_) (View.canon_cons_emb _ _ _ (ix2 i f))) ?_)
    · intro hm
      have h1 : 1536 ≤ f.val := ((Rect.mem_set_unit (inb := inb_S8x2816_S8x1280_0_1536)).mp hm 1).1
      omega
    · funext a
      fin_cases a
      · exact Fin.ext (show i.val = 0 + 1 * i.val by omega)
      · exact Fin.ext (show f.val = 0 + 1 * f.val by omega)
    · pointwise [k0_pay8]
      exact gate_lo B0 B1 B2 _ f
  · obtain ⟨f, rfl⟩ : ∃ g, hi g = f := ⟨⟨f.val - 1536, by omega⟩, Fin.ext (show 1536 + (f.val - 1536) = f.val by omega)⟩
    refine Eq.trans (Eq.trans (congrArg _ ?_) (View.canon_cons_emb _ _ _ (ix2 i f))) ?_
    · funext a
      fin_cases a
      · exact Fin.ext (show i.val = 0 + 1 * i.val by omega)
      · exact Fin.ext (show 1536 + f.val = 1536 + 1 * f.val by omega)
    · pointwise [k0_pay13]
      exact gate_hi B0 B1 B2 _ f
end

end Cert.Kernel2Ideal.Ffn

end
-- ==== Proof.FfnReference.lean ====
/-
  The feed-forward reference's result, stage by stage and read at an index: normalised rows projected to
  gate and up values, the gate convolved with the two rows before, gated values under the output weights.
-/
module

public import proofs.«01_k».proof.Proof.Gen.Reference2Ideal.Run
public import Idealize.ShloMosaic.Lib.Pointwise
public import Idealize.ShloMosaic.Lib.Pipeline.Value

@[expose] public section

set_option maxRecDepth 16384

noncomputable section

namespace Cert.Reference2Ideal.Ffn

open Cert.Reference2Ideal Cert.Reference2Ideal.Gen Idealize.ShloMosaic Idealize.ShloMosaic.TcCoe

/-! ## The stages -/

/-- Rows over their root mean square, times the gain. -/
def normed (h : FVec Ideal S8x8192x1024 .f32) (g : FVec Ideal S1024 .f32) : FVec Ideal S8x8192x1024 .f32 :=
  mulf (mulf h (broadcastInDim S8x8192x1024 ![0, 1, 2] bcast_S8x8192x1_S8x8192x1024_0_1_2 (Host.rsqrt (addf (Host.divf (broadcastInDim S8x8192x1 ![0, 1] bcast_S8x8192_S8x8192x1_0_1
      (Host.reduceAdd (mulf h h) (constant S_ .f32 0x00000000#32) reducesTo_S8x8192x1024_S8x8192_d2 h_S_)) (broadcastInDim S8x8192x1 ![] bcast_S_S8x8192x1 (constant S_ .f32 0x44800000#32)))
      (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g))

/-- Gate and up values, side by side. -/
def projected (n : FVec Ideal S8x8192x1024 .f32) (w : FVec Ideal S1024x5632 .f32) : FVec Ideal S8x8192x5632 .f32 :=
  Host.dotGeneral dot_S8x8192x1024_S1024x5632_S8x8192x5632_2_0_01_1_n_n none n w

/-- The gate, two rows of zeros in front. -/
def lagged (p : FVec Ideal S8x8192x5632 .f32) : FVec Ideal S8x8194x2816 .f32 :=
  pad S8x8194x2816 ![0, 2, 0] ![0, 0, 0] ![0, 0, 0] (extractStridedSlice S8x8192x2816 ![0, 0, 0] p slices_S8x8192x5632_S8x8192x2816_0_0_0) (sitofp .f32 (constantI S_ 32 0#32)) pads_S8x8192x2816_S8x8194x2816_000_200_000 h_S_

/-- One row of the convolution's weights, for every row of the sequence. -/
def spreadRow (r : FVec Ideal S1x2816 .f32) : FVec Ideal S8x8192x2816 .f32 :=
  broadcastInDim S8x8192x2816 ![0, 1, 2] bcast_S1x1x2816_S8x8192x2816_0_1_2 (broadcastInDim S1x1x2816 ![2] bcast_S2816_S1x1x2816_2 (shapeCast _ r shapeCasts_S1x2816_S2816))

/-- The convolution of three rows. -/
def convolved (q : FVec Ideal S8x8194x2816 .f32) (cw : FVec Ideal S3x2816 .f32) (cb : FVec Ideal S2816 .f32) : FVec Ideal S8x8192x2816 .f32 :=
  addf (addf (addf (broadcastInDim S8x8192x2816 ![0, 1, 2] bcast_S1x1x2816_S8x8192x2816_0_1_2 (broadcastInDim S1x1x2816 ![2] bcast_S2816_S1x1x2816_2 cb))
      (mulf (extractStridedSlice S8x8192x2816 ![0, 0, 0] q slices_S8x8194x2816_S8x8192x2816_0_0_0) (spreadRow (extractStridedSlice S1x2816 ![0, 0] cw slices_S3x2816_S1x2816_0_0))))
      (mulf (extractStridedSlice S8x8192x2816 ![0, 1, 0] q slices_S8x8194x2816_S8x8192x2816_0_1_0) (spreadRow (extractStridedSlice S1x2816 ![1, 0] cw slices_S3x2816_S1x2816_1_0))))
    (mulf (extractStridedSlice S8x8192x2816 ![0, 2, 0] q slices_S8x8194x2816_S8x8192x2816_0_2_0) (spreadRow (extractStridedSlice S1x2816 ![2, 0] cw slices_S3x2816_S1x2816_2_0)))

/-- The gated values: the convolution under its own logistic, times the up values. -/
def gated (v : FVec Ideal S8x8192x2816 .f32) (p : FVec Ideal S8x8192x5632 .f32) : FVec Ideal S8x8192x2816 .f32 :=
  mulf (mulf v (Host.divf (broadcastInDim S8x8192x2816 ![] bcast_S_S8x8192x2816 (constant S_ .f32 0x3F800000#32))
      (addf (broadcastInDim S8x8192x2816 ![] bcast_S_S8x8192x2816 (constant S_ .f32 0x3F800000#32)) (Host.exp (Host.negf v)))))
    (extractStridedSlice S8x8192x2816 ![0, 0, 2816] p slices_S8x8192x5632_S8x8192x2816_0_0_2816)

/-- The rows with their gated values under the output weights added. -/
def added (h : FVec Ideal S8x8192x1024 .f32) (u : FVec Ideal S8x8192x2816 .f32) (wo : FVec Ideal S2816x1024 .f32) : FVec Ideal S8x8192x1024 .f32 :=
  addf h (Host.dotGeneral dot_S8x8192x2816_S2816x1024_S8x8192x1024_2_0_01_1_n_n none u wo)

/-- The layer's result from its six arguments. -/
def layer (h : FVec Ideal S8x8192x1024 .f32) (g : FVec Ideal S1024 .f32) (w : FVec Ideal S1024x5632 .f32) (cw : FVec Ideal S3x2816 .f32) (cb : FVec Ideal S2816 .f32)
    (wo : FVec Ideal S2816x1024 .f32) : FVec Ideal S8x8192x1024 .f32 :=
  added h (gated (convolved (lagged (projected (normed h g) w)) cw cb) (projected (normed h g) w)) wo

/-- The reference's result is its stages composed. -/
theorem result_eq (m : (ℓ : Loc nD τ sig) → Buf (Elt Ideal) ℓ) (c : Dev nD) :
    Cert.Reference2Ideal.Value.res_out0 m c
      = layer (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) := by
  unfold Cert.Reference2Ideal.Value.res_out0 Cert.Reference2Ideal.Value.res_main_v43
  rfl

/-! ## The stages at an index -/

theorem normed_apply (h : FVec Ideal S8x8192x1024 .f32) (g : FVec Ideal S1024 .f32) (b : Fin 8) (n : Fin 8192) (k : Fin 1024) :
    normed h g (ix3 b n k) = h (ix3 b n k)
      * Ideal.rsqrt (Ideal.div (∑ j : Fin 1024, h (ix3 b n j) * h (ix3 b n j)) (Ideal.ofBits .f32 0x44800000#32) + Ideal.ofBits .f32 0x358637BD#32) * g (ix1 k) := by
  pointwise [normed]

theorem projected_apply (a : FVec Ideal S8x8192x1024 .f32) (w : FVec Ideal S1024x5632 .f32) (b : Fin 8) (n : Fin 8192) (f : Fin 5632) :
    projected a w (ix3 b n f) = ∑ k : Fin 1024, a (ix3 b n k) * w (ix2 k f) := by
  pointwise [projected]

theorem lagged_apply (p : FVec Ideal S8x8192x5632 .f32) (b : Fin 8) (s : Fin 8194) (f : Fin 2816) :
    lagged p (ix3 b s f) = if h : 2 ≤ s.val then p (ix3 b ⟨s.val - 2, by omega⟩ ⟨f.val, by omega⟩) else 0 := by
  pointwise [lagged]
  by_cases h : 2 ≤ s.val
  · rw [dif_pos h, dif_pos ⟨h, by omega⟩]
  · rw [dif_neg h, dif_neg fun h' => h h'.1]
    show (((0#32 : BitVec 32).toInt : ℝ) : EReal) = 0
    simp

theorem convolved_apply (q : FVec Ideal S8x8194x2816 .f32) (cw : FVec Ideal S3x2816 .f32) (cb : FVec Ideal S2816 .f32) (b : Fin 8) (n : Fin 8192) (f : Fin 2816) :
    convolved q cw cb (ix3 b n f) = cb (ix1 f) + q (ix3 b ⟨n.val, by omega⟩ f) * cw (ix2 0 f) + q (ix3 b ⟨1 + n.val, by omega⟩ f) * cw (ix2 1 f) + q (ix3 b ⟨2 + n.val, by omega⟩ f) * cw (ix2 2 f) := by
  pointwise [convolved, spreadRow]

theorem layer_apply (h : FVec Ideal S8x8192x1024 .f32) (g : FVec Ideal S1024 .f32) (w : FVec Ideal S1024x5632 .f32) (cw : FVec Ideal S3x2816 .f32) (cb : FVec Ideal S2816 .f32)
    (wo : FVec Ideal S2816x1024 .f32) (b : Fin 8) (n : Fin 8192) (d : Fin 1024) :
    layer h g w cw cb wo (ix3 b n d) = h (ix3 b n d) + ∑ f : Fin 2816,
      convolved (lagged (projected (normed h g) w)) cw cb (ix3 b n f) * Ideal.div 1 (1 + Ideal.exp (-convolved (lagged (projected (normed h g) w)) cw cb (ix3 b n f)))
        * projected (normed h g) w (ix3 b n ⟨2816 + f.val, by omega⟩) * wo (ix2 f d) := by
  pointwise [layer, added, gated]

end Cert.Reference2Ideal.Ffn

end
-- ==== Proof.FfnValue.lean ====
/-
  The feed-forward kernel's result is the reference's: at every point the tile stored is the
  reference's result under the tile's place, and the tiles cover the array.
-/
module

public import proofs.«01_k».proof.Proof.FfnTile
public import proofs.«01_k».proof.Proof.FfnReference
public import Idealize.ShloMosaic.Lib.StableHlo.Run

@[expose] public section

set_option maxRecDepth 16384

noncomputable section

namespace Cert.Kernel2Ideal.Ffn

open Idealize.ShloMosaic Idealize.ShloMosaic.TcCoe Idealize.ShloMosaic.StableHlo
open Cert.Kernel2Ideal Cert.Kernel2Ideal.Gen Idealize.SL.Sem
open Cert.Reference2Ideal.Ffn (layer normed projected lagged convolved)

variable (m : (ℓ : Loc nD τ sig) → Buf (Elt Ideal) ℓ) (c : Dev nD)

/-- The kernel's arguments: rows, gain, input weights, the convolution's weights and bias, output weights. -/
abbrev argH : FVec Ideal S8x8192x1024 .f32 := m ((c : Thread nD τ).loc main_arg0)
abbrev argG : FVec Ideal S1024 .f32 := m ((c : Thread nD τ).loc main_arg1)
abbrev argW : FVec Ideal S1024x5632 .f32 := m ((c : Thread nD τ).loc main_arg2)
abbrev argCw : FVec Ideal S3x2816 .f32 := m ((c : Thread nD τ).loc main_arg3)
abbrev argCb : FVec Ideal S2816 .f32 := m ((c : Thread nD τ).loc main_arg4)
abbrev argWo : FVec Ideal S2816x1024 .f32 := m ((c : Thread nD τ).loc main_arg5)

/-! ## The arrays the host prepares -/

/-- The convolution's weights, five rows added below. -/
def padRows (cw : FVec Ideal S3x2816 .f32) : FVec Ideal S8x2816 .f32 :=
  pad S8x2816 ![0, 0] ![5, 0] ![0, 0] cw (sitofp .f32 (constantI S_ 32 0#32)) pads_S3x2816_S8x2816_050_000 h_S_

theorem V_gain : V m c main_v2 = shapeCast S1x1024 (argG m c) shapeCasts_S1024_S1x1024 := by
  show StableHlo.after (List.flatten [hostOps0, hostOps0_1, hostOps0_2]) _ _ = _
  simp only [hostOps0, hostOps0_1, hostOps0_2, List.flatten_cons, List.flatten_nil, List.append_nil, List.cons_append, List.nil_append]
  after_results_simp
  rfl

theorem V_gate : V m c main_v3 = extractStridedSlice S1024x2816 ![0, 0] (truncf .bf16 (argW m c) bitsLt_bf16_f32) slices_S1024x5632_S1024x2816_0_0 := by
  show StableHlo.after (List.flatten [hostOps0, hostOps0_1, hostOps0_2]) _ _ = _
  simp only [hostOps0, hostOps0_1, hostOps0_2, List.flatten_cons, List.flatten_nil, List.append_nil, List.cons_append, List.nil_append]
  after_results_simp

theorem V_up : V m c main_v4 = extractStridedSlice S1024x2816 ![0, 2816] (truncf .bf16 (argW m c) bitsLt_bf16_f32) slices_S1024x5632_S1024x2816_0_2816 := by
  show StableHlo.after (List.flatten [hostOps0, hostOps0_1, hostOps0_2]) _ _ = _
  simp only [hostOps0, hostOps0_1, hostOps0_2, List.flatten_cons, List.flatten_nil, List.append_nil, List.cons_append, List.nil_append]
  after_results_simp

theorem V_conv : V m c main_v1 = padRows (argCw m c) := by
  show StableHlo.after (List.flatten [hostOps0, hostOps0_1, hostOps0_2]) _ _ = _
  simp only [hostOps0, hostOps0_1, hostOps0_2, List.flatten_cons, List.flatten_nil, List.append_nil, List.cons_append, List.nil_append]
  after_results_simp
  rfl

theorem V_bias : V m c main_v5 = shapeCast S1x2816 (argCb m c) shapeCasts_S2816_S1x2816 := by
  show StableHlo.after (List.flatten [hostOps0, hostOps0_1, hostOps0_2]) _ _ = _
  simp only [hostOps0, hostOps0_1, hostOps0_2, List.flatten_cons, List.flatten_nil, List.append_nil, List.cons_append, List.nil_append]
  after_results_simp
  rfl

theorem V_out : V m c main_v6 = truncf .bf16 (argWo m c) bitsLt_bf16_f32 := by
  show StableHlo.after (List.flatten [hostOps0, hostOps0_1, hostOps0_2]) _ _ = _
  simp only [hostOps0, hostOps0_1, hostOps0_2, List.flatten_cons, List.flatten_nil, List.append_nil, List.cons_append, List.nil_append]
  after_results_simp

/-! ## The blocks at an index -/

/-- Each window's block at a point: the batch's tile of rows, or the whole of a weight array. -/
theorem points : ∀ t : Fin cfg0.N,
    (win0_0.index t 0 = t.val / 16 ∧ win0_0.index t 1 = t.val % 16 ∧ win0_0.index t 2 = 0)
    ∧ (win0_1.index t 0 = 0 ∧ win0_1.index t 1 = 0) ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = t.val / 16 ∧ win0_7.index t 1 = t.val % 16 ∧ win0_7.index t 2 = 0) := by
  decide +kernel

/-- A point's batch, and the sequence's row its tile's row `x` is. -/
def batchOf (t : Fin cfg0.N) : Fin 8 := ⟨t.val / 16, by have : t.val < 128 := t.isLt; omega⟩
def rowOf (t : Fin cfg0.N) (x : Fin 512) : Fin 8192 := ⟨512 * (t.val % 16) + x.val, by omega⟩

theorem iblk0_apply (t : Fin cfg0.N) (x : Fin 512) (k : Fin 1024) : iblk m c 0 t (ix3 (0 : Fin 1) x k) = argH m c (ix3 (batchOf t) (rowOf t x) k) := by
  obtain ⟨⟨h0, h1, h2⟩, -⟩ := points t
  refine Eq.trans ?_ (congrFun (V_main_arg0 m c) _)
  blk_ext [iblk, h0, h1, h2, batchOf, rowOf]

theorem iblk1_apply (t : Fin cfg0.N) (k : Fin 1024) : iblk m c 1 t (ix2 (0 : Fin 1) k) = argG m c (ix1 k) := by
  obtain ⟨-, ⟨h0, h1⟩, -⟩ := points t
  refine Eq.trans (b := V m c main_v2 (ix2 (0 : Fin 1) k)) ?_ ?_
  · blk_ext [iblk, h0, h1]
  · rw [V_gain]
    pointwise []

theorem iblk2_apply (t : Fin cfg0.N) (k : Fin 1024) (f : Fin 2816) : iblk m c 2 t (ix2 k f) = argW m c (ix2 k ⟨f.val, by omega⟩) := by
  obtain ⟨-, -, ⟨h0, h1⟩, -⟩ := points t
  refine Eq.trans (b := V m c main_v3 (ix2 k f)) ?_ ?_
  · blk_ext [iblk, h0, h1]
  · rw [V_gate]
    pointwise []

theorem iblk3_apply (t : Fin cfg0.N) (k : Fin 1024) (f : Fin 2816) : iblk m c 3 t (ix2 k f) = argW m c (ix2 k ⟨2816 + f.val, by omega⟩) := by
  obtain ⟨-, -, -, ⟨h0, h1⟩, -⟩ := points t
  refine Eq.trans (b := V m c main_v4 (ix2 k f)) ?_ ?_
  · blk_ext [iblk, h0, h1]
  · rw [V_up]
    pointwise []

theorem padRows_apply (cw : FVec Ideal S3x2816 .f32) (r : Fin 3) (f : Fin 2816) : padRows cw (ix2 ⟨r.val, by omega⟩ f) = cw (ix2 r f) := by
  pointwise [padRows]

theorem iblk4_apply (t : Fin cfg0.N) (r : Fin 3) (f : Fin 2816) : iblk m c 4 t (ix2 (⟨r.val, by omega⟩ : Fin 8) f) = argCw m c (ix2 r f) := by
  obtain ⟨-, -, -, -, ⟨h0, h1⟩, -⟩ := points t
  refine Eq.trans (b := V m c main_v1 (ix2 (⟨r.val, by omega⟩ : Fin 8) f)) ?_ ?_
  · blk_ext [iblk, h0, h1]
  · rw [V_conv]
    exact padRows_apply _ r f

theorem iblk5_apply (t : Fin cfg0.N) (f : Fin 2816) : iblk m c 5 t (ix2 (0 : Fin 1) f) = argCb m c (ix1 f) := by
  obtain ⟨-, -, -, -, -, ⟨h0, h1⟩, -⟩ := points t
  refine Eq.trans (b := V m c main_v5 (ix2 (0 : Fin 1) f)) ?_ ?_
  · blk_ext [iblk, h0, h1]
  · rw [V_bias]
    pointwise []

theorem iblk6_apply (t : Fin cfg0.N) (f : Fin 2816) (d : Fin 1024) : iblk m c 6 t (ix2 f d) = argWo m c (ix2 f d) := by
  obtain ⟨-, -, -, -, -, -, ⟨h0, h1⟩, -⟩ := points t
  refine Eq.trans (b := V m c main_v6 (ix2 f d)) ?_ ?_
  · blk_ext [iblk, h0, h1]
  · rw [V_out]
    pointwise []

/-! ## A tile's rows are the sequence's -/

/-- The gate and up values of every row, as the reference has them. -/
abbrev projections : FVec Ideal Cert.Reference2Ideal.S8x8192x5632 .f32 := projected (normed (argH m c) (argG m c)) (argW m c)

/-- Times `2 ^ -10` is over 1024. -/
theorem mean_eq (s : EReal) : s * Ideal.ofBits .f32 0x3A800000#32 = Ideal.div s (Ideal.ofBits .f32 0x44800000#32) := by
  have h : Ideal.ofBits .f32 0x44800000#32 = ((1024 : ℝ) : EReal) := by
    simp [Ideal.ofBits, Ideal.ieee]
    rw [← EReal.coe_mul]
    norm_num
  have h' : Ideal.ofBits .f32 0x3A800000#32 = ((1 / 1024 : ℝ) : EReal) := by
    simp [Ideal.ofBits, Ideal.ieee]
    rw [← EReal.coe_mul]
    norm_num
  rw [h, h', Ideal.div_coe (by norm_num)]

theorem normed_eq (t : Fin cfg0.N) (x : Fin 512) (k : Fin 1024) :
    k0_pay4 (iblk m c 0 t) (iblk m c 1 t) (ix2 x k) = normed (argH m c) (argG m c) (ix3 (batchOf t) (rowOf t x) k) := by
  refine (normed_apply _ _ x k).trans (Eq.trans ?_ (Cert.Reference2Ideal.Ffn.normed_apply _ _ _ _ _).symm)
  rw [mean_eq, iblk1_apply]
  simp only [iblk0_apply]

theorem gate_eq (t : Fin cfg0.N) (x : Fin 512) (f : Fin 2816) :
    tileDot (iblk m c 0 t) (iblk m c 1 t) (iblk m c 2 t) x f = projections m c (ix3 (batchOf t) (rowOf t x) ⟨f.val, by omega⟩) :=
  (Finset.sum_congr rfl fun k _ => congrArg₂ (· * ·) (normed_eq m c t x k) (iblk2_apply m c t k f)).trans (Cert.Reference2Ideal.Ffn.projected_apply _ _ _ _ _).symm

theorem up_eq (t : Fin cfg0.N) (x : Fin 512) (f : Fin 2816) :
    tileDot (iblk m c 0 t) (iblk m c 1 t) (iblk m c 3 t) x f = projections m c (ix3 (batchOf t) (rowOf t x) ⟨2816 + f.val, by omega⟩) :=
  (Finset.sum_congr rfl fun k _ => congrArg₂ (· * ·) (normed_eq m c t x k) (iblk3_apply m c t k f)).trans (Cert.Reference2Ideal.Ffn.projected_apply _ _ _ _ _).symm

/-- The eight rows carried into a point: zeros at a batch's first tile, else the gate of the eight rows before the tile. -/
def CarriedIn (t : Fin cfg0.N) (P : Vec Ideal S8x2816 .f32) : Prop := ∀ (i : Fin 8) (f : Fin 2816),
  (t.val % 16 = 0 → P (ix2 i f) = 0)
  ∧ ∀ n : Fin 8192, n.val + 8 = 512 * (t.val % 16) + i.val → P (ix2 i f) = projections m c (ix3 (batchOf t) n ⟨f.val, by omega⟩)

/-- The rows behind a tile's row are the reference's lagged gate: row `p` of the carried and the tile's is lagged row `512 (t mod 16) + p - 6`. -/
theorem behind_eq (t : Fin cfg0.N) (P : Vec Ideal S8x2816 .f32) (hP : CarriedIn m c t P) (p : ℕ) (hp : p < 520) (f : Fin 2816) (s : Fin 8194)
    (hs : s.val + 6 = 512 * (t.val % 16) + p) :
    behind (iblk m c 0 t) (iblk m c 1 t) (iblk m c 2 t) P p hp f = lagged (projections m c) (ix3 (batchOf t) s f) := by
  rw [Cert.Reference2Ideal.Ffn.lagged_apply]
  unfold behind
  by_cases h : p < 8
  · rw [dif_pos h]
    by_cases h0 : t.val % 16 = 0
    · rw [dif_neg (by omega)]
      exact (hP ⟨p, h⟩ f).1 h0
    · rw [dif_pos (by omega)]
      exact (hP ⟨p, h⟩ f).2 _ (by show s.val - 2 + 8 = 512 * (t.val % 16) + p; omega)
  · rw [dif_neg h, dif_pos (by omega), gate_eq]
    congr 2
    exact Fin.ext (show 512 * (t.val % 16) + (p - 8) = s.val - 2 by omega)

theorem conv_eq (t : Fin cfg0.N) (P : Vec Ideal S8x2816 .f32) (hP : CarriedIn m c t P) (x : Fin 512) (f : Fin 2816) :
    tileConv (iblk m c 0 t) (iblk m c 1 t) (iblk m c 2 t) (iblk m c 4 t) (iblk m c 5 t) P x f
      = convolved (lagged (projections m c)) (argCw m c) (argCb m c) (ix3 (batchOf t) (rowOf t x) f) := by
  rw [Cert.Reference2Ideal.Ffn.convolved_apply]
  have hcur : tileDot (iblk m c 0 t) (iblk m c 1 t) (iblk m c 2 t) x f = lagged (projections m c) (ix3 (batchOf t) ⟨2 + (rowOf t x).val, by omega⟩ f) := by
    rw [Cert.Reference2Ideal.Ffn.lagged_apply, dif_pos (show 2 ≤ 2 + (rowOf t x).val by omega), gate_eq]
    congr 2
    exact Fin.ext (show (rowOf t x).val = 2 + (rowOf t x).val - 2 by omega)
  exact congrArg₂ (· + ·) (congrArg₂ (· + ·) (congrArg₂ (· + ·) (iblk5_apply m c t f)
      (congrArg₂ (· * ·) (behind_eq m c t P hP _ _ f ⟨(rowOf t x).val, by omega⟩ (by show 512 * (t.val % 16) + x.val + 6 = _; omega)) (iblk4_apply m c t 0 f)))
      (congrArg₂ (· * ·) (behind_eq m c t P hP _ _ f ⟨1 + (rowOf t x).val, by omega⟩ (by show 1 + (512 * (t.val % 16) + x.val) + 6 = _; omega)) (iblk4_apply m c t 1 f)))
    (congrArg₂ (· * ·) hcur (iblk4_apply m c t 2 f))

/-- The reference's result, of the kernel's arguments. -/
def result : FVec Ideal S8x8192x1024 .f32 := layer (argH m c) (argG m c) (argW m c) (argCw m c) (argCb m c) (argWo m c)

theorem tile_eq (t : Fin cfg0.N) (P : Vec Ideal S8x2816 .f32) (hP : CarriedIn m c t P) (x : Fin 512) (d : Fin 1024) :
    tile (iblk m c 0 t) (iblk m c 1 t) (iblk m c 2 t) (iblk m c 3 t) (iblk m c 4 t) (iblk m c 5 t) (iblk m c 6 t) P (ix3 (0 : Fin 1) x d)
      = result m c (ix3 (batchOf t) (rowOf t x) d) := by
  refine (tile_apply _ _ _ _ _ _ _ P x d).trans (Eq.trans ?_ (Cert.Reference2Ideal.Ffn.layer_apply _ _ _ _ _ _ _ _ _).symm)
  refine congrArg₂ (· + ·) (iblk0_apply m c t x d) (Finset.sum_congr rfl fun f _ => ?_)
  rw [conv_eq m c t P hP x f, up_eq, iblk6_apply]
  rfl

/-! ## The rows carried from tile to tile -/

theorem zeros_carried (t : Fin cfg0.N) (h0 : t.val % 16 = 0) : CarriedIn m c t (k0_pay2 (F := Ideal)) := fun i f =>
  ⟨fun _ => by
    pointwise [k0_pay2]
    try simp [Ideal.ofBits, Ideal.ieee],
   fun n hn => by omega⟩

theorem next_carried (t : Fin cfg0.N) (h0 : ¬ t.val % 16 = 0) : CarriedIn m c t (outsAt0 m c (t.val - 1) (Nat.lt_of_le_of_lt (Nat.sub_le _ _) t.isLt)).2 := fun i f => by
  refine ⟨fun h => absurd h h0, fun n hn => ?_⟩
  obtain ⟨L, hL⟩ := carried m c (⟨t.val - 1, Nat.lt_of_le_of_lt (Nat.sub_le _ _) t.isLt⟩ : Fin cfg0.N)
  rw [hL, kept_apply, gate_eq]
  congr 2
  · exact Fin.ext (show (t.val - 1) / 16 = t.val / 16 by omega)
  · exact Fin.ext (show 512 * ((t.val - 1) % 16) + (504 + i.val) = n.val by omega)

/-- The tile stored at a point holds the reference's result of its rows. -/
theorem stored_apply (t : Fin cfg0.N) (x : Fin 512) (d : Fin 1024) :
    (outsAt0 m c t.val t.isLt).1 (ix3 (0 : Fin 1) x d) = result m c (ix3 (batchOf t) (rowOf t x) d) := by
  by_cases h0 : t.val % 16 = 0
  · rw [stored_first m c t h0]
    exact tile_eq m c t _ (zeros_carried m c t h0) x d
  · rw [stored_next m c t h0]
    exact tile_eq m c t _ (next_carried m c t h0) x d

/-! ## The result array -/

/-- The output array after the run is the reference's result. -/
theorem final_out : (dats m 0 c).arrAt 7 cfg0.N = result m c := by
  refine (dats m 0 c).arrAt_eq_of_covers 7 _ (by decide +kernel) fun t _ y => ?_
  obtain ⟨-, -, -, -, -, -, -, ⟨h0, h1, h2⟩⟩ := points t
  blk_simp
  rw [after0_7]
  have hx : (y (1 : Fin 3)).val < 512 := (y (1 : Fin 3)).isLt
  have hd : (y (2 : Fin 3)).val < 1024 := (y (2 : Fin 3)).isLt
  have hy : y = ix3 (0 : Fin 1) (⟨(y (1 : Fin 3)).val, hx⟩ : Fin 512) (⟨(y (2 : Fin 3)).val, hd⟩ : Fin 1024) := by
    blk_ext []
  have he : (win0_7.blk t).view.emb y = ix3 (batchOf t) (rowOf t ⟨(y (1 : Fin 3)).val, hx⟩) (⟨(y (2 : Fin 3)).val, hd⟩ : Fin 1024) := by
    blk_ext [h0, h1, h2, batchOf, rowOf]
  rw [he]
  exact (congrArg (outsAt0 m c t.val t.isLt).1 hy).trans (stored_apply m c t _ _)

/-- The program ends with the output array at the reference's result of its arguments, the arguments as they were. -/
theorem run_value (ρ : Dev nD → PrngReg) :
    θ_run defs (onTc (τ := τ) (main (F := Ideal))) ⟨m, fun _ => 0, ρ⟩ (fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (final_out m c), (h c).2⟩) (Cert.Kernel2Ideal.Value.run_blocks m ρ)

end Cert.Kernel2Ideal.Ffn

end
-- ==== Proof.MixMaths.lean ====
/-
  What the cross-attention needs of the extended reals: a row over its root mean square is real whatever
  the row, a real factor moves through a product of reals, and softmax of finitely many real scores may
  divide each weight or the weighted sum.
-/
module

public import proofs.«01_k».proof.Proof.Softmax

@[expose] public section

noncomputable section

namespace MixMaths

open Idealize.ShloMosaic

/-- A sum of reals, as an extended real. -/
theorem sum_coe {ι : Type} [DecidableEq ι] (J : Finset ι) (f : ι → ℝ) : ∑ j ∈ J, (f j : EReal) = ((∑ j ∈ J, f j : ℝ) : EReal) := by
  induction J using Finset.induction_on with
  | empty => simp
  | insert a J ha ih => rw [Finset.sum_insert ha, Finset.sum_insert ha, ih, EReal.coe_add]

/-- The small real added to a mean of squares. -/
theorem eps_real : ∃ e : ℝ, 0 < e ∧ Ideal.ofBits .f32 0x358637BD#32 = e := by
  simp only [Ideal.ofBits, Ideal.ieee]
  norm_num
  refine ⟨_, ?_, (EReal.coe_mul _ _).symm⟩
  positivity

/-- The softmax scale is real. -/
theorem scale_real : ∃ r : ℝ, Ideal.ofBits .f32 0x3DB504F3#32 = r := by
  simp only [Ideal.ofBits, Ideal.ieee]
  norm_num
  exact ⟨_, (EReal.coe_mul _ _).symm⟩

/-- Times `2 ^ -10` is over 1024. -/
theorem mean_row (s : EReal) : s * Ideal.ofBits .f32 0x3A800000#32 = Ideal.div s (Ideal.ofBits .f32 0x44800000#32) := by
  have h : Ideal.ofBits .f32 0x44800000#32 = ((1024 : ℝ) : EReal) := by
    simp [Ideal.ofBits, Ideal.ieee]
    rw [← EReal.coe_mul]
    norm_num
  have h' : Ideal.ofBits .f32 0x3A800000#32 = ((1 / 1024 : ℝ) : EReal) := by
    simp [Ideal.ofBits, Ideal.ieee]
    rw [← EReal.coe_mul]
    norm_num
  rw [h, h', Ideal.div_coe (by norm_num)]

theorem ofBits_128 : Ideal.ofBits .f32 0x43000000#32 = ((128 : ℝ) : EReal) := by
  simp [Ideal.ofBits, Ideal.ieee]
  rw [← EReal.coe_mul]
  norm_num

/-- Times `2 ^ -7` is over 128. -/
theorem mean_head (s : EReal) : s * Ideal.ofBits .f32 0x3C000000#32 = Ideal.div s (Ideal.ofBits .f32 0x43000000#32) := by
  have h' : Ideal.ofBits .f32 0x3C000000#32 = ((1 / 128 : ℝ) : EReal) := by
    simp [Ideal.ofBits, Ideal.ieee]
    rw [← EReal.coe_mul]
    norm_num
  rw [ofBits_128, h', Ideal.div_coe (by norm_num)]

theorem mul_self_nonneg (x : EReal) : 0 ≤ x * x := by
  induction x with
  | bot => simp
  | top => simp
  | coe r => rw [← EReal.coe_mul]; exact EReal.coe_nonneg.2 (_root_.mul_self_nonneg r)

/-- An entry over the root mean square of its row is a real, infinite entries or not. -/
theorem rms_real {n : ℕ} (x : Fin n → EReal) {c e : ℝ} (hc : 0 < c) (he : 0 < e) (k : Fin n) :
    ∃ r : ℝ, x k * Ideal.rsqrt (Ideal.div (∑ j, x j * x j) (c : EReal) + (e : EReal)) = r := by
  rw [Ideal.div_coe hc.ne']
  have hc' : 0 < 1 / c := one_div_pos.2 hc
  by_cases h : ∀ j, ∃ r : ℝ, x j = r
  · choose y hy using h
    have hs : ∑ j, x j * x j = ((∑ j, y j * y j : ℝ) : EReal) := by
      rw [← sum_coe]
      exact Finset.sum_congr rfl fun j _ => by rw [hy, EReal.coe_mul]
    have hpos : 0 < (∑ j, y j * y j) * (1 / c) + e := by
      have : 0 ≤ ∑ j, y j * y j := Finset.sum_nonneg fun j _ => _root_.mul_self_nonneg (y j)
      positivity
    rw [hs, ← EReal.coe_mul, ← EReal.coe_add, hy]
    refine ⟨y k * (Real.sqrt ((∑ j, y j * y j) * (1 / c) + e))⁻¹, ?_⟩
    rw [EReal.coe_mul]
    refine congrArg _ ?_
    show (if _ then _ else if _ then _ else _) = _
    rw [if_neg (not_lt.2 hpos.le), if_neg hpos.ne']
  · obtain ⟨j, hj⟩ := not_forall.1 h
    have hj' : x j * x j = ⊤ := by
      induction hx : x j with
      | bot => simp
      | top => simp
      | coe r => exact absurd ⟨r, hx⟩ hj
    have hs : ∑ j, x j * x j = ⊤ := top_le_iff.1 (hj' ▸ Finset.single_le_sum (f := fun j => x j * x j) (fun i _ => mul_self_nonneg (x i)) (Finset.mem_univ j))
    rw [hs, EReal.top_mul_coe_of_pos hc', EReal.top_add_coe]
    exact ⟨0, by rw [show Ideal.rsqrt ⊤ = 0 from rfl, mul_zero]; rfl⟩

/-- A real factor on each query entry, or on the product of a real query and a real key, gives one real. -/
theorem scaled_dot {n : ℕ} (q k : Fin n → EReal) (c : EReal) (hq : ∀ e, ∃ r : ℝ, q e = r) (hk : ∀ e, ∃ r : ℝ, k e = r) (hc : ∃ r : ℝ, c = r) :
    ∃ r : ℝ, ∑ e, q e * c * k e = r ∧ (∑ e, q e * k e) * c = r := by
  choose q' hq' using hq
  choose k' hk' using hk
  obtain ⟨c, rfl⟩ := hc
  refine ⟨∑ e, q' e * c * k' e, ?_, ?_⟩
  · rw [← sum_coe]
    exact Finset.sum_congr rfl fun e _ => by rw [hq', hk', EReal.coe_mul, EReal.coe_mul]
  · have : ∑ e, q e * k e = ((∑ e, q' e * k' e : ℝ) : EReal) := by
      rw [← sum_coe]
      exact Finset.sum_congr rfl fun e _ => by rw [hq', hk', EReal.coe_mul]
    rw [this, ← EReal.coe_mul, Finset.sum_mul]
    exact congrArg _ (Finset.sum_congr rfl fun e _ => by ring)

/-- Softmax of real scores: the weighted sum over the sum of weights is the sum under each weight over it. -/
theorem softmax_real {n : ℕ} (s w : Fin n → EReal) (hn : 0 < n) (hs : ∀ j, ∃ r : ℝ, s j = r) :
    Ideal.div (∑ j, Ideal.exp (s j - Finset.univ.sup s) * w j) (∑ j, Ideal.exp (s j - Finset.univ.sup s))
      = ∑ j, w j * Ideal.div (Ideal.exp (s j - Finset.univ.sup s)) (∑ i, Ideal.exp (s i - Finset.univ.sup s)) := by
  obtain ⟨i, -, hi⟩ := Finset.exists_mem_eq_sup Finset.univ ⟨(⟨0, hn⟩ : Fin n), Finset.mem_univ _⟩ s
  rw [hi]
  choose r hr using hs
  have hl : ∑ j, Ideal.exp (s j - s i) = ((∑ j, Real.exp (r j - r i) : ℝ) : EReal) := by
    rw [← sum_coe]
    exact Finset.sum_congr rfl fun j _ => by rw [hr, hr, ← EReal.coe_sub]; rfl
  rw [hl]
  exact Softmax.div_sum Finset.univ _ _ _ (Finset.sum_pos (fun j _ => Real.exp_pos _) ⟨i, Finset.mem_univ i⟩)

end MixMaths

end
-- ==== Proof.MixTile.lean ====
/-
  One point of the mixing projection and cross-attention kernel: what it stores for its tile of rows, in
  terms of its blocks, its four heads each one computation on their own columns; all read at an index.
-/
module

public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Kernel3Ideal.Mix

open Cert.Kernel3Ideal Cert.Kernel3Ideal.Gen Idealize.ShloMosaic Idealize.ShloMosaic.TcCoe

/-! ## One head -/

section
variable {F : FTy → Type} [FloatOps F]

/-- A head's queries over their root mean square, times the gain and the scale. -/
def scaledQuery (q : FVec F S512x128 .f32) (g : Vec F S1x128 .f32) : FVec F S512x128 .bf16 :=
  truncf .bf16 (mulf (mulf (mulf q (broadcastTo S512x128 (rsqrt (addf (mulf (shapeCast S512x1 (multiReduction .add [1] S512 (mulf q q) 0x00000000#32 reduces_S512x128_S512 (.inl rfl) rfl) shapeCasts_S512_S512x1)
      (broadcast S512x1 (Scalar.ofBits .f32 0x3C000000#32))) (broadcast S512x1 (Scalar.ofBits .f32 0x358637BD#32)))) broadcasts_S512x1_S512x128))
    (broadcastTo S512x128 (shapeCast S1x128 g shapeCasts_S1x128_S1x128) broadcasts_S1x128_S512x128)) (broadcast S512x128 (Scalar.ofBits .f32 0x3DB504F3#32))) bitsLt_bf16_f32

/-- A head's scores. -/
def headScores (q : FVec F S512x128 .bf16) (k : Vec F S1x1x256x128 .bf16) : FVec F S512x256 .f32 :=
  matmul dot_S512x128_S256x128_S512x256_1_1_0_0_n_n none q (shapeCast S256x128 k shapeCasts_S1x1x256x128_S256x128 : FVec F S256x128 .bf16) (constant S512x256 .f32 0x00000000#32)

/-- The exponentials of the scores less the row's largest. -/
def weights (s : FVec F S512x256 .f32) : FVec F S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))

/-- The values' weighted sum over the sum of weights. -/
def weighted (p : FVec F S512x256 .f32) (v : Vec F S1x1x256x128 .bf16) : FVec F S512x128 .bf16 :=
  truncf .bf16 (divf (matmul dot_S512x256_S256x128_S512x128_1_0_0_1_n_n none (truncf .bf16 p bitsLt_bf16_f32) (shapeCast S256x128 v shapeCasts_S1x1x256x128_S256x128 : FVec F S256x128 .bf16) (constant S512x128 .f32 0x00000000#32))
    (broadcastTo S512x128 (shapeCast S512x1 (multiReduction .add [1] S512 p 0x00000000#32 reduces_S512x256_S512 (.inl rfl) rfl) shapeCasts_S512_S512x1) broadcasts_S512x1_S512x128)) bitsLt_bf16_f32

/-- One head, from its queries, its keys and its values. -/
def head (q : FVec F S512x128 .f32) (g : Vec F S1x128 .f32) (k v : Vec F S1x1x256x128 .bf16) : FVec F S512x128 .bf16 := weighted (weights (headScores (scaledQuery q g) k)) v

/-- The rows with the four heads, side by side, under the output weights added. -/
def merged (H : FVec F S512x1024 .f32) (o : Fin 4 → FVec F S512x128 .bf16) (W : Vec F S512x1024 .bf16) : FVec F S1x512x1024 .f32 :=
  shapeCast S1x512x1024 (addf H (matmul dot_S512x512_S512x1024_S512x1024_1_0_0_1_n_n none
    (concatenate S512x512 1 [⟨S512x128, o 0⟩, ⟨S512x128, o 1⟩, ⟨S512x128, o 2⟩, ⟨S512x128, o 3⟩] concatenates_S512x128_S512x128_S512x128_S512x128_S512x512_d1)
    (shapeCast S512x1024 W shapeCasts_S512x1024_S512x1024 : FVec F S512x1024 .bf16) (constant S512x1024 .f32 0x00000000#32))) shapeCasts_S512x1024_S1x512x1024

/-- The four heads of a tile, from all its queries. -/
def headsOf (Q : FVec F S512x512 .f32) (g : Vec F S1x128 .f32) (k v : Vec F S1x4x256x128 .bf16) : Fin 4 → FVec F S512x128 .bf16
  | 0 => head (extractStridedSlice S512x128 ![0, 0] Q slices_S512x512_o0_0_S512x128) g (View.ld k r0_8) (View.ld v r0_8)
  | 1 => head (extractStridedSlice S512x128 ![0, 128] Q slices_S512x512_o0_128_S512x128) g (View.ld k r0_9) (View.ld v r0_9)
  | 2 => head (extractStridedSlice S512x128 ![0, 256] Q slices_S512x512_o0_256_S512x128) g (View.ld k r0_10) (View.ld v r0_10)
  | 3 => head (extractStridedSlice S512x128 ![0, 384] Q slices_S512x512_o0_384_S512x128) g (View.ld k r0_11) (View.ld v r0_11)

variable (B0 : Vec F S1x512x1024 .f32) (B1 : Vec F S1x1x1x512x512 .bf16) (B2 B3 : Vec F S1x512x256 .bf16) (B4 : Vec F S512x1024 .bf16) (B5 B6 : Vec F S256x1024 .bf16) (B7 : Vec F S1x1024 .f32)
    (B8 : Vec F S1024x512 .bf16) (B9 : Vec F S1x128 .f32) (B10 B11 : Vec F S1x4x256x128 .bf16) (B12 : Vec F S512x1024 .bf16)

/-- A tile's mixed rows. -/
def rows : FVec F S512x1024 .f32 := k0_pay2 B0 B1 B4 B2 B5 B3 B6

/-- A tile's queries. -/
def tileQueries : FVec F S512x512 .f32 := k0_pay5 (k0_pay2 B0 B1 B4 B2 B5 B3 B6) (k0_pay3 B7) (k0_pay4 B0 B1 B4 B2 B5 B3 B6) B8

/-- What a point stores. -/
theorem out_eq : out0_13 B0 B1 B2 B3 B4 B5 B6 B7 B8 B9 B10 B11 B12
    = merged (rows B0 B1 B2 B3 B4 B5 B6) (headsOf (tileQueries B0 B1 B2 B3 B4 B5 B6 B7 B8) B9 B10 B11) B12 := by
  unfold_out out0_13
  frame_out
  rfl
end

/-! ## At an index -/

theorem scaledQuery_apply (q : FVec Ideal S512x128 .f32) (g : Vec Ideal S1x128 .f32) (x : Fin 512) (e : Fin 128) :
    scaledQuery q g (ix2 x e) = q (ix2 x e) * Ideal.rsqrt ((∑ j : Fin 128, q (ix2 x j) * q (ix2 x j)) * Ideal.ofBits .f32 0x3C000000#32 + Ideal.ofBits .f32 0x358637BD#32)
      * g (ix2 (0 : Fin 1) e) * Ideal.ofBits .f32 0x3DB504F3#32 := by
  pointwise [scaledQuery]

theorem headScores_apply (q : FVec Ideal S512x128 .bf16) (k : Vec Ideal S1x1x256x128 .bf16) (x : Fin 512) (j : Fin 256) :
    headScores q k (ix2 x j) = ∑ e : Fin 128, q (ix2 x e) * k (ix4 (0 : Fin 1) (0 : Fin 1) j e) := by
  pointwise [headScores]

theorem weights_apply (s : FVec Ideal S512x256 .f32) (x : Fin 512) (j : Fin 256) : weights s (ix2 x j) = Ideal.exp (s (ix2 x j) - Finset.univ.sup fun i : Fin 256 => s (ix2 x i)) := by
  have hbot : Ideal.ofBits .f32 0xFF800000#32 = (⊥ : EReal) := by simp [Ideal.ofBits, Ideal.ieee]
  pointwise [weights]
  rw [show Ideal.ofBits FTy.f32 4286578688#32 = ⊥ from hbot]; rfl

theorem weighted_apply (p : FVec Ideal S512x256 .f32) (v : Vec Ideal S1x1x256x128 .bf16) (x : Fin 512) (d : Fin 128) :
    weighted p v (ix2 x d) = Ideal.div (∑ j : Fin 256, p (ix2 x j) * v (ix4 (0 : Fin 1) (0 : Fin 1) j d)) (∑ j : Fin 256, p (ix2 x j)) := by
  pointwise [weighted]

/-- The columns of a head, of the 512. -/
def colOf (h : Fin 4) (e : Fin 128) : Fin 512 := ⟨h.val * 128 + e.val, by omega⟩

/-- The score of a tile's row under a head's key. -/
def scoreAt (Q : FVec Ideal S512x512 .f32) (g : Vec Ideal S1x128 .f32) (k : Vec Ideal S1x4x256x128 .bf16) (h : Fin 4) (x : Fin 512) (j : Fin 256) : EReal :=
  ∑ e : Fin 128, (Q (ix2 x (colOf h e)) * Ideal.rsqrt ((∑ i : Fin 128, Q (ix2 x (colOf h i)) * Q (ix2 x (colOf h i))) * Ideal.ofBits .f32 0x3C000000#32 + Ideal.ofBits .f32 0x358637BD#32)
      * g (ix2 (0 : Fin 1) e) * Ideal.ofBits .f32 0x3DB504F3#32) * k (ix4 (0 : Fin 1) h j e)

/-- One head at an index, its queries, keys and values read where the tile has them. -/
theorem head_apply (Q : FVec Ideal S512x512 .f32) (g : Vec Ideal S1x128 .f32) (k v : Vec Ideal S1x4x256x128 .bf16) (h : Fin 4) (q : FVec Ideal S512x128 .f32) (k' v' : Vec Ideal S1x1x256x128 .bf16)
    (hq : ∀ (x : Fin 512) (e : Fin 128), q (ix2 x e) = Q (ix2 x (colOf h e)))
    (hk : ∀ (j : Fin 256) (e : Fin 128), k' (ix4 (0 : Fin 1) (0 : Fin 1) j e) = k (ix4 (0 : Fin 1) h j e)) (hv : ∀ (j : Fin 256) (e : Fin 128), v' (ix4 (0 : Fin 1) (0 : Fin 1) j e) = v (ix4 (0 : Fin 1) h j e))
    (x : Fin 512) (d : Fin 128) :
    head q g k' v' (ix2 x d) = Ideal.div (∑ j : Fin 256, Ideal.exp (scoreAt Q g k h x j - Finset.univ.sup fun i : Fin 256 => scoreAt Q g k h x i) * v (ix4 (0 : Fin 1) h j d))
      (∑ j : Fin 256, Ideal.exp (scoreAt Q g k h x j - Finset.univ.sup fun i : Fin 256 => scoreAt Q g k h x i)) := by
  have hs : ∀ j : Fin 256, headScores (scaledQuery q g) k' (ix2 x j) = scoreAt Q g k h x j := fun j => by
    rw [headScores_apply]
    simp only [scaledQuery_apply, hq, hk]
    rfl
  unfold head
  rw [weighted_apply]
  simp only [weights_apply, hs, hv]

theorem headsOf_apply (Q : FVec Ideal S512x512 .f32) (g : Vec Ideal S1x128 .f32) (k v : Vec Ideal S1x4x256x128 .bf16) (h : Fin 4) (x : Fin 512) (d : Fin 128) :
    headsOf Q g k v h (ix2 x d) = Ideal.div (∑ j : Fin 256, Ideal.exp (scoreAt Q g k h x j - Finset.univ.sup fun i : Fin 256 => scoreAt Q g k h x i) * v (ix4 (0 : Fin 1) h j d))
      (∑ j : Fin 256, Ideal.exp (scoreAt Q g k h x j - Finset.univ.sup fun i : Fin 256 => scoreAt Q g k h x i)) := by
  match h with
  | 0 => exact head_apply Q g k v 0 _ _ _ (fun x e => by pointwise []; exact congrArg (fun i => Q (ix2 x i)) (Fin.ext (show e.val = 0 * 128 + e.val by omega))) (fun j e => by pointwise []) (fun j e => by pointwise []) x d
  | 1 => exact head_apply Q g k v 1 _ _ _ (fun x e => by pointwise []; rfl) (fun j e => by pointwise []) (fun j e => by pointwise []) x d
  | 2 => exact head_apply Q g k v 2 _ _ _ (fun x e => by pointwise []; rfl) (fun j e => by pointwise []) (fun j e => by pointwise []) x d
  | 3 => exact head_apply Q g k v 3 _ _ _ (fun x e => by pointwise []; rfl) (fun j e => by pointwise []) (fun j e => by pointwise []) x d

theorem merged_apply (H : FVec Ideal S512x1024 .f32) (o : Fin 4 → FVec Ideal S512x128 .bf16) (W : Vec Ideal S512x1024 .bf16) (x : Fin 512) (d : Fin 1024) :
    merged H o W (ix3 (0 : Fin 1) x d) = H (ix2 x d) + ∑ f : Fin 512, o ⟨f.val / 128, by omega⟩ (ix2 x ⟨f.val % 128, by omega⟩) * W (ix2 f d) := by
  pointwise [merged]
  refine congrArg (_ + ·) (Finset.sum_congr rfl fun f _ => congrArg (· * _) ?_)
  have hf := f.isLt
  have pick : ∀ (h h' : Fin 4) (e e' : Fin 128), h.val = h'.val → e.val = e'.val → o h (ix2 x e) = o h' (ix2 x e') := fun h h' e e' hh he => by rw [Fin.ext hh, Fin.ext he]
  split
  · exact pick _ _ _ _ (show 0 = f.val / 128 by omega) (show f.val = f.val % 128 by omega)
  split
  · exact pick _ _ _ _ (show 1 = f.val / 128 by omega) (show f.val - 128 = f.val % 128 by omega)
  split
  · exact pick _ _ _ _ (show 2 = f.val / 128 by omega) (show f.val - 128 - 128 = f.val % 128 by omega)
  · exact pick _ _ _ _ (show 3 = f.val / 128 by omega) (show f.val - 128 - 128 - 128 = f.val % 128 by omega)

section
variable (B0 : Vec Ideal S1x512x1024 .f32) (B1 : Vec Ideal S1x1x1x512x512 .bf16) (B2 B3 : Vec Ideal S1x512x256 .bf16) (B4 : Vec Ideal S512x1024 .bf16) (B5 B6 : Vec Ideal S256x1024 .bf16) (B7 : Vec Ideal S1x1024 .f32)
    (B8 : Vec Ideal S1024x512 .bf16)

theorem rows_apply (x : Fin 512) (d : Fin 1024) : rows B0 B1 B2 B3 B4 B5 B6 (ix2 x d) = B0 (ix3 (0 : Fin 1) x d)
    + (∑ f : Fin 512, B1 (ix5 (0 : Fin 1) (0 : Fin 1) (0 : Fin 1) x f) * B4 (ix2 f d)) + (∑ f : Fin 256, B2 (ix3 (0 : Fin 1) x f) * B5 (ix2 f d)) + ∑ f : Fin 256, B3 (ix3 (0 : Fin 1) x f) * B6 (ix2 f d) := by
  pointwise [rows, k0_pay2]

theorem tileQueries_apply (x f : Fin 512) : tileQueries B0 B1 B2 B3 B4 B5 B6 B7 B8 (ix2 x f) = ∑ k : Fin 1024, rows B0 B1 B2 B3 B4 B5 B6 (ix2 x k)
    * Ideal.rsqrt ((∑ j : Fin 1024, rows B0 B1 B2 B3 B4 B5 B6 (ix2 x j) * rows B0 B1 B2 B3 B4 B5 B6 (ix2 x j)) * Ideal.ofBits .f32 0x3A800000#32 + Ideal.ofBits .f32 0x358637BD#32)
    * B7 (ix2 (0 : Fin 1) k) * B8 (ix2 k f) := by
  unfold tileQueries
  pointwise [k0_pay5, k0_pay4, k0_pay3]
  rfl
end

end Cert.Kernel3Ideal.Mix

end
-- ==== Proof.MixReference.lean ====
/-
  The mixing projection and cross-attention's reference, stage by stage and read at an index: the mixers'
  outputs side by side under the mixing weights, normalised rows to normalised queries, a softmax over
  the memory's 256 keys, its values summed under it, and the heads under the output weights.
-/
module

public import proofs.«01_k».proof.Proof.Reference
public import proofs.«01_k».proof.Proof.Gen.Reference3Ideal.Run
public import Idealize.ShloMosaic.Lib.Pointwise
public import Idealize.ShloMosaic.Lib.Pipeline.Value

@[expose] public section

set_option maxRecDepth 16384

noncomputable section

namespace Cert.Reference3Ideal.Mix

open Cert.Reference3Ideal Cert.Reference3Ideal.Gen Idealize.ShloMosaic Idealize.ShloMosaic.TcCoe

/-! ## The stages -/

/-- The rows with the mixers' outputs, side by side, under the mixing weights added. -/
def mixed (h : FVec Ideal S8x8192x1024 .f32) (a : FVec Ideal S8x8192x512 .f32) (b c : FVec Ideal S8x8192x256 .f32) (w : FVec Ideal S1024x1024 .f32) : FVec Ideal S8x8192x1024 .f32 :=
  addf h (Host.dotGeneral dot_S8x8192x1024_S1024x1024_S8x8192x1024_2_0_01_1_n_n none
    (concatenate S8x8192x1024 2 [⟨S8x8192x512, a⟩, ⟨S8x8192x256, b⟩, ⟨S8x8192x256, c⟩] concatenates_S8x8192x512_S8x8192x256_S8x8192x256_S8x8192x1024_d2) w)

/-- Rows over their root mean square, times the gain. -/
def normed (h : FVec Ideal S8x8192x1024 .f32) (g : FVec Ideal S1024 .f32) : FVec Ideal S8x8192x1024 .f32 :=
  mulf (mulf h (broadcastInDim S8x8192x1024 ![0, 1, 2] bcast_S8x8192x1_S8x8192x1024_0_1_2 (Host.rsqrt (addf (Host.divf (broadcastInDim S8x8192x1 ![0, 1] bcast_S8x8192_S8x8192x1_0_1
      (Host.reduceAdd (mulf h h) (constant S_ .f32 0x00000000#32) reducesTo_S8x8192x1024_S8x8192_d2 h_S_)) (broadcastInDim S8x8192x1 ![] bcast_S_S8x8192x1 (constant S_ .f32 0x44800000#32)))
      (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g))

/-- Queries, four heads of 128. -/
def queries (n : FVec Ideal S8x8192x1024 .f32) (w : FVec Ideal S1024x512 .f32) : FVec Ideal S8x8192x4x128 .f32 :=
  shapeCast _ (Host.dotGeneral dot_S8x8192x1024_S1024x512_S8x8192x512_2_0_01_1_n_n none n w) shapeCasts_S8x8192x512_S8x8192x4x128

/-- Queries over their root mean square, times the gain. -/
def headNormed (q : FVec Ideal S8x8192x4x128 .f32) (g : FVec Ideal S128 .f32) : FVec Ideal S8x8192x4x128 .f32 :=
  mulf (mulf q (broadcastInDim S8x8192x4x128 ![0, 1, 2, 3] bcast_S8x8192x4x1_S8x8192x4x128_0_1_2_3 (Host.rsqrt (addf (Host.divf (broadcastInDim S8x8192x4x1 ![0, 1, 2] bcast_S8x8192x4_S8x8192x4x1_0_1_2
      (Host.reduceAdd (mulf q q) (constant S_ .f32 0x00000000#32) reducesTo_S8x8192x4x128_S8x8192x4_d3 h_S_)) (broadcastInDim S8x8192x4x1 ![] bcast_S_S8x8192x4x1 (constant S_ .f32 0x43000000#32)))
      (broadcastInDim S8x8192x4x1 ![] bcast_S_S8x8192x4x1 (constant S_ .f32 0x358637BD#32))))))
    (broadcastInDim S8x8192x4x128 ![0, 1, 2, 3] bcast_S1x1x1x128_S8x8192x4x128_0_1_2_3 (broadcastInDim S1x1x1x128 ![3] bcast_S128_S1x1x1x128_3 g))

/-- The scaled scores. -/
def scores (q : FVec Ideal S8x8192x4x128 .f32) (k : FVec Ideal S8x256x4x128 .f32) : FVec Ideal S8x4x8192x256 .f32 :=
  mulf (Host.dotGeneral dot_S8x8192x4x128_S8x256x4x128_S8x4x8192x256_3_3_1_1_02_02 none q k) (broadcastInDim S8x4x8192x256 ![] bcast_S_S8x4x8192x256 (constant S_ .f32 0x3DB504F3#32))

/-- Each row's largest score. -/
def rowMax (s : FVec Ideal S8x4x8192x256 .f32) : FVec Ideal S8x4x8192 .f32 :=
  maximumf (broadcastInDim S8x4x8192 ![] bcast_S_S8x4x8192 (constant S_ .f32 0xFF800000#32)) (Host.reduce FloatOps.maximumf s (constant S_ .f32 0xFF800000#32) reducesTo_S8x4x8192x256_S8x4x8192_d3 h_S_)

/-- The exponentials of the scores less the row's largest. -/
def expd (s : FVec Ideal S8x4x8192x256 .f32) (M : FVec Ideal S8x4x8192 .f32) : FVec Ideal S8x4x8192x256 .f32 :=
  Host.exp (subf s (broadcastInDim S8x4x8192x256 ![0, 1, 2, 3] bcast_S8x4x8192x1_S8x4x8192x256_0_1_2_3 (broadcastInDim S8x4x8192x1 ![0, 1, 2] bcast_S8x4x8192_S8x4x8192x1_0_1_2 M)))

/-- The softmax. -/
def probs (e : FVec Ideal S8x4x8192x256 .f32) : FVec Ideal S8x4x8192x256 .f32 :=
  Host.divf e (broadcastInDim S8x4x8192x256 ![0, 1, 2, 3] bcast_S8x4x8192x1_S8x4x8192x256_0_1_2_3
    (broadcastInDim S8x4x8192x1 ![0, 1, 2] bcast_S8x4x8192_S8x4x8192x1_0_1_2 (Host.reduceAdd e (constant S_ .f32 0x00000000#32) reducesTo_S8x4x8192x256_S8x4x8192_d3 h_S_)))

/-- The values summed under the softmax. -/
def summed (v : FVec Ideal S8x256x4x128 .f32) (p : FVec Ideal S8x4x8192x256 .f32) : FVec Ideal S8x8192x4x128 .f32 :=
  transpose S8x8192x4x128 [0, 3, 1, 2] (Host.dotGeneral dot_S8x256x4x128_S8x4x8192x256_S8x4x128x8192_1_3_3_2_02_01 none v p) transposes_S8x4x128x8192_S8x8192x4x128_0_3_1_2

/-- The values under the softmax of the scores. -/
def attended (s : FVec Ideal S8x4x8192x256 .f32) (v : FVec Ideal S8x256x4x128 .f32) : FVec Ideal S8x8192x4x128 .f32 := summed v (probs (expd s (rowMax s)))

/-- The rows with the heads, side by side, under the output weights added. -/
def added (h : FVec Ideal S8x8192x1024 .f32) (o : FVec Ideal S8x8192x4x128 .f32) (w : FVec Ideal S512x1024 .f32) : FVec Ideal S8x8192x1024 .f32 :=
  addf h (Host.dotGeneral dot_S8x8192x512_S512x1024_S8x8192x1024_2_0_01_1_n_n none (shapeCast _ o shapeCasts_S8x8192x4x128_S8x8192x512) w)

/-- The cross-attention's result from the mixed rows. -/
def crossed (h : FVec Ideal S8x8192x1024 .f32) (g : FVec Ideal S1024 .f32) (wq : FVec Ideal S1024x512 .f32) (k v : FVec Ideal S8x256x4x128 .f32) (gq : FVec Ideal S128 .f32)
    (wo : FVec Ideal S512x1024 .f32) : FVec Ideal S8x8192x1024 .f32 :=
  added h (attended (scores (headNormed (queries (normed h g) wq) gq) k) v) wo

/-- The reference's result is its stages composed. -/
theorem result_eq (m : (ℓ : Loc nD τ sig) → Buf (Elt Ideal) ℓ) (c : Dev nD) :
    Cert.Reference3Ideal.Value.res_out0 m c
      = crossed (mixed (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)))
          (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.Reference3Ideal.Value.res_out0 Cert.Reference3Ideal.Value.res_main_v49
  rfl

/-! ## The stages at an index -/

/-- A sum over the 1024 mixed columns is one over each mixer's. -/
theorem sum_mixers (t : Fin 1024 → EReal) :
    ∑ f, t f = ∑ f : Fin 512, t ⟨f.val, by omega⟩ + (∑ f : Fin 256, t ⟨512 + f.val, by omega⟩ + ∑ f : Fin 256, t ⟨768 + f.val, by omega⟩) := by
  refine (Fin.sum_univ_add (a := 512) (b := 512) t).trans (congrArg₂ (· + ·) rfl ?_)
  refine (Fin.sum_univ_add (a := 256) (b := 256) fun f => t (Fin.natAdd 512 f)).trans (congrArg₂ (· + ·) rfl (Finset.sum_congr rfl fun f _ => congrArg t ?_))
  exact Fin.ext (show 512 + (256 + f.val) = 768 + f.val by omega)

theorem mixed_apply (h : FVec Ideal S8x8192x1024 .f32) (a : FVec Ideal S8x8192x512 .f32) (b c : FVec Ideal S8x8192x256 .f32) (w : FVec Ideal S1024x1024 .f32) (i : Fin 8) (n : Fin 8192) (d : Fin 1024) :
    mixed h a b c w (ix3 i n d) = h (ix3 i n d) + (∑ f : Fin 512, a (ix3 i n f) * w (ix2 ⟨f.val, by omega⟩ d)
      + (∑ f : Fin 256, b (ix3 i n f) * w (ix2 ⟨512 + f.val, by omega⟩ d) + ∑ f : Fin 256, c (ix3 i n f) * w (ix2 ⟨768 + f.val, by omega⟩ d))) := by
  pointwise [mixed]
  refine congrArg (_ + ·) ((sum_mixers _).trans (congrArg₂ (· + ·) ?_ (congrArg₂ (· + ·) ?_ ?_)))
  · refine Finset.sum_congr rfl fun f _ => congrArg (· * _) ?_
    simp
  · refine Finset.sum_congr rfl fun f _ => congrArg (· * _) ?_
    simp
  · refine Finset.sum_congr rfl fun f _ => congrArg (· * _) ?_
    simp
    refine (dif_neg (by omega)).trans ((dif_neg (by omega)).trans ?_)
    exact congrArg c (congrArg (ix3 i n) (Fin.ext (show 768 + f.val - 512 - 256 = f.val by omega)))

theorem normed_apply (h : FVec Ideal S8x8192x1024 .f32) (g : FVec Ideal S1024 .f32) (b : Fin 8) (n : Fin 8192) (k : Fin 1024) :
    normed h g (ix3 b n k) = h (ix3 b n k)
      * Ideal.rsqrt (Ideal.div (∑ j : Fin 1024, h (ix3 b n j) * h (ix3 b n j)) (Ideal.ofBits .f32 0x44800000#32) + Ideal.ofBits .f32 0x358637BD#32) * g (ix1 k) := by
  pointwise [normed]

theorem queries_apply (a : FVec Ideal S8x8192x1024 .f32) (w : FVec Ideal S1024x512 .f32) (b : Fin 8) (n : Fin 8192) (h : Fin 4) (e : Fin 128) :
    queries a w (ix4 b n h e) = ∑ k : Fin 1024, a (ix3 b n k) * w (ix2 k ⟨h.val * 128 + e.val, by omega⟩) := by
  pointwise [queries]

theorem headNormed_apply (q : FVec Ideal S8x8192x4x128 .f32) (g : FVec Ideal S128 .f32) (b : Fin 8) (n : Fin 8192) (h : Fin 4) (e : Fin 128) :
    headNormed q g (ix4 b n h e) = q (ix4 b n h e)
      * Ideal.rsqrt (Ideal.div (∑ j : Fin 128, q (ix4 b n h j) * q (ix4 b n h j)) (Ideal.ofBits .f32 0x43000000#32) + Ideal.ofBits .f32 0x358637BD#32) * g (ix1 e) := by
  pointwise [headNormed]

theorem scores_apply (q : FVec Ideal S8x8192x4x128 .f32) (k : FVec Ideal S8x256x4x128 .f32) (b : Fin 8) (h : Fin 4) (n : Fin 8192) (j : Fin 256) :
    scores q k (ix4 b h n j) = (∑ e : Fin 128, q (ix4 b n h e) * k (ix4 b j h e)) * Ideal.ofBits .f32 0x3DB504F3#32 := by
  pointwise [scores]

theorem rowMax_apply (s : FVec Ideal S8x4x8192x256 .f32) (b : Fin 8) (h : Fin 4) (n : Fin 8192) : rowMax s (ix3 b h n) = Finset.univ.sup fun j : Fin 256 => s (ix4 b h n j) := by
  unfold rowMax
  refine (Cert.ReferenceIdeal.Attn.max_bot_apply _ _).trans ?_
  refine Cert.ReferenceIdeal.Attn.reduce_last s _ ?_ _ (by decide) b h n
  show Ideal.ofBits .f32 0xFF800000#32 = ⊥
  simp [Ideal.ofBits, Ideal.ieee]

theorem expd_apply (s : FVec Ideal S8x4x8192x256 .f32) (M : FVec Ideal S8x4x8192 .f32) (b : Fin 8) (h : Fin 4) (n : Fin 8192) (j : Fin 256) :
    expd s M (ix4 b h n j) = Ideal.exp (s (ix4 b h n j) - M (ix3 b h n)) := by
  pointwise [expd]

theorem probs_apply (e : FVec Ideal S8x4x8192x256 .f32) (b : Fin 8) (h : Fin 4) (n : Fin 8192) (j : Fin 256) :
    probs e (ix4 b h n j) = Ideal.div (e (ix4 b h n j)) (∑ i : Fin 256, e (ix4 b h n i)) := by
  pointwise [probs]

theorem summed_apply (v : FVec Ideal S8x256x4x128 .f32) (p : FVec Ideal S8x4x8192x256 .f32) (b : Fin 8) (n : Fin 8192) (h : Fin 4) (d : Fin 128) :
    summed v p (ix4 b n h d) = ∑ j : Fin 256, v (ix4 b j h d) * p (ix4 b h n j) := by
  pointwise [summed]

theorem attended_apply (s : FVec Ideal S8x4x8192x256 .f32) (v : FVec Ideal S8x256x4x128 .f32) (b : Fin 8) (n : Fin 8192) (h : Fin 4) (d : Fin 128) :
    attended s v (ix4 b n h d) = ∑ j : Fin 256, v (ix4 b j h d)
      * Ideal.div (Ideal.exp (s (ix4 b h n j) - Finset.univ.sup fun i : Fin 256 => s (ix4 b h n i))) (∑ i : Fin 256, Ideal.exp (s (ix4 b h n i) - Finset.univ.sup fun i : Fin 256 => s (ix4 b h n i))) := by
  unfold attended
  rw [summed_apply]
  simp only [probs_apply, expd_apply, rowMax_apply]

/-- The rows with the heads' sums under the output weights added. -/
theorem added_apply (h : FVec Ideal S8x8192x1024 .f32) (o : FVec Ideal S8x8192x4x128 .f32) (w : FVec Ideal S512x1024 .f32) (b : Fin 8) (n : Fin 8192) (d : Fin 1024) :
    added h o w (ix3 b n d) = h (ix3 b n d) + ∑ f : Fin 512, o (ix4 b n ⟨f.val / 128, by omega⟩ ⟨f.val % 128, by omega⟩) * w (ix2 f d) := by
  pointwise [added]

end Cert.Reference3Ideal.Mix

end
-- ==== Proof.MixValue.lean ====
/-
  The mixing projection and cross-attention kernel's result is the reference's: at every point the tile
  stored is the reference's result under the tile's place, and the tiles cover the array.
-/
module

public import proofs.«01_k».proof.Proof.MixMaths
public import proofs.«01_k».proof.Proof.MixTile
public import proofs.«01_k».proof.Proof.MixReference
public import Idealize.ShloMosaic.Lib.StableHlo.Run

@[expose] public section

set_option maxRecDepth 16384

noncomputable section

namespace Cert.Kernel3Ideal.Mix

open Idealize.ShloMosaic Idealize.ShloMosaic.TcCoe Idealize.ShloMosaic.StableHlo
open Cert.Kernel3Ideal Cert.Kernel3Ideal.Gen Idealize.SL.Sem
open Cert.Reference3Ideal.Mix (mixed normed queries headNormed scores attended crossed)

variable (m : (ℓ : Loc nD τ sig) → Buf (Elt Ideal) ℓ) (c : Dev nD)

/-- The kernel's arguments: rows, the three mixers' outputs, mixing weights, gain, query weights, the memory's keys and values, the queries' gain, output weights. -/
abbrev argH : FVec Ideal S8x8192x1024 .f32 := m ((c : Thread nD τ).loc main_arg0)
abbrev argA : FVec Ideal S8x8192x512 .f32 := m ((c : Thread nD τ).loc main_arg1)
abbrev argB : FVec Ideal S8x8192x256 .f32 := m ((c : Thread nD τ).loc main_arg2)
abbrev argC : FVec Ideal S8x8192x256 .f32 := m ((c : Thread nD τ).loc main_arg3)
abbrev argM : FVec Ideal S1024x1024 .f32 := m ((c : Thread nD τ).loc main_arg4)
abbrev argG : FVec Ideal S1024 .f32 := m ((c : Thread nD τ).loc main_arg5)
abbrev argQ : FVec Ideal S1024x512 .f32 := m ((c : Thread nD τ).loc main_arg6)
abbrev argK : FVec Ideal S8x256x4x128 .f32 := m ((c : Thread nD τ).loc main_arg7)
abbrev argV : FVec Ideal S8x256x4x128 .f32 := m ((c : Thread nD τ).loc main_arg8)
abbrev argGq : FVec Ideal S128 .f32 := m ((c : Thread nD τ).loc main_arg9)
abbrev argO : FVec Ideal S512x1024 .f32 := m ((c : Thread nD τ).loc main_arg10)

/-! ## The arrays the host prepares -/

/-- Rows in groups of 512, group `g` paired with group `15 - g`. -/
def paired (a : FVec Ideal S8x8192x512 .f32) : FVec Ideal S8x2x8x512x512 .bf16 :=
  truncf .bf16 (concatenate S8x2x8x512x512 1
    [⟨S8x1x8x512x512, broadcastInDim S8x1x8x512x512 ![0, 2, 3, 4] bcast_S8x8x512x512_S8x1x8x512x512_0_2_3_4
        (extractStridedSlice S8x8x512x512 ![0, 0, 0, 0] (shapeCast _ a shapeCasts_S8x8192x512_S8x16x512x512) slices_S8x16x512x512_S8x8x512x512_0_0_0_0)⟩,
     ⟨S8x1x8x512x512, broadcastInDim S8x1x8x512x512 ![0, 2, 3, 4] bcast_S8x8x512x512_S8x1x8x512x512_0_2_3_4
        (Host.reverse [1] (extractStridedSlice S8x8x512x512 ![0, 8, 0, 0] (shapeCast _ a shapeCasts_S8x8192x512_S8x16x512x512) slices_S8x16x512x512_S8x8x512x512_0_8_0_0))⟩]
    concatenates_S8x1x8x512x512_S8x1x8x512x512_S8x2x8x512x512_d1) bitsLt_bf16_f32

/-- Heads in front of the memory's rows. -/
def headed (k : FVec Ideal S8x256x4x128 .f32) : FVec Ideal S8x4x256x128 .bf16 :=
  truncf .bf16 (transpose S8x4x256x128 [0, 2, 1, 3] k transposes_S8x256x4x128_S8x4x256x128_0_2_1_3) bitsLt_bf16_f32

theorem V_paired : V m c main_v7 = paired (argA m c) := by
  show StableHlo.after hostOps0 _ _ = _
  simp only [hostOps0, List.flatten_cons, List.flatten_nil, List.append_nil, List.cons_append, List.nil_append]
  after_results_simp
  rfl

theorem V_second : V m c main_v9 = truncf .bf16 (argB m c) bitsLt_bf16_f32 := by
  show StableHlo.after hostOps0 _ _ = _
  simp only [hostOps0, List.flatten_cons, List.flatten_nil, List.append_nil, List.cons_append, List.nil_append]
  after_results_simp

theorem V_third : V m c main_v10 = truncf .bf16 (argC m c) bitsLt_bf16_f32 := by
  show StableHlo.after hostOps0 _ _ = _
  simp only [hostOps0, List.flatten_cons, List.flatten_nil, List.append_nil, List.cons_append, List.nil_append]
  after_results_simp

theorem V_mixA : V m c main_v11 = extractStridedSlice S512x1024 ![0, 0] (truncf .bf16 (argM m c) bitsLt_bf16_f32) slices_S1024x1024_S512x1024_0_0 := by
  show StableHlo.after hostOps0 _ _ = _
  simp only [hostOps0, List.flatten_cons, List.flatten_nil, List.append_nil, List.cons_append, List.nil_append]
  after_results_simp

theorem V_mixB : V m c main_v12 = extractStridedSlice S256x1024 ![512, 0] (truncf .bf16 (argM m c) bitsLt_bf16_f32) slices_S1024x1024_S256x1024_512_0 := by
  show StableHlo.after hostOps0 _ _ = _
  simp only [hostOps0, List.flatten_cons, List.flatten_nil, List.append_nil, List.cons_append, List.nil_append]
  after_results_simp

theorem V_mixC : V m c main_v13 = extractStridedSlice S256x1024 ![768, 0] (truncf .bf16 (argM m c) bitsLt_bf16_f32) slices_S1024x1024_S256x1024_768_0 := by
  show StableHlo.after hostOps0 _ _ = _
  simp only [hostOps0, List.flatten_cons, List.flatten_nil, List.append_nil, List.cons_append, List.nil_append]
  after_results_simp

theorem V_gain : V m c main_v14 = shapeCast S1x1024 (argG m c) shapeCasts_S1024_S1x1024 := by
  show StableHlo.after hostOps0 _ _ = _
  simp only [hostOps0, List.flatten_cons, List.flatten_nil, List.append_nil, List.cons_append, List.nil_append]
  after_results_simp
  rfl

theorem V_query : V m c main_v15 = truncf .bf16 (argQ m c) bitsLt_bf16_f32 := by
  show StableHlo.after hostOps0 _ _ = _
  simp only [hostOps0, List.flatten_cons, List.flatten_nil, List.append_nil, List.cons_append, List.nil_append]
  after_results_simp

theorem V_headGain : V m c main_v16 = shapeCast S1x128 (argGq m c) shapeCasts_S128_S1x128 := by
  show StableHlo.after hostOps0 _ _ = _
  simp only [hostOps0, List.flatten_cons, List.flatten_nil, List.append_nil, List.cons_append, List.nil_append]
  after_results_simp
  rfl

theorem V_keys : V m c main_v18 = headed (argK m c) := by
  show StableHlo.after hostOps0 _ _ = _
  simp only [hostOps0, List.flatten_cons, List.flatten_nil, List.append_nil, List.cons_append, List.nil_append]
  after_results_simp
  rfl

theorem V_values : V m c main_v20 = headed (argV m c) := by
  show StableHlo.after hostOps0 _ _ = _
  simp only [hostOps0, List.flatten_cons, List.flatten_nil, List.append_nil, List.cons_append, List.nil_append]
  after_results_simp
  rfl

theorem V_out : V m c main_v21 = truncf .bf16 (argO m c) bitsLt_bf16_f32 := by
  show StableHlo.after hostOps0 _ _ = _
  simp only [hostOps0, List.flatten_cons, List.flatten_nil, List.append_nil, List.cons_append, List.nil_append]
  after_results_simp

theorem paired_apply (a : FVec Ideal S8x8192x512 .f32) (b : Fin 8) (s : Fin 2) (g : Fin 8) (r f : Fin 512) (n : Fin 8192) (hn : n.val = 512 * (if s = 0 then g.val else 15 - g.val) + r.val) :
    paired a (ix5 b s g r f) = a (ix3 b n f) := by
  pointwise [paired]
  have hs : s = 0 ∨ s = 1 := by omega
  rcases hs with rfl | rfl
  · simp only [if_true] at hn
    simp only [Fin.val_zero, Nat.zero_lt_one, dite_true]
    congr 1
    congr 1 <;> apply Fin.ext <;> simp <;> omega
  · simp at hn
    simp
    congr 1
    congr 1 <;> apply Fin.ext <;> simp [Fin.rev] <;> omega

theorem headed_apply (k : FVec Ideal S8x256x4x128 .f32) (b : Fin 8) (h : Fin 4) (j : Fin 256) (e : Fin 128) : headed k (ix4 b h j e) = k (ix4 b j h e) := by
  pointwise [headed]

/-! ## The blocks at an index -/

/-- Each window's block at a point: the batch's tile of rows, the batch's memory, or the whole of a weight array. -/
theorem points : ∀ t : Fin cfg0.N,
    (win0_0.index t 0 = t.val / 16 ∧ win0_0.index t 1 = t.val % 16 ∧ win0_0.index t 2 = 0)
    ∧ (win0_1.index t 0 = t.val / 16 ∧ win0_1.index t 1 = t.val % 16 / 8 ∧ win0_1.index t 2 = (if t.val % 16 < 8 then t.val % 16 else 15 - t.val % 16) ∧ win0_1.index t 3 = 0 ∧ win0_1.index t 4 = 0)
    ∧ (win0_2.index t 0 = t.val / 16 ∧ win0_2.index t 1 = t.val % 16 ∧ win0_2.index t 2 = 0) ∧ (win0_3.index t 0 = t.val / 16 ∧ win0_3.index t 1 = t.val % 16 ∧ win0_3.index t 2 = 0)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) ∧ (win0_9.index t 0 = 0 ∧ win0_9.index t 1 = 0)
    ∧ (win0_10.index t 0 = t.val / 16 ∧ win0_10.index t 1 = 0 ∧ win0_10.index t 2 = 0 ∧ win0_10.index t 3 = 0) ∧ (win0_11.index t 0 = t.val / 16 ∧ win0_11.index t 1 = 0 ∧ win0_11.index t 2 = 0 ∧ win0_11.index t 3 = 0)
    ∧ (win0_12.index t 0 = 0 ∧ win0_12.index t 1 = 0)
    ∧ (win0_13.index t 0 = t.val / 16 ∧ win0_13.index t 1 = t.val % 16 ∧ win0_13.index t 2 = 0) := by
  decide +kernel

/-- A point's batch, and the sequence's row its tile's row `x` is. -/
def batchOf (t : Fin cfg0.N) : Fin 8 := ⟨t.val / 16, by have : t.val < 128 := t.isLt; omega⟩
def rowOf (t : Fin cfg0.N) (x : Fin 512) : Fin 8192 := ⟨512 * (t.val % 16) + x.val, by omega⟩

theorem iblk0_apply (t : Fin cfg0.N) (x : Fin 512) (k : Fin 1024) : iblk m c 0 t (ix3 (0 : Fin 1) x k) = argH m c (ix3 (batchOf t) (rowOf t x) k) := by
  obtain ⟨⟨h0, h1, h2⟩, -⟩ := points t
  refine Eq.trans ?_ (congrFun (V_main_arg0 m c) _)
  blk_ext [iblk, h0, h1, h2, batchOf, rowOf]

/-- The pair and group a point's tile of the first mixer's output is in. -/
def pairOf (t : Fin cfg0.N) : Fin 2 := ⟨t.val % 16 / 8, by omega⟩
def groupOf (t : Fin cfg0.N) : Fin 8 := ⟨if t.val % 16 < 8 then t.val % 16 else 15 - t.val % 16, by split <;> omega⟩

theorem iblk1_apply (t : Fin cfg0.N) (x f : Fin 512) : iblk m c 1 t (ix5 (0 : Fin 1) (0 : Fin 1) (0 : Fin 1) x f) = argA m c (ix3 (batchOf t) (rowOf t x) f) := by
  obtain ⟨-, ⟨h0, h1, h2, h3, h4⟩, -⟩ := points t
  refine Eq.trans (b := V m c main_v7 (ix5 (batchOf t) (pairOf t) (groupOf t) x f)) ?_ ?_
  · blk_ext [iblk, h0, h1, h2, h3, h4, batchOf, pairOf, groupOf]
  · rw [V_paired]
    refine paired_apply _ _ _ _ _ _ _ ?_
    show 512 * (t.val % 16) + x.val = 512 * (if pairOf t = 0 then (if t.val % 16 < 8 then t.val % 16 else 15 - t.val % 16) else 15 - (if t.val % 16 < 8 then t.val % 16 else 15 - t.val % 16)) + x.val
    by_cases h : t.val % 16 < 8
    · rw [if_pos (Fin.ext (show t.val % 16 / 8 = 0 by omega)), if_pos h]
    · rw [if_neg (fun h' => h (by have := congrArg Fin.val h'; change t.val % 16 / 8 = 0 at this; omega)), if_neg h]
      omega

theorem iblk2_apply (t : Fin cfg0.N) (x : Fin 512) (f : Fin 256) : iblk m c 2 t (ix3 (0 : Fin 1) x f) = argB m c (ix3 (batchOf t) (rowOf t x) f) := by
  obtain ⟨-, -, ⟨h0, h1, h2⟩, -⟩ := points t
  refine Eq.trans (b := V m c main_v9 (ix3 (batchOf t) (rowOf t x) f)) ?_ ?_
  · blk_ext [iblk, h0, h1, h2, batchOf, rowOf]
  · rw [V_second]
    pointwise []

theorem iblk3_apply (t : Fin cfg0.N) (x : Fin 512) (f : Fin 256) : iblk m c 3 t (ix3 (0 : Fin 1) x f) = argC m c (ix3 (batchOf t) (rowOf t x) f) := by
  obtain ⟨-, -, -, ⟨h0, h1, h2⟩, -⟩ := points t
  refine Eq.trans (b := V m c main_v10 (ix3 (batchOf t) (rowOf t x) f)) ?_ ?_
  · blk_ext [iblk, h0, h1, h2, batchOf, rowOf]
  · rw [V_third]
    pointwise []

theorem iblk4_apply (t : Fin cfg0.N) (f : Fin 512) (d : Fin 1024) : iblk m c 4 t (ix2 f d) = argM m c (ix2 ⟨f.val, by omega⟩ d) := by
  obtain ⟨-, -, -, -, ⟨h0, h1⟩, -⟩ := points t
  refine Eq.trans (b := V m c main_v11 (ix2 f d)) ?_ ?_
  · blk_ext [iblk, h0, h1]
  · rw [V_mixA]
    pointwise []

theorem iblk5_apply (t : Fin cfg0.N) (f : Fin 256) (d : Fin 1024) : iblk m c 5 t (ix2 f d) = argM m c (ix2 ⟨512 + f.val, by omega⟩ d) := by
  obtain ⟨-, -, -, -, -, ⟨h0, h1⟩, -⟩ := points t
  refine Eq.trans (b := V m c main_v12 (ix2 f d)) ?_ ?_
  · blk_ext [iblk, h0, h1]
  · rw [V_mixB]
    pointwise []

theorem iblk6_apply (t : Fin cfg0.N) (f : Fin 256) (d : Fin 1024) : iblk m c 6 t (ix2 f d) = argM m c (ix2 ⟨768 + f.val, by omega⟩ d) := by
  obtain ⟨-, -, -, -, -, -, ⟨h0, h1⟩, -⟩ := points t
  refine Eq.trans (b := V m c main_v13 (ix2 f d)) ?_ ?_
  · blk_ext [iblk, h0, h1]
  · rw [V_mixC]
    pointwise []

theorem iblk7_apply (t : Fin cfg0.N) (k : Fin 1024) : iblk m c 7 t (ix2 (0 : Fin 1) k) = argG m c (ix1 k) := by
  obtain ⟨-, -, -, -, -, -, -, ⟨h0, h1⟩, -⟩ := points t
  refine Eq.trans (b := V m c main_v14 (ix2 (0 : Fin 1) k)) ?_ ?_
  · blk_ext [iblk, h0, h1]
  · rw [V_gain]
    pointwise []

theorem iblk8_apply (t : Fin cfg0.N) (k : Fin 1024) (f : Fin 512) : iblk m c 8 t (ix2 k f) = argQ m c (ix2 k f) := by
  obtain ⟨-, -, -, -, -, -, -, -, ⟨h0, h1⟩, -⟩ := points t
  refine Eq.trans (b := V m c main_v15 (ix2 k f)) ?_ ?_
  · blk_ext [iblk, h0, h1]
  · rw [V_query]
    pointwise []

theorem iblk9_apply (t : Fin cfg0.N) (e : Fin 128) : iblk m c 9 t (ix2 (0 : Fin 1) e) = argGq m c (ix1 e) := by
  obtain ⟨-, -, -, -, -, -, -, -, -, ⟨h0, h1⟩, -⟩ := points t
  refine Eq.trans (b := V m c main_v16 (ix2 (0 : Fin 1) e)) ?_ ?_
  · blk_ext [iblk, h0, h1]
  · rw [V_headGain]
    pointwise []

theorem iblk10_apply (t : Fin cfg0.N) (h : Fin 4) (j : Fin 256) (e : Fin 128) : iblk m c 10 t (ix4 (0 : Fin 1) h j e) = argK m c (ix4 (batchOf t) j h e) := by
  obtain ⟨-, -, -, -, -, -, -, -, -, -, ⟨h0, h1, h2, h3⟩, -⟩ := points t
  refine Eq.trans (b := V m c main_v18 (ix4 (batchOf t) h j e)) ?_ ?_
  · blk_ext [iblk, h0, h1, h2, h3, batchOf]
  · rw [V_keys]
    exact headed_apply _ _ _ _ _

theorem iblk11_apply (t : Fin cfg0.N) (h : Fin 4) (j : Fin 256) (e : Fin 128) : iblk m c 11 t (ix4 (0 : Fin 1) h j e) = argV m c (ix4 (batchOf t) j h e) := by
  obtain ⟨-, -, -, -, -, -, -, -, -, -, -, ⟨h0, h1, h2, h3⟩, -⟩ := points t
  refine Eq.trans (b := V m c main_v20 (ix4 (batchOf t) h j e)) ?_ ?_
  · blk_ext [iblk, h0, h1, h2, h3, batchOf]
  · rw [V_values]
    exact headed_apply _ _ _ _ _

theorem iblk12_apply (t : Fin cfg0.N) (f : Fin 512) (d : Fin 1024) : iblk m c 12 t (ix2 f d) = argO m c (ix2 f d) := by
  obtain ⟨-, -, -, -, -, -, -, -, -, -, -, -, ⟨h0, h1⟩, -⟩ := points t
  refine Eq.trans (b := V m c main_v21 (ix2 f d)) ?_ ?_
  · blk_ext [iblk, h0, h1]
  · rw [V_out]
    pointwise []

/-! ## A tile's rows are the sequence's -/

/-- The mixed rows, the queries and the scores, as the reference has them. -/
abbrev mixedRows : FVec Ideal Cert.Reference3Ideal.S8x8192x1024 .f32 := mixed (argH m c) (argA m c) (argB m c) (argC m c) (argM m c)
abbrev allQueries : FVec Ideal Cert.Reference3Ideal.S8x8192x4x128 .f32 := queries (normed (mixedRows m c) (argG m c)) (argQ m c)
abbrev allScores : FVec Ideal Cert.Reference3Ideal.S8x4x8192x256 .f32 := scores (headNormed (allQueries m c) (argGq m c)) (argK m c)

/-- A point's mixed rows and queries, from its blocks. -/
abbrev rowsAt (t : Fin cfg0.N) : FVec Ideal S512x1024 .f32 := rows (iblk m c 0 t) (iblk m c 1 t) (iblk m c 2 t) (iblk m c 3 t) (iblk m c 4 t) (iblk m c 5 t) (iblk m c 6 t)
abbrev queriesAt (t : Fin cfg0.N) : FVec Ideal S512x512 .f32 :=
  tileQueries (iblk m c 0 t) (iblk m c 1 t) (iblk m c 2 t) (iblk m c 3 t) (iblk m c 4 t) (iblk m c 5 t) (iblk m c 6 t) (iblk m c 7 t) (iblk m c 8 t)

theorem rows_eq (t : Fin cfg0.N) (x : Fin 512) (d : Fin 1024) : rowsAt m c t (ix2 x d) = mixedRows m c (ix3 (batchOf t) (rowOf t x) d) := by
  refine (rows_apply _ _ _ _ _ _ _ x d).trans (Eq.trans ?_ (Cert.Reference3Ideal.Mix.mixed_apply _ _ _ _ _ _ _ _).symm)
  rw [add_assoc, add_assoc]
  simp only [iblk0_apply, iblk1_apply, iblk2_apply, iblk3_apply, iblk4_apply, iblk5_apply, iblk6_apply]

theorem queries_eq (t : Fin cfg0.N) (x : Fin 512) (h : Fin 4) (e : Fin 128) : queriesAt m c t (ix2 x (colOf h e)) = allQueries m c (ix4 (batchOf t) (rowOf t x) h e) := by
  refine (tileQueries_apply _ _ _ _ _ _ _ _ _ x _).trans (Eq.trans ?_ (Cert.Reference3Ideal.Mix.queries_apply _ _ _ _ _ _).symm)
  refine Finset.sum_congr rfl fun k _ => congrArg₂ (· * ·) (Eq.trans ?_ (Cert.Reference3Ideal.Mix.normed_apply _ _ _ _ _).symm) (iblk8_apply m c t k _)
  rw [MixMaths.mean_row, iblk7_apply]
  simp only [rows_eq]

/-- With real keys and a real gain for the queries, a point's scores are the reference's, and reals. -/
theorem scores_eq (hk : ∀ i, ∃ r : ℝ, argK m c i = r) (hg : ∀ i, ∃ r : ℝ, argGq m c i = r) (t : Fin cfg0.N) (h : Fin 4) (x : Fin 512) (j : Fin 256) :
    scoreAt (queriesAt m c t) (iblk m c 9 t) (iblk m c 10 t) h x j = allScores m c (ix4 (batchOf t) h (rowOf t x) j)
      ∧ ∃ r : ℝ, allScores m c (ix4 (batchOf t) h (rowOf t x) j) = r := by
  obtain ⟨ε, hε, hε'⟩ := MixMaths.eps_real
  have hq : ∀ e : Fin 128, ∃ r : ℝ, headNormed (allQueries m c) (argGq m c) (ix4 (batchOf t) (rowOf t x) h e) = r := fun e => by
    obtain ⟨r, hr⟩ := MixMaths.rms_real (fun i : Fin 128 => allQueries m c (ix4 (batchOf t) (rowOf t x) h i)) (c := 128) (by norm_num) hε e
    obtain ⟨g, hg⟩ := hg (ix1 e)
    refine ⟨r * g, ?_⟩
    rw [Cert.Reference3Ideal.Mix.headNormed_apply, MixMaths.ofBits_128, hε', hg, EReal.coe_mul]
    exact congrArg (· * _) hr
  obtain ⟨r, hr, hr'⟩ := MixMaths.scaled_dot _ (fun e : Fin 128 => argK m c (ix4 (batchOf t) j h e)) _ hq (fun e => hk _) MixMaths.scale_real
  have hs : allScores m c (ix4 (batchOf t) h (rowOf t x) j) = r := (Cert.Reference3Ideal.Mix.scores_apply _ _ _ _ _ _).trans hr'
  refine ⟨Eq.trans ?_ (hr.trans hs.symm), r, hs⟩
  unfold scoreAt
  refine Finset.sum_congr rfl fun e _ => congrArg₂ (· * ·) (congrArg (· * _) (Eq.trans ?_ (Cert.Reference3Ideal.Mix.headNormed_apply _ _ _ _ _ _).symm)) (iblk10_apply m c t h j e)
  rw [MixMaths.mean_head, iblk9_apply]
  simp only [queries_eq]

/-- With real keys and a real gain for the queries, a point's heads are the reference's. -/
theorem heads_eq (hk : ∀ i, ∃ r : ℝ, argK m c i = r) (hg : ∀ i, ∃ r : ℝ, argGq m c i = r) (t : Fin cfg0.N) (h : Fin 4) (x : Fin 512) (d : Fin 128) :
    headsOf (queriesAt m c t) (iblk m c 9 t) (iblk m c 10 t) (iblk m c 11 t) h (ix2 x d) = attended (allScores m c) (argV m c) (ix4 (batchOf t) (rowOf t x) h d) := by
  refine (headsOf_apply _ _ _ _ h x d).trans (Eq.trans ?_ (Cert.Reference3Ideal.Mix.attended_apply _ _ _ _ _ _).symm)
  simp only [fun j => (scores_eq m c hk hg t h x j).1, iblk11_apply]
  exact MixMaths.softmax_real (fun j : Fin 256 => allScores m c (ix4 (batchOf t) h (rowOf t x) j)) _ (by norm_num) fun j => (scores_eq m c hk hg t h x j).2

/-- The reference's result, of the kernel's arguments. -/
def result : FVec Ideal S8x8192x1024 .f32 := crossed (mixedRows m c) (argG m c) (argQ m c) (argK m c) (argV m c) (argGq m c) (argO m c)

/-- The tile stored at a point holds the reference's result of its rows. -/
theorem stored_apply (hk : ∀ i, ∃ r : ℝ, argK m c i = r) (hg : ∀ i, ∃ r : ℝ, argGq m c i = r) (t : Fin cfg0.N) (x : Fin 512) (d : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      (iblk m c 12 t) (ix3 (0 : Fin 1) x d) = result m c (ix3 (batchOf t) (rowOf t x) d) := by
  rw [out_eq]
  refine (merged_apply _ _ _ x d).trans (Eq.trans ?_ (Cert.Reference3Ideal.Mix.added_apply _ _ _ _ _ _).symm)
  exact congrArg₂ (· + ·) (rows_eq m c t x d) (Finset.sum_congr rfl fun f _ => congrArg₂ (· * ·) (heads_eq m c hk hg t _ x _) (iblk12_apply m c t f d))

/-! ## The result array -/

/-- The output array after the run is the reference's result. -/
theorem final_out (hk : ∀ i, ∃ r : ℝ, argK m c i = r) (hg : ∀ i, ∃ r : ℝ, argGq m c i = r) : (dats m 0 c).arrAt 13 cfg0.N = result m c := by
  refine (dats m 0 c).arrAt_eq_of_covers 13 _ (by decide +kernel) fun t _ y => ?_
  obtain ⟨-, -, -, -, -, -, -, -, -, -, -, -, -, ⟨h0, h1, h2⟩⟩ := points t
  blk_simp
  rw [after0_13]
  have hx : (y (1 : Fin 3)).val < 512 := (y (1 : Fin 3)).isLt
  have hd : (y (2 : Fin 3)).val < 1024 := (y (2 : Fin 3)).isLt
  have hy : y = ix3 (0 : Fin 1) (⟨(y (1 : Fin 3)).val, hx⟩ : Fin 512) (⟨(y (2 : Fin 3)).val, hd⟩ : Fin 1024) := by
    blk_ext []
  have he : (win0_13.blk t).view.emb y = ix3 (batchOf t) (rowOf t ⟨(y (1 : Fin 3)).val, hx⟩) (⟨(y (2 : Fin 3)).val, hd⟩ : Fin 1024) := by
    blk_ext [h0, h1, h2, batchOf, rowOf]
  rw [he]
  exact (congrArg _ hy).trans (stored_apply m c hk hg t _ _)

/-- The program ends with the output array at the reference's result of its arguments, the arguments as they were. -/
theorem run_value (ρ : Dev nD → PrngReg) (hk : ∀ c i, ∃ r : ℝ, argK m c i = r) (hg : ∀ c i, ∃ r : ℝ, argGq m c i = r) :
    θ_run defs (onTc (τ := τ) (main (F := Ideal))) ⟨m, fun _ => 0, ρ⟩ (fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (final_out m c (hk c) (hg c)), (h c).2⟩) (Cert.Kernel3Ideal.Value.run_blocks m ρ)

end Cert.Kernel3Ideal.Mix

end
-- ==== Proof.InMaths.lean ====
/-
  What the input projections' equation rests on: means over powers of two and over 192; 64 entries spread over
  128 lanes, each half followed by 32 zeros; and turning a pair of halves before or after the root mean square
  and the gain.
-/
module

public import proofs.«01_k».proof.Proof.MixMaths

@[expose] public section

noncomputable section

namespace InMaths

open Idealize.ShloMosaic

/-! ## Means -/

/-- Times `2 ^ -8` is over 256. -/
theorem mean_latent (s : EReal) : s * Ideal.ofBits .f32 0x3B800000#32 = Ideal.div s (Ideal.ofBits .f32 0x43800000#32) := by
  have h : Ideal.ofBits .f32 0x43800000#32 = ((256 : ℝ) : EReal) := by
    simp [Ideal.ofBits, Ideal.ieee]
    rw [← EReal.coe_mul]
    norm_num
  have h' : Ideal.ofBits .f32 0x3B800000#32 = ((1 / 256 : ℝ) : EReal) := by
    simp [Ideal.ofBits, Ideal.ieee]
    rw [← EReal.coe_mul]
    norm_num
  rw [h, h', Ideal.div_coe (by norm_num)]

theorem ofBits_192 : Ideal.ofBits .f32 0x43400000#32 = ((192 : ℝ) : EReal) := by
  simp [Ideal.ofBits, Ideal.ieee]
  rw [← EReal.coe_mul]
  norm_num

/-- Times a 192nd is over 192. -/
theorem mean_head (s : EReal) : s * ((1 / 192 : ℝ) : EReal) = Ideal.div s (Ideal.ofBits .f32 0x43400000#32) := by
  rw [ofBits_192, Ideal.div_coe (by norm_num)]

theorem ofBits_zero : Ideal.ofBits .f32 0x00000000#32 = 0 := by simp [Ideal.ofBits, Ideal.ieee]

/-- The scale on the queries is real and not negative. -/
theorem scale_real : ∃ r : ℝ, 0 ≤ r ∧ Ideal.ofBits .f32 0x3DD53B95#32 = r := by
  simp only [Ideal.ofBits, Ideal.ieee]
  norm_num
  refine ⟨_, ?_, (EReal.coe_mul _ _).symm⟩
  positivity

/-- The root of a mean of squares is a real and not negative, infinite entries or not. -/
theorem root_real {n : ℕ} (x : Fin n → EReal) {c e : ℝ} (hc : 0 < c) (he : 0 < e) : ∃ r : ℝ, 0 ≤ r ∧ Ideal.rsqrt (Ideal.div (∑ j, x j * x j) (c : EReal) + (e : EReal)) = r := by
  rw [Ideal.div_coe hc.ne']
  have hc' : 0 < 1 / c := one_div_pos.2 hc
  have hs : 0 ≤ ∑ j, x j * x j := Finset.sum_nonneg fun j _ => MixMaths.mul_self_nonneg (x j)
  induction h : ∑ j, x j * x j with
  | bot => rw [h] at hs; exact absurd hs (by simp)
  | top => rw [EReal.top_mul_coe_of_pos hc', EReal.top_add_coe]; exact ⟨0, le_rfl, rfl⟩
  | coe s =>
    rw [h] at hs
    have hs' : 0 ≤ s := EReal.coe_nonneg.1 hs
    have hpos : 0 < s * (1 / c) + e := by positivity
    rw [← EReal.coe_mul, ← EReal.coe_add]
    refine ⟨(Real.sqrt (s * (1 / c) + e))⁻¹, by positivity, ?_⟩
    show (if _ then _ else if _ then _ else _) = _
    rw [if_neg (not_lt.2 hpos.le), if_neg hpos.ne']

/-! ## Entries over lanes -/

/-- 64 entries over 128 lanes, each half followed by 32 zeros. -/
def spread (f : Fin 64 → EReal) (l : Fin 128) : EReal :=
  if h : l.val < 32 then f ⟨l.val, by omega⟩ else if _ : l.val < 64 then 0 else if h : l.val < 96 then f ⟨l.val - 32, by omega⟩ else 0

/-- The two halves exchanged. -/
def swap (f : Fin 64 → EReal) (i : Fin 64) : EReal := if h : i.val < 32 then f ⟨i.val + 32, by omega⟩ else f ⟨i.val - 32, by omega⟩

/-- 32 entries twice. -/
def both (c : Fin 32 → EReal) (i : Fin 64) : EReal := if h : i.val < 32 then c ⟨i.val, h⟩ else c ⟨i.val - 32, by omega⟩

/-- 32 entries negated, and again as they are. -/
def opposed (s : Fin 32 → EReal) (i : Fin 64) : EReal := if h : i.val < 32 then -s ⟨i.val, h⟩ else s ⟨i.val - 32, by omega⟩

/-- A pair of halves turned: the first by cosine less the second by sine, the second by cosine and the first by sine. -/
def turn (x : Fin 64 → EReal) (c s : Fin 32 → EReal) (i : Fin 64) : EReal :=
  if h : i.val < 32 then x i * c ⟨i.val, h⟩ - x ⟨i.val + 32, by omega⟩ * s ⟨i.val, h⟩
  else x i * c ⟨i.val - 32, by omega⟩ + x ⟨i.val - 32, by omega⟩ * s ⟨i.val - 32, by omega⟩

/-- Lane by lane, what maps zeros to zero maps the entries. -/
theorem spread_map₂ (op : EReal → EReal → EReal) (h0 : op 0 0 = 0) (f g : Fin 64 → EReal) (l : Fin 128) : op (spread f l) (spread g l) = spread (fun i => op (f i) (g i)) l := by
  unfold spread
  split
  · rfl
  split
  · exact h0
  split
  · rfl
  · exact h0

theorem spread_map (op : EReal → EReal) (h0 : op 0 = 0) (f : Fin 64 → EReal) (l : Fin 128) : op (spread f l) = spread (fun i => op (f i)) l := spread_map₂ (fun a _ => op a) h0 f f l

theorem sum_mul_spread {n : ℕ} (a : Fin n → EReal) (f : Fin n → Fin 64 → EReal) (l : Fin 128) : ∑ k, a k * spread (f k) l = spread (fun i => ∑ k, a k * f k i) l := by
  unfold spread
  split
  · rfl
  split
  · simp
  split
  · rfl
  · simp

theorem sum_spread (f : Fin 64 → EReal) : ∑ l, spread f l = ∑ i, f i := by
  refine (Fin.sum_univ_add (a := 64) (b := 64) _).trans ((congrArg₂ (· + ·) ?_ ?_).trans (Fin.sum_univ_add (a := 32) (b := 32) f).symm)
  · refine (Fin.sum_univ_add (a := 32) (b := 32) _).trans (Eq.trans (congrArg₂ (· + ·) (Finset.sum_congr rfl fun i _ => ?_) (Finset.sum_eq_zero fun i _ => ?_)) (add_zero _))
    · exact dif_pos i.isLt
    · exact (dif_neg (show ¬ 32 + i.val < 32 by omega)).trans (dif_pos (show 32 + i.val < 64 by omega))
  · refine (Fin.sum_univ_add (a := 32) (b := 32) _).trans (Eq.trans (congrArg₂ (· + ·) (Finset.sum_congr rfl fun i _ => ?_) (Finset.sum_eq_zero fun i _ => ?_)) (add_zero _))
    · refine (dif_neg (show ¬ 64 + i.val < 32 by omega)).trans ((dif_neg (show ¬ 64 + i.val < 64 by omega)).trans ((dif_pos (show 64 + i.val < 96 by omega)).trans (congrArg f (Fin.ext ?_))))
      show 64 + i.val - 32 = 32 + i.val
      omega
    · exact (dif_neg (show ¬ 64 + (32 + i.val) < 32 by omega)).trans ((dif_neg (show ¬ 64 + (32 + i.val) < 64 by omega)).trans (dif_neg (show ¬ 64 + (32 + i.val) < 96 by omega)))

/-- A sum over a head's 192 entries is one over 128 lanes of the plain ones and the spread rotary ones. -/
theorem sum_head (q : Fin 192 → EReal) : ∑ e, q e = ∑ l : Fin 128, (q ⟨l.val, by omega⟩ + spread (fun i => q ⟨128 + i.val, by omega⟩) l) := by
  rw [Finset.sum_add_distrib, sum_spread]
  exact Fin.sum_univ_add (a := 128) (b := 64) q

/-- A sum over 512 lanes that keeps those of one head. -/
theorem sum_one_head (t : Fin 512 → EReal) (h : Fin 4) :
    ∑ f : Fin 512, t f * (if f.val / 128 = h.val then 1 else 0) = ∑ l : Fin 128, t ⟨128 * h.val + l.val, by omega⟩ := by
  have hsum : ∀ u : Fin 512 → EReal, ∑ f, u f = ∑ g : Fin 4, ∑ l : Fin 128, u ⟨128 * g.val + l.val, by omega⟩ := fun u => by
    rw [← Fintype.sum_prod_type' (f := fun (g : Fin 4) (l : Fin 128) => u ⟨128 * g.val + l.val, by omega⟩)]
    refine (Fintype.sum_equiv (finProdFinEquiv (m := 4) (n := 128)) _ _ fun p => congrArg u (Fin.ext ?_)).symm
    show 128 * p.1.val + p.2.val = p.2.val + 128 * p.1.val
    omega
  rw [hsum, Finset.sum_eq_single h]
  · refine Finset.sum_congr rfl fun l _ => ?_
    rw [if_pos (show (128 * h.val + l.val) / 128 = h.val by omega), mul_one]
  · intro g _ hg
    refine Finset.sum_eq_zero fun l _ => ?_
    rw [if_neg (fun e => hg (Fin.ext ((show g.val = (128 * g.val + l.val) / 128 by omega).trans e))), mul_zero]
  · exact fun hh => absurd (Finset.mem_univ h) hh

/-! ## Turning -/

/-- Turned, then over the root and scaled, against over the root and under the gain, then turned and scaled. -/
theorem turn_eq (x g : Fin 64 → EReal) (c s : Fin 32 → EReal) {r k : EReal} (hr : ∃ a : ℝ, 0 ≤ a ∧ r = a) (hk : ∃ a : ℝ, 0 ≤ a ∧ k = a) (i : Fin 64) :
    (x i * (g i * both c i * k) + swap x i * (swap g i * opposed s i * k)) * r = turn (fun i => x i * r * g i) c s i * k := by
  obtain ⟨a, ha, rfl⟩ := hr
  obtain ⟨b, hb, rfl⟩ := hk
  rw [EReal.right_distrib_of_nonneg_of_ne_top (EReal.coe_nonneg.2 ha) (EReal.coe_ne_top a)]
  unfold swap both opposed turn
  by_cases h : i.val < 32
  · simp only [dif_pos h]
    rw [sub_eq_add_neg, EReal.right_distrib_of_nonneg_of_ne_top (EReal.coe_nonneg.2 hb) (EReal.coe_ne_top b), ← mul_neg]
    refine congrArg₂ (· + ·) ?_ ?_ <;> ac_rfl
  · simp only [dif_neg h]
    rw [EReal.right_distrib_of_nonneg_of_ne_top (EReal.coe_nonneg.2 hb) (EReal.coe_ne_top b)]
    refine congrArg₂ (· + ·) ?_ ?_ <;> ac_rfl

end InMaths

end
-- ==== Proof.InReference.lean ====
/-
  The input projections' reference, stage by stage and read at an index: normalised rows under the input weights,
  two latents normalised and under weights of their own, four heads of queries and keys normalised and turned.
-/
module

public import proofs.«01_k».proof.Proof.InMaths
public import proofs.«01_k».proof.Proof.Gen.Reference4Ideal.Run
public import Idealize.ShloMosaic.Lib.Pointwise
public import Idealize.ShloMosaic.Lib.Pipeline.Value

@[expose] public section

set_option maxRecDepth 16384

noncomputable section

namespace Cert.Reference4Ideal.Inp

open Cert.Reference4Ideal Cert.Reference4Ideal.Gen Idealize.ShloMosaic Idealize.ShloMosaic.TcCoe

/-! ## The stages -/

/-- Rows over their root mean square, times the gain. -/
def normed (h : FVec Ideal S8x8192x1024 .f32) (g : FVec Ideal S1024 .f32) : FVec Ideal S8x8192x1024 .f32 :=
  mulf (mulf h (broadcastInDim S8x8192x1024 ![0, 1, 2] bcast_S8x8192x1_S8x8192x1024_0_1_2 (Host.rsqrt (addf (Host.divf (broadcastInDim S8x8192x1 ![0, 1] bcast_S8x8192_S8x8192x1_0_1
      (Host.reduceAdd (mulf h h) (constant S_ .f32 0x00000000#32) reducesTo_S8x8192x1024_S8x8192_d2 h_S_)) (broadcastInDim S8x8192x1 ![] bcast_S_S8x8192x1 (constant S_ .f32 0x44800000#32)))
      (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g))

/-- Normalised rows under the input weights. -/
def projected (n : FVec Ideal S8x8192x1024 .f32) (w : FVec Ideal S1024x2384 .f32) : FVec Ideal S8x8192x2384 .f32 :=
  Host.dotGeneral dot_S8x8192x1024_S1024x2384_S8x8192x2384_2_0_01_1_n_n none n w

/-- The queries' latent, and the keys' and values'. -/
def queryLatent (p : FVec Ideal S8x8192x2384 .f32) : FVec Ideal S8x8192x256 .f32 := extractStridedSlice S8x8192x256 ![0, 0, 0] p slices_S8x8192x2384_S8x8192x256_0_0_0
def kvLatent (p : FVec Ideal S8x8192x2384 .f32) : FVec Ideal S8x8192x256 .f32 := extractStridedSlice S8x8192x256 ![0, 0, 256] p slices_S8x8192x2384_S8x8192x256_0_0_256

/-- A latent over its root mean square, times the gain. -/
def latentNormed (l : FVec Ideal S8x8192x256 .f32) (g : FVec Ideal S256 .f32) : FVec Ideal S8x8192x256 .f32 :=
  mulf (mulf l (broadcastInDim S8x8192x256 ![0, 1, 2] bcast_S8x8192x1_S8x8192x256_0_1_2 (Host.rsqrt (addf (Host.divf (broadcastInDim S8x8192x1 ![0, 1] bcast_S8x8192_S8x8192x1_0_1
      (Host.reduceAdd (mulf l l) (constant S_ .f32 0x00000000#32) reducesTo_S8x8192x256_S8x8192_d2 h_S_)) (broadcastInDim S8x8192x1 ![] bcast_S_S8x8192x1 (constant S_ .f32 0x43800000#32)))
      (broadcastInDim S8x8192x1 ![] bcast_S_S8x8192x1 (constant S_ .f32 0x358637BD#32))))))
    (broadcastInDim S8x8192x256 ![0, 1, 2] bcast_S1x1x256_S8x8192x256_0_1_2 (broadcastInDim S1x1x256 ![2] bcast_S256_S1x1x256_2 g))

/-- Four heads of queries. -/
def queries (l : FVec Ideal S8x8192x256 .f32) (w : FVec Ideal S256x768 .f32) : FVec Ideal S8x8192x4x192 .f32 :=
  shapeCast _ (Host.dotGeneral dot_S8x8192x256_S256x768_S8x8192x768_2_0_01_1_n_n none l w) shapeCasts_S8x8192x768_S8x8192x4x192

/-- Four heads of keys' plain parts and values. -/
def keyValues (l : FVec Ideal S8x8192x256 .f32) (w : FVec Ideal S256x1024 .f32) : FVec Ideal S8x8192x4x256 .f32 :=
  shapeCast _ (Host.dotGeneral dot_S8x8192x256_S256x1024_S8x8192x1024_2_0_01_1_n_n none l w) shapeCasts_S8x8192x1024_S8x8192x4x256

/-- Keys: each head's plain part, and the rotary part all heads share. -/
def keys (kv : FVec Ideal S8x8192x4x256 .f32) (p : FVec Ideal S8x8192x2384 .f32) : FVec Ideal S8x8192x4x192 .f32 :=
  concatenate S8x8192x4x192 3 [⟨S8x8192x4x128, (extractStridedSlice S8x8192x4x128 ![0, 0, 0, 0] kv slices_S8x8192x4x256_S8x8192x4x128_0_0_0_0)⟩,
    ⟨S8x8192x4x64, (broadcastInDim S8x8192x4x64 ![0, 1, 2, 3] bcast_S8x8192x1x64_S8x8192x4x64_0_1_2_3 (broadcastInDim S8x8192x1x64 ![0, 1, 3] bcast_S8x8192x64_S8x8192x1x64_0_1_3
      (extractStridedSlice S8x8192x64 ![0, 0, 512] p slices_S8x8192x2384_S8x8192x64_0_0_512)))⟩] concatenates_S8x8192x4x128_S8x8192x4x64_S8x8192x4x192_d3

/-- Heads over their root mean square, times the gain. -/
def headNormed (x : FVec Ideal S8x8192x4x192 .f32) (g : FVec Ideal S192 .f32) : FVec Ideal S8x8192x4x192 .f32 :=
  mulf (mulf x (broadcastInDim S8x8192x4x192 ![0, 1, 2, 3] bcast_S8x8192x4x1_S8x8192x4x192_0_1_2_3 (Host.rsqrt (addf (Host.divf (broadcastInDim S8x8192x4x1 ![0, 1, 2] bcast_S8x8192x4_S8x8192x4x1_0_1_2
      (Host.reduceAdd (mulf x x) (constant S_ .f32 0x00000000#32) reducesTo_S8x8192x4x192_S8x8192x4_d3 h_S_)) (broadcastInDim S8x8192x4x1 ![] bcast_S_S8x8192x4x1 (constant S_ .f32 0x43400000#32)))
      (broadcastInDim S8x8192x4x1 ![] bcast_S_S8x8192x4x1 (constant S_ .f32 0x358637BD#32))))))
    (broadcastInDim S8x8192x4x192 ![0, 1, 2, 3] bcast_S1x1x1x192_S8x8192x4x192_0_1_2_3 (broadcastInDim S1x1x1x192 ![3] bcast_S192_S1x1x1x192_3 g))

/-- The angle of each position and frequency. -/
def angles (p : IVec S8x8192 32) : FVec Ideal S8x8192x32 .f32 :=
  mulf (broadcastInDim S8x8192x32 ![0, 1, 2] bcast_S8x8192x1_S8x8192x32_0_1_2 (broadcastInDim S8x8192x1 ![0, 1] bcast_S8x8192_S8x8192x1_0_1 (sitofp .f32 p)))
    (broadcastInDim S8x8192x32 ![0, 1, 2] bcast_S1x1x32_S8x8192x32_0_1_2 (broadcastInDim S1x1x32 ![2] bcast_S32_S1x1x32_2 (Host.powf (broadcastInDim S32 ![] bcast_S_S32 (constant S_ .f32 0x461C4000#32))
      (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0)))))
        (broadcastInDim S32 ![] bcast_S_S32 (constant S_ .f32 0x42800000#32))))))

/-- The angles' cosines and sines, for all heads. -/
def cosines (a : FVec Ideal S8x8192x32 .f32) : FVec Ideal S8x8192x1x32 .f32 := broadcastInDim S8x8192x1x32 ![0, 1, 3] bcast_S8x8192x32_S8x8192x1x32_0_1_3 (Host.cos a)
def sines (a : FVec Ideal S8x8192x32 .f32) : FVec Ideal S8x8192x1x32 .f32 := broadcastInDim S8x8192x1x32 ![0, 1, 3] bcast_S8x8192x32_S8x8192x1x32_0_1_3 (Host.sin a)

/-- A head's rotary part's first and second half. -/
def first (x : FVec Ideal S8x8192x4x192 .f32) : FVec Ideal S8x8192x4x32 .f32 :=
  extractStridedSlice S8x8192x4x32 ![0, 0, 0, 0] (extractStridedSlice S8x8192x4x64 ![0, 0, 0, 128] x slices_S8x8192x4x192_S8x8192x4x64_0_0_0_128) slices_S8x8192x4x64_S8x8192x4x32_0_0_0_0
def second (x : FVec Ideal S8x8192x4x192 .f32) : FVec Ideal S8x8192x4x32 .f32 :=
  extractStridedSlice S8x8192x4x32 ![0, 0, 0, 32] (extractStridedSlice S8x8192x4x64 ![0, 0, 0, 128] x slices_S8x8192x4x192_S8x8192x4x64_0_0_0_128) slices_S8x8192x4x64_S8x8192x4x32_0_0_0_32

/-- Heads with the rotary part turned. -/
def turned (x : FVec Ideal S8x8192x4x192 .f32) (c s : FVec Ideal S8x8192x1x32 .f32) : FVec Ideal S8x8192x4x192 .f32 :=
  concatenate S8x8192x4x192 3 [⟨S8x8192x4x128, (extractStridedSlice S8x8192x4x128 ![0, 0, 0, 0] x slices_S8x8192x4x192_S8x8192x4x128_0_0_0_0)⟩, ⟨S8x8192x4x64, (concatenate S8x8192x4x64 3
    [⟨S8x8192x4x32, (subf (mulf (first x) (broadcastInDim S8x8192x4x32 ![0, 1, 2, 3] bcast_S8x8192x1x32_S8x8192x4x32_0_1_2_3 c)) (mulf (second x) (broadcastInDim S8x8192x4x32 ![0, 1, 2, 3] bcast_S8x8192x1x32_S8x8192x4x32_0_1_2_3 s)))⟩,
     ⟨S8x8192x4x32, (addf (mulf (second x) (broadcastInDim S8x8192x4x32 ![0, 1, 2, 3] bcast_S8x8192x1x32_S8x8192x4x32_0_1_2_3 c)) (mulf (first x) (broadcastInDim S8x8192x4x32 ![0, 1, 2, 3] bcast_S8x8192x1x32_S8x8192x4x32_0_1_2_3 s)))⟩]
    concatenates_S8x8192x4x32_S8x8192x4x32_S8x8192x4x64_d3)⟩] concatenates_S8x8192x4x128_S8x8192x4x64_S8x8192x4x192_d3

/-- Times the softmax's scale, for base two. -/
def scaled (x : FVec Ideal S8x8192x4x192 .f32) : FVec Ideal S8x8192x4x192 .f32 := mulf x (broadcastInDim S8x8192x4x192 ![] bcast_S_S8x8192x4x192 (constant S_ .f32 0x3DD53B95#32))

def zeros : FVec Ideal S8x8192x4x32 .f32 := broadcastInDim S8x8192x4x32 ![] bcast_S_S8x8192x4x32 (constant S_ .f32 0x00000000#32)

/-- Heads in front, each half of the rotary part followed by zeros. -/
def padded (x : FVec Ideal S8x8192x4x192 .f32) : FVec Ideal S8x4x8192x256 .bf16 :=
  truncf .bf16 (transpose S8x4x8192x256 [0, 2, 1, 3] (concatenate S8x8192x4x256 3 [⟨S8x8192x4x160, (extractStridedSlice S8x8192x4x160 ![0, 0, 0, 0] x slices_S8x8192x4x192_S8x8192x4x160_0_0_0_0)⟩, ⟨S8x8192x4x32, zeros⟩,
    ⟨S8x8192x4x32, (extractStridedSlice S8x8192x4x32 ![0, 0, 0, 160] x slices_S8x8192x4x192_S8x8192x4x32_0_0_0_160)⟩, ⟨S8x8192x4x32, zeros⟩]
    concatenates_S8x8192x4x160_S8x8192x4x32_S8x8192x4x32_S8x8192x4x32_S8x8192x4x256_d3) transposes_S8x8192x4x256_S8x4x8192x256_0_2_1_3) bitsLt_bf16_f32

/-- Values, heads in front. -/
def headed (kv : FVec Ideal S8x8192x4x256 .f32) : FVec Ideal S8x4x8192x128 .bf16 :=
  truncf .bf16 (transpose S8x4x8192x128 [0, 2, 1, 3] (extractStridedSlice S8x8192x4x128 ![0, 0, 0, 128] kv slices_S8x8192x4x256_S8x8192x4x128_0_0_0_128) transposes_S8x8192x4x128_S8x4x8192x128_0_2_1_3) bitsLt_bf16_f32

/-- The second mixer's columns, then zeros. -/
def gla (p : FVec Ideal S8x8192x2384 .f32) : FVec Ideal S8x8192x896 .f32 :=
  concatenate S8x8192x896 2 [⟨S8x8192x128, (extractStridedSlice S8x8192x128 ![0, 0, 576] p slices_S8x8192x2384_S8x8192x128_0_0_576)⟩,
    ⟨S8x8192x128, (extractStridedSlice S8x8192x128 ![0, 0, 704] p slices_S8x8192x2384_S8x8192x128_0_0_704)⟩, ⟨S8x8192x256, (extractStridedSlice S8x8192x256 ![0, 0, 832] p slices_S8x8192x2384_S8x8192x256_0_0_832)⟩,
    ⟨S8x8192x256, (extractStridedSlice S8x8192x256 ![0, 0, 1104] p slices_S8x8192x2384_S8x8192x256_0_0_1104)⟩, ⟨S8x8192x16, (extractStridedSlice S8x8192x16 ![0, 0, 1088] p slices_S8x8192x2384_S8x8192x16_0_0_1088)⟩,
    ⟨S8x8192x112, (broadcastInDim S8x8192x112 ![] bcast_S_S8x8192x112 (constant S_ .f32 0x00000000#32))⟩]
    concatenates_S8x8192x128_S8x8192x128_S8x8192x256_S8x8192x256_S8x8192x16_S8x8192x112_S8x8192x896_d2

/-- The third mixer's columns. -/
def hgrn (p : FVec Ideal S8x8192x2384 .f32) : FVec Ideal S8x8192x1024 .f32 :=
  concatenate S8x8192x1024 2 [⟨S8x8192x256, (extractStridedSlice S8x8192x256 ![0, 0, 1360] p slices_S8x8192x2384_S8x8192x256_0_0_1360)⟩, ⟨S8x8192x256, (extractStridedSlice S8x8192x256 ![0, 0, 1616] p slices_S8x8192x2384_S8x8192x256_0_0_1616)⟩,
    ⟨S8x8192x256, (extractStridedSlice S8x8192x256 ![0, 0, 1872] p slices_S8x8192x2384_S8x8192x256_0_0_1872)⟩, ⟨S8x8192x256, (extractStridedSlice S8x8192x256 ![0, 0, 2128] p slices_S8x8192x2384_S8x8192x256_0_0_2128)⟩]
    concatenates_S8x8192x256_S8x8192x256_S8x8192x256_S8x8192x256_S8x8192x1024_d2

/-! ## The results, from the arguments -/

section
variable (h : FVec Ideal S8x8192x1024 .f32) (pos : IVec S8x8192 32) (g : FVec Ideal S1024 .f32) (w : FVec Ideal S1024x2384 .f32) (gq : FVec Ideal S256 .f32) (wq : FVec Ideal S256x768 .f32)
  (gkv : FVec Ideal S256 .f32) (wkv : FVec Ideal S256x1024 .f32) (hq hk : FVec Ideal S192 .f32)

def allProjected : FVec Ideal S8x8192x2384 .f32 := projected (normed h g) w
def allQueries : FVec Ideal S8x8192x4x192 .f32 := queries (latentNormed (queryLatent (allProjected h g w)) gq) wq
def allKeyValues : FVec Ideal S8x8192x4x256 .f32 := keyValues (latentNormed (kvLatent (allProjected h g w)) gkv) wkv
def allKeys : FVec Ideal S8x8192x4x192 .f32 := keys (allKeyValues h g w gkv wkv) (allProjected h g w)

def resultQ : FVec Ideal S8x4x8192x256 .bf16 := padded (scaled (turned (headNormed (allQueries h g w gq wq) hq) (cosines (angles pos)) (sines (angles pos))))
def resultK : FVec Ideal S8x4x8192x256 .bf16 := padded (turned (headNormed (allKeys h g w gkv wkv) hk) (cosines (angles pos)) (sines (angles pos)))
def resultV : FVec Ideal S8x4x8192x128 .bf16 := headed (allKeyValues h g w gkv wkv)
def resultB : FVec Ideal S8x8192x896 .f32 := gla (allProjected h g w)
def resultC : FVec Ideal S8x8192x1024 .f32 := hgrn (allProjected h g w)
end

/-- The run ends with the five results at the stages composed, the arguments as they were. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v149) = resultQ (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg8))
      ∧ r.2.mem ((c.tc : Thread nD τ).loc main_v154) = resultK (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg6)) (m ((c.tc : Thread nD τ).loc main_arg7)) (m ((c.tc : Thread nD τ).loc main_arg9))
      ∧ r.2.mem ((c.tc : Thread nD τ).loc main_v156) = resultV (m ((c.tc : Thread nD τ).loc main_arg0)) (m ((c.tc : Thread nD τ).loc main_arg2)) (m ((c.tc : Thread nD τ).loc main_arg3))
          (m ((c.tc : Thread nD τ).loc main_arg6)) (m ((c.tc : Thread nD τ).loc main_arg7))
      ∧ r.2.mem ((c.tc : Thread nD τ).loc main_v143) = resultB (m ((c.tc : Thread nD τ).loc main_arg0)) (m ((c.tc : Thread nD τ).loc main_arg2)) (m ((c.tc : Thread nD τ).loc main_arg3))
      ∧ r.2.mem ((c.tc : Thread nD τ).loc main_v144) = resultC (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans rfl, (h c).2.1.trans rfl, (h c).2.2.1.trans rfl, (h c).2.2.2.1.trans rfl, (h c).2.2.2.2.1.trans rfl, (h c).2.2.2.2.2⟩) (Cert.Reference4Ideal.Value.run m ρ)

/-! ## The stages at an index -/

theorem normed_apply (h : FVec Ideal S8x8192x1024 .f32) (g : FVec Ideal S1024 .f32) (b : Fin 8) (n : Fin 8192) (k : Fin 1024) :
    normed h g (ix3 b n k) = h (ix3 b n k)
      * Ideal.rsqrt (Ideal.div (∑ j : Fin 1024, h (ix3 b n j) * h (ix3 b n j)) (Ideal.ofBits .f32 0x44800000#32) + Ideal.ofBits .f32 0x358637BD#32) * g (ix1 k) := by
  pointwise [normed]

theorem projected_apply (a : FVec Ideal S8x8192x1024 .f32) (w : FVec Ideal S1024x2384 .f32) (b : Fin 8) (n : Fin 8192) (c : Fin 2384) :
    projected a w (ix3 b n c) = ∑ k : Fin 1024, a (ix3 b n k) * w (ix2 k c) := by
  pointwise [projected]

theorem queryLatent_apply (p : FVec Ideal S8x8192x2384 .f32) (b : Fin 8) (n : Fin 8192) (j : Fin 256) : queryLatent p (ix3 b n j) = p (ix3 b n ⟨j.val, by omega⟩) := by
  pointwise [queryLatent]

theorem kvLatent_apply (p : FVec Ideal S8x8192x2384 .f32) (b : Fin 8) (n : Fin 8192) (j : Fin 256) : kvLatent p (ix3 b n j) = p (ix3 b n ⟨256 + j.val, by omega⟩) := by
  pointwise [kvLatent]

theorem latentNormed_apply (l : FVec Ideal S8x8192x256 .f32) (g : FVec Ideal S256 .f32) (b : Fin 8) (n : Fin 8192) (k : Fin 256) :
    latentNormed l g (ix3 b n k) = l (ix3 b n k)
      * Ideal.rsqrt (Ideal.div (∑ j : Fin 256, l (ix3 b n j) * l (ix3 b n j)) (Ideal.ofBits .f32 0x43800000#32) + Ideal.ofBits .f32 0x358637BD#32) * g (ix1 k) := by
  pointwise [latentNormed]

theorem queries_apply (l : FVec Ideal S8x8192x256 .f32) (w : FVec Ideal S256x768 .f32) (b : Fin 8) (n : Fin 8192) (h : Fin 4) (e : Fin 192) :
    queries l w (ix4 b n h e) = ∑ j : Fin 256, l (ix3 b n j) * w (ix2 j ⟨h.val * 192 + e.val, by omega⟩) := by
  pointwise [queries]

theorem keyValues_apply (l : FVec Ideal S8x8192x256 .f32) (w : FVec Ideal S256x1024 .f32) (b : Fin 8) (n : Fin 8192) (h : Fin 4) (e : Fin 256) :
    keyValues l w (ix4 b n h e) = ∑ j : Fin 256, l (ix3 b n j) * w (ix2 j ⟨h.val * 256 + e.val, by omega⟩) := by
  pointwise [keyValues]

theorem keys_plain (kv : FVec Ideal S8x8192x4x256 .f32) (p : FVec Ideal S8x8192x2384 .f32) (b : Fin 8) (n : Fin 8192) (h : Fin 4) (l : Fin 128) :
    keys kv p (ix4 b n h ⟨l.val, by omega⟩) = kv (ix4 b n h ⟨l.val, by omega⟩) := by
  pointwise [keys]

theorem keys_rotary (kv : FVec Ideal S8x8192x4x256 .f32) (p : FVec Ideal S8x8192x2384 .f32) (b : Fin 8) (n : Fin 8192) (h : Fin 4) (i : Fin 64) :
    keys kv p (ix4 b n h ⟨128 + i.val, by omega⟩) = p (ix3 b n ⟨512 + i.val, by omega⟩) := by
  pointwise [keys]

theorem headNormed_apply (x : FVec Ideal S8x8192x4x192 .f32) (g : FVec Ideal S192 .f32) (b : Fin 8) (n : Fin 8192) (h : Fin 4) (e : Fin 192) :
    headNormed x g (ix4 b n h e) = x (ix4 b n h e)
      * Ideal.rsqrt (Ideal.div (∑ j : Fin 192, x (ix4 b n h j) * x (ix4 b n h j)) (Ideal.ofBits .f32 0x43400000#32) + Ideal.ofBits .f32 0x358637BD#32) * g (ix1 e) := by
  pointwise [headNormed]

theorem turned_plain (x : FVec Ideal S8x8192x4x192 .f32) (c s : FVec Ideal S8x8192x1x32 .f32) (b : Fin 8) (n : Fin 8192) (h : Fin 4) (l : Fin 128) :
    turned x c s (ix4 b n h ⟨l.val, by omega⟩) = x (ix4 b n h ⟨l.val, by omega⟩) := by
  pointwise [turned]

theorem turned_rotary (x : FVec Ideal S8x8192x4x192 .f32) (a : FVec Ideal S8x8192x32 .f32) (b : Fin 8) (n : Fin 8192) (h : Fin 4) (i : Fin 64) :
    turned x (cosines a) (sines a) (ix4 b n h ⟨128 + i.val, by omega⟩)
      = InMaths.turn (fun i => x (ix4 b n h ⟨128 + i.val, by omega⟩)) (fun j => Host.cos a (ix3 b n j)) (fun j => Host.sin a (ix3 b n j)) i := by
  pointwise [turned, first, second, cosines, sines]
  unfold InMaths.turn
  dsimp only
  by_cases h' : i.val < 32
  · simp only [dif_pos h', show 32 + i.val = i.val + 32 from Nat.add_comm _ _]
  · simp only [dif_neg h', show 32 + (i.val - 32) = i.val by omega]

theorem scaled_apply (x : FVec Ideal S8x8192x4x192 .f32) (b : Fin 8) (n : Fin 8192) (h : Fin 4) (e : Fin 192) : scaled x (ix4 b n h e) = x (ix4 b n h e) * Ideal.ofBits .f32 0x3DD53B95#32 := by
  pointwise [scaled]

theorem padded_plain (x : FVec Ideal S8x8192x4x192 .f32) (b : Fin 8) (n : Fin 8192) (h : Fin 4) (l : Fin 128) : padded x (ix4 b h n ⟨l.val, by omega⟩) = x (ix4 b n h ⟨l.val, by omega⟩) := by
  pointwise [padded, zeros]
  exact dif_pos (by omega)

theorem padded_turned (x : FVec Ideal S8x8192x4x192 .f32) (b : Fin 8) (n : Fin 8192) (h : Fin 4) (l : Fin 128) :
    padded x (ix4 b h n ⟨128 + l.val, by omega⟩) = InMaths.spread (fun i => x (ix4 b n h ⟨128 + i.val, by omega⟩)) l := by
  pointwise [padded, zeros]
  unfold InMaths.spread
  repeat' split
  all_goals first | (exfalso; omega) | rfl | exact congrArg (fun k => x (ix4 b n h k)) (Fin.ext (by dsimp only <;> omega))

theorem headed_apply (kv : FVec Ideal S8x8192x4x256 .f32) (b : Fin 8) (n : Fin 8192) (h : Fin 4) (l : Fin 128) : headed kv (ix4 b h n l) = kv (ix4 b n h ⟨128 + l.val, by omega⟩) := by
  pointwise [headed]

theorem gla_apply (p : FVec Ideal S8x8192x2384 .f32) (b : Fin 8) (n : Fin 8192) (c : Fin 896) : gla p (ix3 b n c)
    = if h : c.val < 512 then p (ix3 b n ⟨576 + c.val, by omega⟩) else if h : c.val < 768 then p (ix3 b n ⟨592 + c.val, by omega⟩) else if h : c.val < 784 then p (ix3 b n ⟨320 + c.val, by omega⟩) else 0 := by
  pointwise [gla]
  repeat' split
  all_goals first | (exfalso; omega) | rfl | exact congrArg (fun k => p (ix3 b n k)) (Fin.ext (by dsimp only <;> omega))

theorem hgrn_apply (p : FVec Ideal S8x8192x2384 .f32) (b : Fin 8) (n : Fin 8192) (c : Fin 1024) : hgrn p (ix3 b n c) = p (ix3 b n ⟨1360 + c.val, by omega⟩) := by
  pointwise [hgrn]
  repeat' split
  all_goals first | rfl | exact congrArg (fun k => p (ix3 b n k)) (Fin.ext (by dsimp only <;> omega))

end Cert.Reference4Ideal.Inp

end
-- ==== Proof.InHost.lean ====
/-
  The arrays the host prepares for the input projections' kernel, read at an index: columns laid out in whole lanes,
  rotary parts spread over 128 lanes and once more with the halves exchanged, angles' cosines and sines, and two
  arrays of ones to sum lanes with.
-/
module

public import proofs.«01_k».proof.Proof.InReference
public import proofs.«01_k».proof.Proof.Gen.Kernel4Ideal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kernel4Ideal.Inp

open Idealize.ShloMosaic Idealize.ShloMosaic.TcCoe Idealize.ShloMosaic.StableHlo
open Cert.Kernel4Ideal Cert.Kernel4Ideal.Gen Idealize.SL.Sem

variable (m : (ℓ : Loc nD τ sig) → Buf (Elt Ideal) ℓ) (c : Dev nD)

/-- The kernel's arguments: rows, positions, gain, input weights, the latents' gains and weights, the heads' gains. -/
abbrev argH : FVec Ideal S8x8192x1024 .f32 := m ((c : Thread nD τ).loc main_arg0)
abbrev argP : IVec S8x8192 32 := m ((c : Thread nD τ).loc main_arg1)
abbrev argG : FVec Ideal S1024 .f32 := m ((c : Thread nD τ).loc main_arg2)
abbrev argW : FVec Ideal S1024x2384 .f32 := m ((c : Thread nD τ).loc main_arg3)
abbrev argGq : FVec Ideal S256 .f32 := m ((c : Thread nD τ).loc main_arg4)
abbrev argWq : FVec Ideal S256x768 .f32 := m ((c : Thread nD τ).loc main_arg5)
abbrev argGkv : FVec Ideal S256 .f32 := m ((c : Thread nD τ).loc main_arg6)
abbrev argWkv : FVec Ideal S256x1024 .f32 := m ((c : Thread nD τ).loc main_arg7)
abbrev argHq : FVec Ideal S192 .f32 := m ((c : Thread nD τ).loc main_arg8)
abbrev argHk : FVec Ideal S192 .f32 := m ((c : Thread nD τ).loc main_arg9)

/-! ## The input weights -/

/-- Four pieces of 32 columns side by side, and two. -/
def four (a b d e : FVec Ideal S1024x32 .f32) : FVec Ideal S1024x128 .f32 :=
  concatenate S1024x128 1 [⟨S1024x32, a⟩, ⟨S1024x32, b⟩, ⟨S1024x32, d⟩, ⟨S1024x32, e⟩] concatenates_S1024x32_S1024x32_S1024x32_S1024x32_S1024x128_d1
def two (a b : FVec Ideal S1024x32 .f32) : FVec Ideal S1024x64 .f32 :=
  concatenate S1024x64 1 [⟨S1024x32, a⟩, ⟨S1024x32, b⟩] concatenates_S1024x32_S1024x32_S1024x64_d1

def zeros32 : FVec Ideal S1024x32 .f32 := broadcastInDim S1024x32 ![] bcast_S_S1024x32 (constant S_ .f32 0x00000000#32)

/-- The two halves of 64 columns. -/
def low (a : FVec Ideal S1024x64 .f32) : FVec Ideal S1024x32 .f32 := extractStridedSlice S1024x32 ![0, 0] a slices_S1024x64_S1024x32_0_0
def high (a : FVec Ideal S1024x64 .f32) : FVec Ideal S1024x32 .f32 := extractStridedSlice S1024x32 ![0, 32] a slices_S1024x64_S1024x32_0_32

/-- The keys' rotary columns. -/
def rotary (w : FVec Ideal S1024x2384 .f32) : FVec Ideal S1024x64 .f32 := extractStridedSlice S1024x64 ![0, 512] w slices_S1024x2384_S1024x64_0_512

/-- Thirteen pieces side by side. -/
def wide (a0 a1 : FVec Ideal S1024x256 .f32) (a2 a3 a4 a5 : FVec Ideal S1024x128 .f32) (a6 a7 : FVec Ideal S1024x256 .f32) (a8 : FVec Ideal S1024x128 .f32) (a9 a10 a11 a12 : FVec Ideal S1024x256 .f32) :
    FVec Ideal S1024x2688 .bf16 :=
  truncf .bf16 (concatenate S1024x2688 1 [⟨S1024x256, a0⟩, ⟨S1024x256, a1⟩, ⟨S1024x128, a2⟩, ⟨S1024x128, a3⟩, ⟨S1024x128, a4⟩, ⟨S1024x128, a5⟩, ⟨S1024x256, a6⟩, ⟨S1024x256, a7⟩, ⟨S1024x128, a8⟩,
    ⟨S1024x256, a9⟩, ⟨S1024x256, a10⟩, ⟨S1024x256, a11⟩, ⟨S1024x256, a12⟩]
    concatenates_S1024x256_S1024x256_S1024x128_S1024x128_S1024x128_S1024x128_S1024x256_S1024x256_S1024x128_S1024x256_S1024x256_S1024x256_S1024x256_S1024x2688_d1) bitsLt_bf16_f32

/-- The input weights, their columns in the kernel's order. -/
def relaid (w : FVec Ideal S1024x2384 .f32) : FVec Ideal S1024x2688 .bf16 :=
  wide (extractStridedSlice S1024x256 ![0, 0] w slices_S1024x2384_S1024x256_0_0) (extractStridedSlice S1024x256 ![0, 256] w slices_S1024x2384_S1024x256_0_256)
    (four (low (rotary w)) zeros32 (high (rotary w)) zeros32) (four (low (two (high (rotary w)) (low (rotary w)))) zeros32 (high (two (high (rotary w)) (low (rotary w)))) zeros32)
    (extractStridedSlice S1024x128 ![0, 576] w slices_S1024x2384_S1024x128_0_576) (extractStridedSlice S1024x128 ![0, 704] w slices_S1024x2384_S1024x128_0_704)
    (extractStridedSlice S1024x256 ![0, 832] w slices_S1024x2384_S1024x256_0_832) (extractStridedSlice S1024x256 ![0, 1104] w slices_S1024x2384_S1024x256_0_1104)
    (pad S1024x128 ![0, 0] ![0, 112] ![0, 0] (extractStridedSlice S1024x16 ![0, 1088] w slices_S1024x2384_S1024x16_0_1088) (sitofp .f32 (constantI S_ 32 0#32)) pads_S1024x16_S1024x128_000_01120 h_S_)
    (extractStridedSlice S1024x256 ![0, 1360] w slices_S1024x2384_S1024x256_0_1360) (extractStridedSlice S1024x256 ![0, 1616] w slices_S1024x2384_S1024x256_0_1616)
    (extractStridedSlice S1024x256 ![0, 1872] w slices_S1024x2384_S1024x256_0_1872) (extractStridedSlice S1024x256 ![0, 2128] w slices_S1024x2384_S1024x256_0_2128)

theorem four_congr {a b d e a' b' d' e' : FVec Ideal S1024x32 .f32} (ha : a = a') (hb : b = b') (hd : d = d') (he : e = e') : four a b d e = four a' b' d' e' := by rw [ha, hb, hd, he]
theorem two_congr {a b a' b' : FVec Ideal S1024x32 .f32} (ha : a = a') (hb : b = b') : two a b = two a' b' := by rw [ha, hb]

theorem wide_congr {a0 a1 b0 b1 : FVec Ideal S1024x256 .f32} {a2 a3 a4 a5 b2 b3 b4 b5 : FVec Ideal S1024x128 .f32} {a6 a7 b6 b7 : FVec Ideal S1024x256 .f32} {a8 b8 : FVec Ideal S1024x128 .f32}
    {a9 a10 a11 a12 b9 b10 b11 b12 : FVec Ideal S1024x256 .f32} (h0 : a0 = b0) (h1 : a1 = b1) (h2 : a2 = b2) (h3 : a3 = b3) (h4 : a4 = b4) (h5 : a5 = b5) (h6 : a6 = b6) (h7 : a7 = b7) (h8 : a8 = b8)
    (h9 : a9 = b9) (h10 : a10 = b10) (h11 : a11 = b11) (h12 : a12 = b12) : wide a0 a1 a2 a3 a4 a5 a6 a7 a8 a9 a10 a11 a12 = wide b0 b1 b2 b3 b4 b5 b6 b7 b8 b9 b10 b11 b12 := by
  rw [h0, h1, h2, h3, h4, h5, h6, h7, h8, h9, h10, h11, h12]

theorem V_weights : V m c main_v57 = relaid (argW m c) := by
  show StableHlo.after (hostOps0 ++ (hostOps0_1 ++ (hostOps0_2 ++ []))) _ _ = _
  after_reads_simp
  refine wide_congr ?_ ?_ ?_ ?_ ?_ ?_ ?_ ?_ ?_ ?_ ?_ ?_ ?_
  case _ =>
    show upto _ _ _ (Proc.devRef .tc main_v33) = _
    after_reads_simp
  case _ =>
    show upto _ _ _ (Proc.devRef .tc main_v34) = _
    after_reads_simp
  case _ =>
    show upto _ _ _ (Proc.devRef .tc main_v39) = _
    after_reads_simp
    refine four_congr ?_ ?_ ?_ ?_
    case _ =>
      show upto _ _ _ (Proc.devRef .tc main_v37) = _
      after_reads_simp
      rfl
    case _ =>
      show upto _ _ _ (Proc.devRef .tc main_v36) = _
      after_reads_simp
      rfl
    case _ =>
      show upto _ _ _ (Proc.devRef .tc main_v38) = _
      after_reads_simp
      rfl
    case _ =>
      show upto _ _ _ (Proc.devRef .tc main_v36) = _
      after_reads_simp
      rfl
  case _ =>
    show upto _ _ _ (Proc.devRef .tc main_v47) = _
    after_reads_simp
    refine four_congr ?_ ?_ ?_ ?_
    case _ =>
      show upto _ _ _ (Proc.devRef .tc main_v45) = _
      after_reads_simp
      refine congrArg low (two_congr ?_ ?_)
      · show upto _ _ _ (Proc.devRef .tc main_v41) = _
        after_reads_simp
        rfl
      · show upto _ _ _ (Proc.devRef .tc main_v42) = _
        after_reads_simp
        rfl
    case _ =>
      show upto _ _ _ (Proc.devRef .tc main_v44) = _
      after_reads_simp
      rfl
    case _ =>
      show upto _ _ _ (Proc.devRef .tc main_v46) = _
      after_reads_simp
      refine congrArg high (two_congr ?_ ?_)
      · show upto _ _ _ (Proc.devRef .tc main_v41) = _
        after_reads_simp
        rfl
      · show upto _ _ _ (Proc.devRef .tc main_v42) = _
        after_reads_simp
        rfl
    case _ =>
      show upto _ _ _ (Proc.devRef .tc main_v44) = _
      after_reads_simp
      rfl
  case _ =>
    show upto _ _ _ (Proc.devRef .tc main_v48) = _
    after_reads_simp
  case _ =>
    show upto _ _ _ (Proc.devRef .tc main_v49) = _
    after_reads_simp
  case _ =>
    show upto _ _ _ (Proc.devRef .tc main_v50) = _
    after_reads_simp
  case _ =>
    show upto _ _ _ (Proc.devRef .tc main_v51) = _
    after_reads_simp
  case _ =>
    show upto _ _ _ (Proc.devRef .tc main_v32) = _
    after_reads_simp
    rfl
  case _ =>
    show upto _ _ _ (Proc.devRef .tc main_v52) = _
    after_reads_simp
  case _ =>
    show upto _ _ _ (Proc.devRef .tc main_v53) = _
    after_reads_simp
  case _ =>
    show upto _ _ _ (Proc.devRef .tc main_v54) = _
    after_reads_simp
  case _ =>
    show upto _ _ _ (Proc.devRef .tc main_v55) = _
    after_reads_simp

/-- Narrowing a number changes nothing here. -/
theorem narrow (x : FVec Ideal S1024x2688 .f32) (i : S1024x2688.Idx) : truncf .bf16 x bitsLt_bf16_f32 i = x i := rfl

/-- A piece of the thirteen, read where its columns are. -/
theorem piece128 {xs : List ((s : Shape) × (s.Idx → EReal))} (h : Shape.Concatenates (xs.map (·.1)) S1024x2688 1) (k : Fin 1024) (c : Fin 2688) (p : ℕ) (hp : p < xs.length)
    (x : S1024x128.Idx → EReal) (hx : xs[p] = ⟨S1024x128, x⟩) (o : ℕ)
    (ho : (((xs.take p).map (·.1)).map fun s => if h : s.rank = S1024x2688.rank then s.size ((1 : Fin S1024x2688.rank).cast h.symm) else 0).sum = o) (l : Fin 128) (hl : o + l.val = c.val) :
    concatenate S1024x2688 1 xs h (ix2 k c) = x (ix2 k l) := by
  refine concatenate_apply_piece 1 xs h (ix2 k c) p hp S1024x128 x hx rfl o ho (ix2 k l) (fun b hb => ?_) hl
  fin_cases b
  · rfl
  · exact absurd rfl hb

theorem piece256 {xs : List ((s : Shape) × (s.Idx → EReal))} (h : Shape.Concatenates (xs.map (·.1)) S1024x2688 1) (k : Fin 1024) (c : Fin 2688) (p : ℕ) (hp : p < xs.length)
    (x : S1024x256.Idx → EReal) (hx : xs[p] = ⟨S1024x256, x⟩) (o : ℕ)
    (ho : (((xs.take p).map (·.1)).map fun s => if h : s.rank = S1024x2688.rank then s.size ((1 : Fin S1024x2688.rank).cast h.symm) else 0).sum = o) (l : Fin 256) (hl : o + l.val = c.val) :
    concatenate S1024x2688 1 xs h (ix2 k c) = x (ix2 k l) := by
  refine concatenate_apply_piece 1 xs h (ix2 k c) p hp S1024x256 x hx rfl o ho (ix2 k l) (fun b hb => ?_) hl
  fin_cases b
  · rfl
  · exact absurd rfl hb

/-- A column of the weights, from its number. -/
theorem column (w : FVec Ideal S1024x2384 .f32) (k : Fin 1024) {a b : Fin 2384} (h : a.val = b.val) : w (ix2 k a) = w (ix2 k b) := by rw [Fin.ext h]

/-- The kernel's columns: the latents', -/
theorem relaid_latent (w : FVec Ideal S1024x2384 .f32) (k : Fin 1024) (j : Fin 512) : relaid w (ix2 k ⟨j.val, by omega⟩) = w (ix2 k ⟨j.val, by omega⟩) := by
  unfold relaid wide
  refine Eq.trans (narrow _ _) ?_
  by_cases h : j.val < 256
  · refine Eq.trans (piece256 _ k _ 0 (by show 0 < 13; omega) _ rfl 0 rfl ⟨j.val, h⟩ (Nat.zero_add _)) ?_
    pointwise []
  · refine Eq.trans (piece256 _ k _ 1 (by show 1 < 13; omega) _ rfl 256 rfl ⟨j.val - 256, by omega⟩ (show 256 + (j.val - 256) = j.val by omega)) ?_
    pointwise []
    exact column w k (show 256 + (j.val - 256) = j.val by omega)

/-- the keys' rotary ones, spread, -/
theorem relaid_rotary (w : FVec Ideal S1024x2384 .f32) (k : Fin 1024) (l : Fin 128) : relaid w (ix2 k ⟨512 + l.val, by omega⟩) = InMaths.spread (fun i => w (ix2 k ⟨512 + i.val, by omega⟩)) l := by
  unfold relaid wide
  refine Eq.trans (narrow _ _) ?_
  refine Eq.trans (piece128 _ k _ 2 (by show 2 < 13; omega) _ rfl 512 rfl l rfl) ?_
  pointwise [four, low, high, rotary, zeros32]
  unfold InMaths.spread
  repeat' split
  all_goals first | (exfalso; omega) | rfl | exact column w k (by dsimp only <;> omega)

/-- those with the halves exchanged, -/
theorem relaid_exchanged (w : FVec Ideal S1024x2384 .f32) (k : Fin 1024) (l : Fin 128) : relaid w (ix2 k ⟨640 + l.val, by omega⟩) = InMaths.spread (InMaths.swap fun i => w (ix2 k ⟨512 + i.val, by omega⟩)) l := by
  unfold relaid wide
  refine Eq.trans (narrow _ _) ?_
  refine Eq.trans (piece128 _ k _ 3 (by show 3 < 13; omega) _ rfl 640 rfl l rfl) ?_
  pointwise [four, two, low, high, rotary, zeros32]
  unfold InMaths.spread InMaths.swap
  repeat' split
  all_goals first | (exfalso; omega) | rfl | exact column w k (by dsimp only <;> omega)

set_option maxHeartbeats 1000000 in
/-- the second mixer's, -/
theorem relaid_gla (w : FVec Ideal S1024x2384 .f32) (k : Fin 1024) (c : Fin 896) : relaid w (ix2 k ⟨768 + c.val, by omega⟩)
    = if h : c.val < 512 then w (ix2 k ⟨576 + c.val, by omega⟩) else if h : c.val < 768 then w (ix2 k ⟨592 + c.val, by omega⟩) else if h : c.val < 784 then w (ix2 k ⟨320 + c.val, by omega⟩) else 0 := by
  unfold relaid wide
  refine Eq.trans (narrow _ _) ?_
  by_cases h1 : c.val < 128
  · rw [dif_pos (show c.val < 512 by omega)]
    refine Eq.trans (piece128 _ k _ 4 (by show 4 < 13; omega) _ rfl 768 rfl ⟨c.val, h1⟩ rfl) ?_
    pointwise []
  by_cases h2 : c.val < 256
  · rw [dif_pos (show c.val < 512 by omega)]
    refine Eq.trans (piece128 _ k _ 5 (by show 5 < 13; omega) _ rfl 896 rfl ⟨c.val - 128, by omega⟩ (show 896 + (c.val - 128) = 768 + c.val by omega)) ?_
    pointwise []
    exact column w k (show 704 + (c.val - 128) = 576 + c.val by omega)
  by_cases h3 : c.val < 512
  · rw [dif_pos h3]
    refine Eq.trans (piece256 _ k _ 6 (by show 6 < 13; omega) _ rfl 1024 rfl ⟨c.val - 256, by omega⟩ (show 1024 + (c.val - 256) = 768 + c.val by omega)) ?_
    pointwise []
    exact column w k (show 832 + (c.val - 256) = 576 + c.val by omega)
  rw [dif_neg h3]
  by_cases h4 : c.val < 768
  · rw [dif_pos h4]
    refine Eq.trans (piece256 _ k _ 7 (by show 7 < 13; omega) _ rfl 1280 rfl ⟨c.val - 512, by omega⟩ (show 1280 + (c.val - 512) = 768 + c.val by omega)) ?_
    pointwise []
    exact column w k (show 1104 + (c.val - 512) = 592 + c.val by omega)
  rw [dif_neg h4]
  refine Eq.trans (piece128 _ k _ 8 (by show 8 < 13; omega) _ rfl 1536 rfl ⟨c.val - 768, by omega⟩ (show 1536 + (c.val - 768) = 768 + c.val by omega)) ?_
  pointwise []
  repeat' split
  · exact column w k (show 1088 + (c.val - 768) = 320 + c.val by omega)
  · exfalso; omega
  · exfalso; omega
  · show (((0#32 : BitVec 32).toInt : ℝ) : EReal) = 0
    simp

set_option maxHeartbeats 1000000 in
/-- and the third's. -/
theorem relaid_hgrn (w : FVec Ideal S1024x2384 .f32) (k : Fin 1024) (c : Fin 1024) : relaid w (ix2 k ⟨1664 + c.val, by omega⟩) = w (ix2 k ⟨1360 + c.val, by omega⟩) := by
  unfold relaid wide
  refine Eq.trans (narrow _ _) ?_
  by_cases h1 : c.val < 256
  · refine Eq.trans (piece256 _ k _ 9 (by show 9 < 13; omega) _ rfl 1664 rfl ⟨c.val, h1⟩ rfl) ?_
    pointwise []
  by_cases h2 : c.val < 512
  · refine Eq.trans (piece256 _ k _ 10 (by show 10 < 13; omega) _ rfl 1920 rfl ⟨c.val - 256, by omega⟩ (show 1920 + (c.val - 256) = 1664 + c.val by omega)) ?_
    pointwise []
    exact column w k (show 1616 + (c.val - 256) = 1360 + c.val by omega)
  by_cases h3 : c.val < 768
  · refine Eq.trans (piece256 _ k _ 11 (by show 11 < 13; omega) _ rfl 2176 rfl ⟨c.val - 512, by omega⟩ (show 2176 + (c.val - 512) = 1664 + c.val by omega)) ?_
    pointwise []
    exact column w k (show 1872 + (c.val - 512) = 1360 + c.val by omega)
  refine Eq.trans (piece256 _ k _ 12 (by show 12 < 13; omega) _ rfl 2432 rfl ⟨c.val - 768, by omega⟩ (show 2432 + (c.val - 768) = 1664 + c.val by omega)) ?_
  pointwise []
  exact column w k (show 2128 + (c.val - 768) = 1360 + c.val by omega)

end Cert.Kernel4Ideal.Inp

end
-- ==== Proof.InAngles.lean ====
/-
  The angles' cosines and sines, as the host of the input projections' kernel prepares them in whole lanes.
-/
module

public import proofs.«01_k».proof.Proof.InHost
public import proofs.«01_k».proof.Proof.Gen.Kernel4Ideal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kernel4Ideal.Inp

open Idealize.ShloMosaic Idealize.ShloMosaic.TcCoe Idealize.ShloMosaic.StableHlo
open Cert.Kernel4Ideal Cert.Kernel4Ideal.Gen Idealize.SL.Sem

variable (m : (ℓ : Loc nD τ sig) → Buf (Elt Ideal) ℓ) (c : Dev nD)

/-! ## Lane by lane -/

theorem spread_swap (f : Fin 64 → EReal) (l : Fin 128) : InMaths.spread (InMaths.swap f) l
    = if h : l.val < 32 then f ⟨l.val + 32, by omega⟩ else if _ : l.val < 64 then 0 else if h : l.val < 96 then f ⟨l.val - 64, by omega⟩ else 0 := by
  unfold InMaths.spread
  split
  · exact dif_pos ‹_›
  split
  · rfl
  split
  · exact (dif_neg (show ¬ l.val - 32 < 32 by omega)).trans (congrArg f (Fin.ext (show l.val - 32 - 32 = l.val - 64 by omega)))
  · rfl

theorem spread_both (f : Fin 32 → EReal) (l : Fin 128) : InMaths.spread (InMaths.both f) l
    = if h : l.val < 32 then f ⟨l.val, by omega⟩ else if _ : l.val < 64 then 0 else if h : l.val < 96 then f ⟨l.val - 64, by omega⟩ else 0 := by
  unfold InMaths.spread
  split
  · exact dif_pos ‹_›
  split
  · rfl
  split
  · exact (dif_neg (show ¬ l.val - 32 < 32 by omega)).trans (congrArg f (Fin.ext (show l.val - 32 - 32 = l.val - 64 by omega)))
  · rfl

theorem spread_opposed (f : Fin 32 → EReal) (l : Fin 128) : InMaths.spread (InMaths.opposed f) l
    = if h : l.val < 32 then -f ⟨l.val, by omega⟩ else if _ : l.val < 64 then 0 else if h : l.val < 96 then f ⟨l.val - 64, by omega⟩ else 0 := by
  unfold InMaths.spread
  split
  · exact dif_pos ‹_›
  split
  · rfl
  split
  · exact (dif_neg (show ¬ l.val - 32 < 32 by omega)).trans (congrArg f (Fin.ext (show l.val - 32 - 32 = l.val - 64 by omega)))
  · rfl

theorem spread_both_of (f : Fin 32 → EReal) (g : ℕ → EReal) (l : Fin 128) (h : ∀ j : Fin 32, f j = g j.val) : InMaths.spread (InMaths.both f) l
    = if l.val < 32 then g l.val else if l.val < 64 then 0 else if l.val < 96 then g (l.val - 64) else 0 := by
  rw [spread_both]
  split
  · exact congrArg (fun x => x) (h _)
  split
  · rfl
  split
  · exact h _
  · rfl

theorem spread_opposed_of (f : Fin 32 → EReal) (g : ℕ → EReal) (l : Fin 128) (h : ∀ j : Fin 32, f j = g j.val) : InMaths.spread (InMaths.opposed f) l
    = if l.val < 32 then -g l.val else if l.val < 64 then 0 else if l.val < 96 then g (l.val - 64) else 0 := by
  rw [spread_opposed]
  split
  · exact congrArg (fun x => -x) (h _)
  split
  · rfl
  split
  · exact h _
  · rfl

/-! ## The angles -/

/-- A position's angle at a frequency. -/
def angleOf (p : IVec S8x8192 32) (b : Fin 8) (n : Fin 8192) (i : ℕ) : EReal :=
  FloatOps.sitofp (F := Ideal) .f32 (p (ix2 b n)) * Ideal.pow (Ideal.ofBits .f32 0x461C4000#32) (Ideal.div (-(Ideal.ofBits .f32 0x40000000#32 * FloatOps.sitofp (F := Ideal) .f32 (BitVec.ofNat 32 i))) (Ideal.ofBits .f32 0x42800000#32))

/-- It is the plain text's. -/
theorem angle (p : IVec S8x8192 32) (b : Fin 8) (n : Fin 8192) (j : Fin 32) : Cert.Reference4Ideal.Inp.angles p (ix3 b n j) = angleOf p b n j.val := by
  unfold angleOf
  pointwise [Cert.Reference4Ideal.Inp.angles]

set_option maxHeartbeats 1000000 in
theorem V_cos (b : Fin 8) (n : Fin 8192) (l : Fin 128) : V m c main_v22 (ix3 b n l) = InMaths.spread (InMaths.both fun j => Host.cos (Cert.Reference4Ideal.Inp.angles (argP m c)) (ix3 b n j)) l := by
  refine Eq.trans ?_ (spread_both_of _ (fun i => Ideal.cos (angleOf (argP m c) b n i)) l (fun j => congrArg Ideal.cos (angle (argP m c) b n j))).symm
  show StableHlo.after (hostOps0 ++ (hostOps0_1 ++ (hostOps0_2 ++ []))) _ _ _ = _
  repeat after_reads_at
  unfold angleOf
  repeat' split
  all_goals first
    | (exfalso; omega)
    | with_reducible rfl
    | rw [Nat.sub_sub]

set_option maxHeartbeats 1000000 in
theorem V_sin (b : Fin 8) (n : Fin 8192) (l : Fin 128) : V m c main_v30 (ix3 b n l) = InMaths.spread (InMaths.opposed fun j => Host.sin (Cert.Reference4Ideal.Inp.angles (argP m c)) (ix3 b n j)) l := by
  refine Eq.trans ?_ (spread_opposed_of _ (fun i => Ideal.sin (angleOf (argP m c) b n i)) l (fun j => congrArg Ideal.sin (angle (argP m c) b n j))).symm
  show StableHlo.after (hostOps0 ++ (hostOps0_1 ++ (hostOps0_2 ++ []))) _ _ _ = _
  repeat after_reads_at
  unfold angleOf
  repeat' split
  all_goals first
    | (exfalso; omega)
    | with_reducible rfl
    | rw [Nat.sub_sub]

end Cert.Kernel4Ideal.Inp

end
-- ==== Proof.InHeads.lean ====
/-
  The arrays the host prepares for the heads of the input projections' kernel, read at an index: the queries'
  weights and the heads' gains in whole lanes, and two arrays to sum lanes with.
-/
module

public import proofs.«01_k».proof.Proof.InAngles
public import proofs.«01_k».proof.Proof.Gen.Kernel4Ideal.Value
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Kernel4Ideal.Inp

open Idealize.ShloMosaic Idealize.ShloMosaic.TcCoe Idealize.ShloMosaic.StableHlo
open Cert.Kernel4Ideal Cert.Kernel4Ideal.Gen Idealize.SL.Sem

variable (m : (ℓ : Loc nD τ sig) → Buf (Elt Ideal) ℓ) (c : Dev nD)

/-! ## The heads' weights and gains -/

set_option maxHeartbeats 1000000 in
/-- A head's plain columns of the queries' weights, -/
theorem V_query_plain (j : Fin 256) (h : Fin 4) (l : Fin 128) : V m c main_v74 (ix2 j ⟨384 * h.val + 0 + l.val, by omega⟩) = argWq m c (ix2 j ⟨h.val * 192 + l.val, by omega⟩) := by
  show StableHlo.after (hostOps0 ++ (hostOps0_1 ++ (hostOps0_2 ++ []))) _ _ _ = _
  repeat after_reads_at
  repeat' split
  all_goals first | (exfalso; omega) | with_reducible rfl | exact congrArg (fun i => argWq m c (ix2 j i)) (Fin.ext (by dsimp only <;> omega))

set_option maxHeartbeats 1000000 in
/-- the rotary ones, spread, -/
theorem V_query_rotary (j : Fin 256) (h : Fin 4) (l : Fin 128) : V m c main_v74 (ix2 j ⟨384 * h.val + 128 + l.val, by omega⟩) = InMaths.spread (fun i => argWq m c (ix2 j ⟨h.val * 192 + (128 + i.val), by omega⟩)) l := by
  show StableHlo.after (hostOps0 ++ (hostOps0_1 ++ (hostOps0_2 ++ []))) _ _ _ = _
  repeat after_reads_at
  unfold InMaths.spread
  repeat' split
  all_goals first | (exfalso; omega) | with_reducible rfl | exact congrArg (fun i => argWq m c (ix2 j i)) (Fin.ext (by dsimp only <;> omega))

set_option maxHeartbeats 1000000 in
/-- and those with the halves exchanged. -/
theorem V_query_exchanged (j : Fin 256) (h : Fin 4) (l : Fin 128) : V m c main_v74 (ix2 j ⟨384 * h.val + 256 + l.val, by omega⟩) = InMaths.spread (InMaths.swap fun i => argWq m c (ix2 j ⟨h.val * 192 + (128 + i.val), by omega⟩)) l := by
  refine Eq.trans ?_ (spread_swap _ l).symm
  show StableHlo.after (hostOps0 ++ (hostOps0_1 ++ (hostOps0_2 ++ []))) _ _ _ = _
  repeat after_reads_at
  repeat' split
  all_goals first | (exfalso; omega) | with_reducible rfl | exact congrArg (fun i => argWq m c (ix2 j i)) (Fin.ext (by dsimp only <;> omega))

set_option maxHeartbeats 1000000 in
theorem V_queryGain_plain (l : Fin 128) : V m c main_v93 (ix2 (0 : Fin 1) ⟨l.val, by omega⟩) = argHq m c (ix1 ⟨l.val, by omega⟩) := by
  show StableHlo.after (hostOps0 ++ (hostOps0_1 ++ (hostOps0_2 ++ []))) _ _ _ = _
  repeat after_reads_at

set_option maxHeartbeats 1000000 in
theorem V_queryGain_rotary (l : Fin 128) : V m c main_v93 (ix2 (0 : Fin 1) ⟨128 + l.val, by omega⟩) = InMaths.spread (fun i => argHq m c (ix1 ⟨128 + i.val, by omega⟩)) l := by
  show StableHlo.after (hostOps0 ++ (hostOps0_1 ++ (hostOps0_2 ++ []))) _ _ _ = _
  repeat after_reads_at
  unfold InMaths.spread
  repeat' split
  all_goals first | (exfalso; omega) | with_reducible rfl | exact congrArg (fun i => argHq m c (ix1 i)) (Fin.ext (by dsimp only <;> omega))

set_option maxHeartbeats 1000000 in
theorem V_queryGain_exchanged (l : Fin 128) : V m c main_v93 (ix2 (0 : Fin 1) ⟨256 + l.val, by omega⟩) = InMaths.spread (InMaths.swap fun i => argHq m c (ix1 ⟨128 + i.val, by omega⟩)) l := by
  refine Eq.trans ?_ (spread_swap _ l).symm
  show StableHlo.after (hostOps0 ++ (hostOps0_1 ++ (hostOps0_2 ++ []))) _ _ _ = _
  repeat after_reads_at
  repeat' split
  all_goals first | (exfalso; omega) | with_reducible rfl | exact congrArg (fun i => argHq m c (ix1 i)) (Fin.ext (by dsimp only <;> omega))

set_option maxHeartbeats 1000000 in
theorem V_keyGain_plain (l : Fin 128) : V m c main_v108 (ix2 (0 : Fin 1) ⟨l.val, by omega⟩) = argHk m c (ix1 ⟨l.val, by omega⟩) := by
  show StableHlo.after (hostOps0 ++ (hostOps0_1 ++ (hostOps0_2 ++ []))) _ _ _ = _
  repeat after_reads_at

set_option maxHeartbeats 1000000 in
theorem V_keyGain_rotary (l : Fin 128) : V m c main_v108 (ix2 (0 : Fin 1) ⟨128 + l.val, by omega⟩) = InMaths.spread (fun i => argHk m c (ix1 ⟨128 + i.val, by omega⟩)) l := by
  show StableHlo.after (hostOps0 ++ (hostOps0_1 ++ (hostOps0_2 ++ []))) _ _ _ = _
  repeat after_reads_at
  unfold InMaths.spread
  repeat' split
  all_goals first | (exfalso; omega) | with_reducible rfl | exact congrArg (fun i => argHk m c (ix1 i)) (Fin.ext (by dsimp only <;> omega))

set_option maxHeartbeats 1000000 in
theorem V_keyGain_exchanged (l : Fin 128) : V m c main_v108 (ix2 (0 : Fin 1) ⟨256 + l.val, by omega⟩) = InMaths.spread (InMaths.swap fun i => argHk m c (ix1 ⟨128 + i.val, by omega⟩)) l := by
  refine Eq.trans ?_ (spread_swap _ l).symm
  show StableHlo.after (hostOps0 ++ (hostOps0_1 ++ (hostOps0_2 ++ []))) _ _ _ = _
  repeat after_reads_at
  repeat' split
  all_goals first | (exfalso; omega) | with_reducible rfl | exact congrArg (fun i => argHk m c (ix1 i)) (Fin.ext (by dsimp only <;> omega))

/-! ## Ones -/

set_option maxHeartbeats 1000000 in
theorem V_ones (i j : Fin 256) : V m c main_v109 (ix2 i j) = (1 : EReal) := by
  show StableHlo.after (hostOps0 ++ (hostOps0_1 ++ (hostOps0_2 ++ []))) _ _ _ = _
  repeat after_reads_at

set_option maxHeartbeats 1000000 in
theorem V_sameHead (f g : Fin 512) : V m c main_v119 (ix2 f g) = (if f.val / 128 = g.val / 128 then 1 else 0 : EReal) := by
  show StableHlo.after (hostOps0 ++ (hostOps0_1 ++ (hostOps0_2 ++ []))) _ _ _ = _
  repeat after_reads_at
  by_cases e : f.val / 128 = g.val / 128
  · rw [if_pos e, e]
    show (((IntOp.cmpi .eq (BitVec.ofNat 32 (g.val / 128)) (BitVec.ofNat 32 (g.val / 128))).toNat : ℝ) : EReal) = 1
    simp [IntOp.cmpi]
  · rw [if_neg e]
    have hne : BitVec.ofNat 32 (f.val / 128) ≠ BitVec.ofNat 32 (g.val / 128) := fun h => e (by
      have h' := congrArg BitVec.toNat h
      rw [BitVec.toNat_ofNat, BitVec.toNat_ofNat] at h'
      omega)
    show (((IntOp.cmpi .eq (BitVec.ofNat 32 (f.val / 128)) (BitVec.ofNat 32 (g.val / 128))).toNat : ℝ) : EReal) = 0
    simp [IntOp.cmpi, hne]

/-! ## The rest -/

set_option maxHeartbeats 1000000 in
theorem V_rowGain (k : Fin 1024) : V m c main_v75 (ix2 (0 : Fin 1) k) = argG m c (ix1 k) := by
  show StableHlo.after (hostOps0 ++ (hostOps0_1 ++ (hostOps0_2 ++ []))) _ _ _ = _
  repeat after_reads_at

set_option maxHeartbeats 1000000 in
theorem V_latentGain (k : Fin 256) : V m c main_v76 (ix2 (0 : Fin 1) k) = argGq m c (ix1 k) := by
  show StableHlo.after (hostOps0 ++ (hostOps0_1 ++ (hostOps0_2 ++ []))) _ _ _ = _
  repeat after_reads_at

set_option maxHeartbeats 1000000 in
theorem V_kvGain (k : Fin 256) : V m c main_v77 (ix2 (0 : Fin 1) k) = argGkv m c (ix1 k) := by
  show StableHlo.after (hostOps0 ++ (hostOps0_1 ++ (hostOps0_2 ++ []))) _ _ _ = _
  repeat after_reads_at

set_option maxHeartbeats 1000000 in
theorem V_kvWeights (j : Fin 256) (k : Fin 1024) : V m c main_v78 (ix2 j k) = argWkv m c (ix2 j k) := by
  show StableHlo.after (hostOps0 ++ (hostOps0_1 ++ (hostOps0_2 ++ []))) _ _ _ = _
  repeat after_reads_at

end Cert.Kernel4Ideal.Inp

end
-- ==== Proof.InTile.lean ====
/-
  The input projections' kernel: what a tile of 512 rows stores, read at an index. The rows, normalised, go under
  one wide array of weights; two latents of 256 columns are normalised and go under weights of their own to four
  heads of queries, keys and values; queries and keys are normalised by head and turned.
-/
module

public import proofs.«01_k».proof.Proof.Gen.Kernel4Ideal.Value
public import Idealize.ShloMosaic.Lib.Pointwise
public import Idealize.ShloMosaic.Lib.Pipeline.ValueKit

@[expose] public section

set_option maxRecDepth 16384

noncomputable section

namespace Cert.Kernel4Ideal.Inp

open Idealize.ShloMosaic Idealize.ShloMosaic.TcCoe
open Cert.Kernel4Ideal Cert.Kernel4Ideal.Gen

variable (B0 : Vec Ideal S1x512x1024 .f32) (B1 : Vec Ideal S1x1024 .f32) (B2 : Vec Ideal S1024x2688 .bf16) (B3 : Vec Ideal S1x256 .f32) (B4 : Vec Ideal S256x1536 .bf16) (B5 : Vec Ideal S1x256 .f32)
  (B6 : Vec Ideal S256x1024 .bf16) (B7 B8 : Vec Ideal S1x384 .f32) (B9 B10 : Vec Ideal S1x512x128 .f32) (B11 : Vec Ideal S256x256 .bf16) (B12 : Vec Ideal S512x512 .bf16)

/-! ## The rows, the latents and the heads -/

/-- A tile's rows under the wide array of weights. -/
def proj (x : Fin 512) (c : Fin 2688) : EReal := ∑ k : Fin 1024, k0_pay2 B0 B1 (ix2 x k) * B2 (ix2 k c)

theorem normed_apply (x : Fin 512) (k : Fin 1024) : k0_pay2 B0 B1 (ix2 x k) = B0 (ix3 (0 : Fin 1) x k)
    * Ideal.rsqrt ((∑ j : Fin 1024, B0 (ix3 (0 : Fin 1) x j) * B0 (ix3 (0 : Fin 1) x j)) * Ideal.ofBits .f32 0x3A800000#32 + Ideal.ofBits .f32 0x358637BD#32) * B1 (ix2 (0 : Fin 1) k) := by
  pointwise [k0_pay2]

/-- The first 768 columns, which the latents and the shared rotary part of the keys are in. -/
abbrev rows54 : FVec Ideal S512x768 .f32 := k0_pay54 B0 B1 B2 B3 B4 B5 B6 B7 B8 B9 B10 B11 B12

theorem rows54_eq : rows54 B0 B1 B2 B3 B4 B5 B6 B7 B8 B9 B10 B11 B12 = k0_pay3 B0 B1 (View.ld B2 r0_2) := by
  unfold rows54 k0_pay54
  frame_out

theorem rows54_apply (x : Fin 512) (c : Fin 768) : rows54 B0 B1 B2 B3 B4 B5 B6 B7 B8 B9 B10 B11 B12 (ix2 x c) = proj B0 B1 B2 x ⟨c.val, by omega⟩ := by
  rw [rows54_eq]
  pointwise [k0_pay3]
  rfl

/-- A latent of 256 columns from column `o` on, over its root mean square (the squares summed under `B11`), times its gain. -/
def latent (o : ℕ) (ho : o ≤ 512) (g : Vec Ideal S1x256 .f32) (x : Fin 512) (j : Fin 256) : EReal :=
  proj B0 B1 B2 x ⟨o + j.val, by omega⟩
    * Ideal.rsqrt ((∑ i : Fin 256, proj B0 B1 B2 x ⟨o + i.val, by omega⟩ * proj B0 B1 B2 x ⟨o + i.val, by omega⟩ * B11 (ix2 i j)) * Ideal.ofBits .f32 0x3B800000#32 + Ideal.ofBits .f32 0x358637BD#32)
    * g (ix2 (0 : Fin 1) j)

/-- The queries' heads, and the keys' and values'. -/
abbrev queries : FVec Ideal S512x1536 .f32 := k0_pay55 B0 B1 B2 B3 B4 B5 B6 B7 B8 B9 B10 B11 B12
abbrev keyValues : FVec Ideal S512x1024 .f32 := k0_pay56 B0 B1 B2 B3 B4 B5 B6 B7 B8 B9 B10 B11 B12

theorem queries_apply (x : Fin 512) (c : Fin 1536) : queries B0 B1 B2 B3 B4 B5 B6 B7 B8 B9 B10 B11 B12 (ix2 x c)
    = ∑ j : Fin 256, latent B0 B1 B2 B11 0 (by omega) B3 x j * B4 (ix2 j c) := by
  have h : queries B0 B1 B2 B3 B4 B5 B6 B7 B8 B9 B10 B11 B12 = k0_pay7 (k0_pay6 B0 B1 (View.ld B2 r0_2)) B3 B11 B4 := by
    unfold queries k0_pay55
    frame_out
  have hl : ∀ j : Fin 256, k0_pay6 B0 B1 (View.ld B2 r0_2) (ix2 x j) = proj B0 B1 B2 x ⟨0 + j.val, by omega⟩ := fun j => by
    pointwise [k0_pay6, k0_pay3]
    unfold proj
    simp only [Nat.zero_add]
  rw [h]
  pointwise [k0_pay7]
  simp only [hl]
  rfl

theorem keyValues_apply (x : Fin 512) (c : Fin 1024) : keyValues B0 B1 B2 B3 B4 B5 B6 B7 B8 B9 B10 B11 B12 (ix2 x c)
    = ∑ j : Fin 256, latent B0 B1 B2 B11 256 (by omega) B5 x j * B6 (ix2 j c) := by
  have h : keyValues B0 B1 B2 B3 B4 B5 B6 B7 B8 B9 B10 B11 B12 = k0_pay8 (rows54 B0 B1 B2 B3 B4 B5 B6 B7 B8 B9 B10 B11 B12) B5 B11 B6 := by
    unfold keyValues k0_pay56
    frame_out
  rw [h]
  pointwise [k0_pay8]
  simp only [rows54_apply]
  rfl

/-! ## The roots of the heads' mean squares -/

/-- Column `128 h + l`. -/
def col512 (h : Fin 4) (l : Fin 128) : Fin 512 := ⟨128 * h.val + l.val, by omega⟩

theorem inv_qk : (Named.named (F := Ideal) κ "inv_qk" 0x3BAAAAAB#32 : Ideal .f32) = ((1 / 192 : ℝ) : EReal) := rfl

/-- A head's squares of the 128 plain lanes and the 128 rotary ones, added lane by lane. -/
def squares (q : Fin 4 → Fin 128 → EReal) (r : Fin 4 → Fin 128 → EReal) (f : Fin 512) : EReal :=
  q ⟨f.val / 128, by omega⟩ ⟨f.val % 128, by omega⟩ * q ⟨f.val / 128, by omega⟩ ⟨f.val % 128, by omega⟩
    + r ⟨f.val / 128, by omega⟩ ⟨f.val % 128, by omega⟩ * r ⟨f.val / 128, by omega⟩ ⟨f.val % 128, by omega⟩

/-- The root for lane `c` of the 512. -/
def root (B12 : Vec Ideal S512x512 .bf16) (s : Fin 512 → EReal) (c : Fin 512) : EReal :=
  Ideal.rsqrt ((∑ f : Fin 512, s f * B12 (ix2 f c)) * ((1 / 192 : ℝ) : EReal) + Ideal.ofBits .f32 0x358637BD#32)

/-- Column `384 h + o + l` of the queries' 1536, and `256 h + o + l` of the keys' and values' 1024. -/
def colQ (o : ℕ) (ho : o ≤ 256) (h : Fin 4) (l : Fin 128) : Fin 1536 := ⟨384 * h.val + o + l.val, by omega⟩
def colKV (o : ℕ) (ho : o ≤ 128) (h : Fin 4) (l : Fin 128) : Fin 1024 := ⟨256 * h.val + o + l.val, by omega⟩

/-- A query head's lanes: plain, rotary, and rotary with the halves exchanged. -/
def queryLane (o : ℕ) (ho : o ≤ 256) (x : Fin 512) (h : Fin 4) (l : Fin 128) : EReal := queries B0 B1 B2 B3 B4 B5 B6 B7 B8 B9 B10 B11 B12 (ix2 x (colQ o ho h l))
/-- A key head's plain lanes, and its values. -/
def kvLane (o : ℕ) (ho : o ≤ 128) (x : Fin 512) (h : Fin 4) (l : Fin 128) : EReal := keyValues B0 B1 B2 B3 B4 B5 B6 B7 B8 B9 B10 B11 B12 (ix2 x (colKV o ho h l))

/-- The queries' roots, and the keys'. -/
abbrev queryRoots : FVec Ideal S512x512 .f32 := k0_pay66 B0 B1 B2 B3 B4 B5 B6 B7 B8 B9 B10 B11 B12
abbrev keyRoots : FVec Ideal S512x512 .f32 := k0_pay67 B0 B1 B2 B3 B4 B5 B6 B7 B8 B9 B10 B11 B12

theorem queryRoots_apply (x c : Fin 512) : queryRoots B0 B1 B2 B3 B4 B5 B6 B7 B8 B9 B10 B11 B12 (ix2 x c)
    = root B12 (squares (queryLane B0 B1 B2 B3 B4 B5 B6 B7 B8 B9 B10 B11 B12 0 (by omega) x) (queryLane B0 B1 B2 B3 B4 B5 B6 B7 B8 B9 B10 B11 B12 128 (by omega) x)) c := by
  have h : queryRoots B0 B1 B2 B3 B4 B5 B6 B7 B8 B9 B10 B11 B12 = k0_pay22 (queries B0 B1 B2 B3 B4 B5 B6 B7 B8 B9 B10 B11 B12) (k0_pay19 (queries B0 B1 B2 B3 B4 B5 B6 B7 B8 B9 B10 B11 B12))
      (k0_pay20 (queries B0 B1 B2 B3 B4 B5 B6 B7 B8 B9 B10 B11 B12)) (k0_pay21 (queries B0 B1 B2 B3 B4 B5 B6 B7 B8 B9 B10 B11 B12)) B12 := by
    unfold queryRoots k0_pay66 k0_pay63 k0_pay64 k0_pay65
    frame_out
  rw [h]
  pointwise [k0_pay22, k0_pay19, k0_pay20, k0_pay21]
  refine congrArg Ideal.rsqrt (congrArg (· + _) (congrArg₂ (· * ·) (Finset.sum_congr rfl fun f _ => congrArg (· * _) ?_) inv_qk))
  have pick : ∀ (a a' b b' : Fin 1536), a.val = a'.val → b.val = b'.val → (queries B0 B1 B2 B3 B4 B5 B6 B7 B8 B9 B10 B11 B12) (ix2 x a) * (queries B0 B1 B2 B3 B4 B5 B6 B7 B8 B9 B10 B11 B12) (ix2 x a) + (queries B0 B1 B2 B3 B4 B5 B6 B7 B8 B9 B10 B11 B12) (ix2 x b) * (queries B0 B1 B2 B3 B4 B5 B6 B7 B8 B9 B10 B11 B12) (ix2 x b)
      = (queries B0 B1 B2 B3 B4 B5 B6 B7 B8 B9 B10 B11 B12) (ix2 x a') * (queries B0 B1 B2 B3 B4 B5 B6 B7 B8 B9 B10 B11 B12) (ix2 x a') + (queries B0 B1 B2 B3 B4 B5 B6 B7 B8 B9 B10 B11 B12) (ix2 x b') * (queries B0 B1 B2 B3 B4 B5 B6 B7 B8 B9 B10 B11 B12) (ix2 x b') := fun a a' b b' ha hb => by rw [Fin.ext ha, Fin.ext hb]
  have hf := f.isLt
  unfold squares queryLane
  split
  · exact pick _ _ _ _ (show f.val = 384 * (f.val / 128) + 0 + f.val % 128 by omega) (show 128 + f.val = 384 * (f.val / 128) + 128 + f.val % 128 by omega)
  split
  · exact pick _ _ _ _ (show 384 + (f.val - 128) = 384 * (f.val / 128) + 0 + f.val % 128 by omega) (show 512 + (f.val - 128) = 384 * (f.val / 128) + 128 + f.val % 128 by omega)
  split
  · exact pick _ _ _ _ (show 768 + (f.val - 128 - 128) = 384 * (f.val / 128) + 0 + f.val % 128 by omega) (show 896 + (f.val - 128 - 128) = 384 * (f.val / 128) + 128 + f.val % 128 by omega)
  · exact pick _ _ _ _ (show 1152 + (f.val - 128 - 128 - 128) = 384 * (f.val / 128) + 0 + f.val % 128 by omega) (show 1280 + (f.val - 128 - 128 - 128) = 384 * (f.val / 128) + 128 + f.val % 128 by omega)

theorem keyRoots_apply (x c : Fin 512) : keyRoots B0 B1 B2 B3 B4 B5 B6 B7 B8 B9 B10 B11 B12 (ix2 x c)
    = root B12 (squares (kvLane B0 B1 B2 B3 B4 B5 B6 B7 B8 B9 B10 B11 B12 0 (by omega) x) (fun _ l => proj B0 B1 B2 x ⟨512 + l.val, by omega⟩)) c := by
  have h : keyRoots B0 B1 B2 B3 B4 B5 B6 B7 B8 B9 B10 B11 B12 = k0_pay23 (keyValues B0 B1 B2 B3 B4 B5 B6 B7 B8 B9 B10 B11 B12) (k0_pay18 (k0_pay9 (rows54 B0 B1 B2 B3 B4 B5 B6 B7 B8 B9 B10 B11 B12))) B12 := by
    unfold keyRoots k0_pay67 k0_pay57
    frame_out
  rw [h]
  pointwise [k0_pay23, k0_pay18, k0_pay9]
  simp only [rows54_apply]
  refine congrArg Ideal.rsqrt (congrArg (· + _) (congrArg₂ (· * ·) (Finset.sum_congr rfl fun f _ => congrArg (· * _) ?_) inv_qk))
  have pick : ∀ (a a' : Fin 1024) (b b' : Fin 2688), a.val = a'.val → b.val = b'.val → (keyValues B0 B1 B2 B3 B4 B5 B6 B7 B8 B9 B10 B11 B12) (ix2 x a) * (keyValues B0 B1 B2 B3 B4 B5 B6 B7 B8 B9 B10 B11 B12) (ix2 x a) + proj B0 B1 B2 x b * proj B0 B1 B2 x b
      = (keyValues B0 B1 B2 B3 B4 B5 B6 B7 B8 B9 B10 B11 B12) (ix2 x a') * (keyValues B0 B1 B2 B3 B4 B5 B6 B7 B8 B9 B10 B11 B12) (ix2 x a') + proj B0 B1 B2 x b' * proj B0 B1 B2 x b' := fun a a' b b' ha hb => by rw [Fin.ext ha, Fin.ext hb]
  have hf := f.isLt
  unfold squares kvLane
  split
  · exact pick _ _ _ _ (show f.val = 256 * (f.val / 128) + 0 + f.val % 128 by omega) (show 512 + f.val = 512 + f.val % 128 by omega)
  split
  · exact pick _ _ _ _ (show 256 + (f.val - 128) = 256 * (f.val / 128) + 0 + f.val % 128 by omega) (show 512 + (f.val - 128) = 512 + f.val % 128 by omega)
  split
  · exact pick _ _ _ _ (show 512 + (f.val - 128 - 128) = 256 * (f.val / 128) + 0 + f.val % 128 by omega) (show 512 + (f.val - 128 - 128) = 512 + f.val % 128 by omega)
  · exact pick _ _ _ _ (show 768 + (f.val - 128 - 128 - 128) = 256 * (f.val / 128) + 0 + f.val % 128 by omega) (show 512 + (f.val - 128 - 128 - 128) = 512 + f.val % 128 by omega)

/-! ## What a point stores -/

/-- The word of the scale on the queries. -/
abbrev scale : EReal := Ideal.ofBits .f32 0x3DD53B95#32

/-- Queries as stored: a head's plain lanes, and its turned ones. -/
def queryPlain (x : Fin 512) (h : Fin 4) (l : Fin 128) : EReal :=
  queryLane B0 B1 B2 B3 B4 B5 B6 B7 B8 B9 B10 B11 B12 0 (by omega) x h l * queryRoots B0 B1 B2 B3 B4 B5 B6 B7 B8 B9 B10 B11 B12 (ix2 x (col512 h l)) * (B7 (ix2 (0 : Fin 1) ⟨l.val, by omega⟩) * scale)
def queryTurned (x : Fin 512) (h : Fin 4) (l : Fin 128) : EReal :=
  (queryLane B0 B1 B2 B3 B4 B5 B6 B7 B8 B9 B10 B11 B12 128 (by omega) x h l * (B7 (ix2 (0 : Fin 1) ⟨128 + l.val, by omega⟩) * B9 (ix3 (0 : Fin 1) x l) * scale)
    + queryLane B0 B1 B2 B3 B4 B5 B6 B7 B8 B9 B10 B11 B12 256 (by omega) x h l * (B7 (ix2 (0 : Fin 1) ⟨256 + l.val, by omega⟩) * B10 (ix3 (0 : Fin 1) x l) * scale)) * queryRoots B0 B1 B2 B3 B4 B5 B6 B7 B8 B9 B10 B11 B12 (ix2 x (col512 h l))

/-- Keys as stored: a head's plain lanes, and the turned ones, which all heads share but for the root. -/
def keyPlain (x : Fin 512) (h : Fin 4) (l : Fin 128) : EReal :=
  kvLane B0 B1 B2 B3 B4 B5 B6 B7 B8 B9 B10 B11 B12 0 (by omega) x h l * keyRoots B0 B1 B2 B3 B4 B5 B6 B7 B8 B9 B10 B11 B12 (ix2 x (col512 h l)) * B8 (ix2 (0 : Fin 1) ⟨l.val, by omega⟩)
def keyTurned (x : Fin 512) (h : Fin 4) (l : Fin 128) : EReal :=
  (proj B0 B1 B2 x ⟨512 + l.val, by omega⟩ * (B8 (ix2 (0 : Fin 1) ⟨128 + l.val, by omega⟩) * B9 (ix3 (0 : Fin 1) x l))
    + proj B0 B1 B2 x ⟨640 + l.val, by omega⟩ * (B8 (ix2 (0 : Fin 1) ⟨256 + l.val, by omega⟩) * B10 (ix3 (0 : Fin 1) x l))) * keyRoots B0 B1 B2 B3 B4 B5 B6 B7 B8 B9 B10 B11 B12 (ix2 x (col512 h l))

/-- Four heads' plain and turned lanes side by side. -/
def halves (p r : Fin 512 → Fin 4 → Fin 128 → EReal) (i : S1x4x512x256.Idx) : EReal :=
  if h : (i 3).val < 128 then p (i 2) (i 1) ⟨(i 3).val, h⟩ else r (i 2) (i 1) ⟨(i 3).val - 128, by have : (i 3).val < 256 := (i 3).isLt; omega⟩

theorem halves_plain (p r : Fin 512 → Fin 4 → Fin 128 → EReal) (h : Fin 4) (x : Fin 512) (l : Fin 128) : halves p r (ix4 (0 : Fin 1) h x (⟨0 + l.val, by omega⟩ : Fin 256)) = p x h l := by
  refine (dif_pos (show 0 + l.val < 128 by omega)).trans (congrArg (p x h) (Fin.ext (Nat.zero_add _)))

theorem halves_turned (p r : Fin 512 → Fin 4 → Fin 128 → EReal) (h : Fin 4) (x : Fin 512) (l : Fin 128) : halves p r (ix4 (0 : Fin 1) h x (⟨128 + l.val, by omega⟩ : Fin 256)) = r x h l := by
  refine (dif_neg (show ¬ 128 + l.val < 128 by omega)).trans (congrArg (r x h) (Fin.ext (Nat.add_sub_cancel_left ..)))

/-- A piece of one head's lanes, from its entries. -/
theorem piece (G : S1x4x512x256.Idx → EReal) (h : Fin 4) (o : ℕ) (ho : o ≤ 128) (inb : ∀ a, ![0, h.val, 0, o] a + S1x1x512x128.size a ≤ S1x4x512x256.size a) (p : Vec Ideal S1x1x512x128 .bf16)
    (hp : ∀ (x : Fin 512) (l : Fin 128), p (ix4 (0 : Fin 1) (0 : Fin 1) x l) = G (ix4 (0 : Fin 1) h x (⟨o + l.val, by omega⟩ : Fin 256))) :
    ∀ y : S1x1x512x128.Idx, p y = G ((Rect.unit (s := S1x4x512x256) ![0, h.val, 0, o] S1x1x512x128.size inb).emb y) := by
  intro y
  have hx : (y (2 : Fin 4)).val < 512 := (y (2 : Fin 4)).isLt
  have hl : (y (3 : Fin 4)).val < 128 := (y (3 : Fin 4)).isLt
  have hy : y = ix4 (0 : Fin 1) (0 : Fin 1) (⟨(y (2 : Fin 4)).val, hx⟩ : Fin 512) (⟨(y (3 : Fin 4)).val, hl⟩ : Fin 128) := by blk_ext []
  rw [hy, hp]
  refine congrArg G (funext fun a => ?_)
  fin_cases a
  · exact Fin.ext (show 0 = 0 + 1 * 0 by omega)
  · exact Fin.ext (show h.val = h.val + 1 * 0 by omega)
  · exact Fin.ext (show (y (2 : Fin 4)).val = 0 + 1 * (y (2 : Fin 4)).val by omega)
  · exact Fin.ext (show o + (y (3 : Fin 4)).val = o + 1 * (y (3 : Fin 4)).val by omega)

theorem queryPlain_of (x : Fin 512) (h : Fin 4) (l : Fin 128) (a : Fin 1536) (b : Fin 512) (ha : a.val = 384 * h.val + 0 + l.val) (hb : b.val = 128 * h.val + l.val) :
    queries B0 B1 B2 B3 B4 B5 B6 B7 B8 B9 B10 B11 B12 (ix2 x a) * queryRoots B0 B1 B2 B3 B4 B5 B6 B7 B8 B9 B10 B11 B12 (ix2 x b) * (B7 (ix2 (0 : Fin 1) ⟨l.val, by omega⟩) * scale) = queryPlain B0 B1 B2 B3 B4 B5 B6 B7 B8 B9 B10 B11 B12 x h l := by
  obtain rfl : a = colQ 0 (by decide) h l := Fin.ext ha
  obtain rfl : b = col512 h l := Fin.ext hb
  rfl

theorem queryTurned_of (x : Fin 512) (h : Fin 4) (l : Fin 128) (a a' : Fin 1536) (b : Fin 512) (ha : a.val = 384 * h.val + 128 + l.val) (ha' : a'.val = 384 * h.val + 256 + l.val) (hb : b.val = 128 * h.val + l.val) :
    (queries B0 B1 B2 B3 B4 B5 B6 B7 B8 B9 B10 B11 B12 (ix2 x a) * (B7 (ix2 (0 : Fin 1) ⟨128 + l.val, by omega⟩) * B9 (ix3 (0 : Fin 1) x l) * scale)
      + queries B0 B1 B2 B3 B4 B5 B6 B7 B8 B9 B10 B11 B12 (ix2 x a') * (B7 (ix2 (0 : Fin 1) ⟨256 + l.val, by omega⟩) * B10 (ix3 (0 : Fin 1) x l) * scale)) * queryRoots B0 B1 B2 B3 B4 B5 B6 B7 B8 B9 B10 B11 B12 (ix2 x b) = queryTurned B0 B1 B2 B3 B4 B5 B6 B7 B8 B9 B10 B11 B12 x h l := by
  obtain rfl : a = colQ 128 (by decide) h l := Fin.ext ha
  obtain rfl : a' = colQ 256 (by decide) h l := Fin.ext ha'
  obtain rfl : b = col512 h l := Fin.ext hb
  rfl

theorem keyPlain_of (x : Fin 512) (h : Fin 4) (l : Fin 128) (a : Fin 1024) (b : Fin 512) (ha : a.val = 256 * h.val + 0 + l.val) (hb : b.val = 128 * h.val + l.val) :
    keyValues B0 B1 B2 B3 B4 B5 B6 B7 B8 B9 B10 B11 B12 (ix2 x a) * keyRoots B0 B1 B2 B3 B4 B5 B6 B7 B8 B9 B10 B11 B12 (ix2 x b) * B8 (ix2 (0 : Fin 1) ⟨l.val, by omega⟩) = keyPlain B0 B1 B2 B3 B4 B5 B6 B7 B8 B9 B10 B11 B12 x h l := by
  obtain rfl : a = colKV 0 (by decide) h l := Fin.ext ha
  obtain rfl : b = col512 h l := Fin.ext hb
  rfl

theorem keyTurned_of (x : Fin 512) (h : Fin 4) (l : Fin 128) (b : Fin 512) (hb : b.val = 128 * h.val + l.val) :
    k0_pay62 B0 B1 B2 B3 B4 B5 B6 B7 B8 B9 B10 B11 B12 (ix2 x l) * keyRoots B0 B1 B2 B3 B4 B5 B6 B7 B8 B9 B10 B11 B12 (ix2 x b) = keyTurned B0 B1 B2 B3 B4 B5 B6 B7 B8 B9 B10 B11 B12 x h l := by
  obtain rfl : b = col512 h l := Fin.ext hb
  refine congrArg (· * _) ?_
  unfold k0_pay62 k0_pay57
  pointwise [k0_pay17, k0_pay9, k0_pay10, k0_pay11, k0_pay13]
  exact congrArg₂ (· + ·) (congrArg (· * _) (rows54_apply ..)) (congrArg (· * _) (rows54_apply ..))

theorem value_of (x : Fin 512) (h : Fin 4) (l : Fin 128) (a : Fin 1024) (ha : a.val = 256 * h.val + 128 + l.val) :
    keyValues B0 B1 B2 B3 B4 B5 B6 B7 B8 B9 B10 B11 B12 (ix2 x a) = kvLane B0 B1 B2 B3 B4 B5 B6 B7 B8 B9 B10 B11 B12 128 (by omega) x h l := by
  obtain rfl : a = colKV 128 (by decide) h l := Fin.ext ha
  rfl

set_option maxHeartbeats 1000000 in
theorem out13_eq : out0_13 B0 B1 B2 B3 B4 B5 B6 B7 B8 B9 B10 B11 B12 = halves (queryPlain B0 B1 B2 B3 B4 B5 B6 B7 B8 B9 B10 B11 B12) (queryTurned B0 B1 B2 B3 B4 B5 B6 B7 B8 B9 B10 B11 B12) := by
  funext i
  unfold out0_13
  refine View.canon_apply_of_pieces _ _ ?_ i (cover0_13 _ _ _ _ _ _ _ _ i)
  simp only [List.forall_mem_cons]
  refine ⟨piece _ 3 128 (by omega) _ _ fun x l => ?_, piece _ 3 0 (by omega) _ _ fun x l => ?_, piece _ 2 128 (by omega) _ _ fun x l => ?_, piece _ 2 0 (by omega) _ _ fun x l => ?_,
    piece _ 1 128 (by omega) _ _ fun x l => ?_, piece _ 1 0 (by omega) _ _ fun x l => ?_, piece _ 0 128 (by omega) _ _ fun x l => ?_, piece _ 0 0 (by omega) _ _ fun x l => ?_, fun _ h => absurd h (by simp)⟩
  · rw [halves_turned]
    pointwise [k0_pay49, k0_pay68, k0_pay47, k0_pay60, k0_pay61, k0_pay15, k0_pay16, k0_pay10, k0_pay11, k0_pay12]
    exact queryTurned_of B0 B1 B2 B3 B4 B5 B6 B7 B8 B9 B10 B11 B12 x 3 l _ _ _ (by simp) (by simp) (by simp)
  · rw [halves_plain]
    pointwise [k0_pay48, k0_pay68, k0_pay47, k0_pay59, k0_pay14, k0_pay12]
    exact queryPlain_of B0 B1 B2 B3 B4 B5 B6 B7 B8 B9 B10 B11 B12 x 3 l _ _ (by simp) (by simp)
  · rw [halves_turned]
    pointwise [k0_pay42, k0_pay39, k0_pay60, k0_pay61, k0_pay15, k0_pay16, k0_pay10, k0_pay11, k0_pay12]
    exact queryTurned_of B0 B1 B2 B3 B4 B5 B6 B7 B8 B9 B10 B11 B12 x 2 l _ _ _ (by simp) (by simp) (by simp)
  · rw [halves_plain]
    pointwise [k0_pay41, k0_pay40, k0_pay39, k0_pay59, k0_pay14, k0_pay12]
    exact queryPlain_of B0 B1 B2 B3 B4 B5 B6 B7 B8 B9 B10 B11 B12 x 2 l _ _ (by simp) (by simp)
  · rw [halves_turned]
    pointwise [k0_pay34, k0_pay31, k0_pay60, k0_pay61, k0_pay15, k0_pay16, k0_pay10, k0_pay11, k0_pay12]
    exact queryTurned_of B0 B1 B2 B3 B4 B5 B6 B7 B8 B9 B10 B11 B12 x 1 l _ _ _ (by simp) (by simp) (by simp)
  · rw [halves_plain]
    pointwise [k0_pay33, k0_pay32, k0_pay31, k0_pay59, k0_pay14, k0_pay12]
    exact queryPlain_of B0 B1 B2 B3 B4 B5 B6 B7 B8 B9 B10 B11 B12 x 1 l _ _ (by simp) (by simp)
  · rw [halves_turned]
    pointwise [k0_pay26, k0_pay24, k0_pay60, k0_pay61, k0_pay15, k0_pay16, k0_pay10, k0_pay11, k0_pay12]
    exact queryTurned_of B0 B1 B2 B3 B4 B5 B6 B7 B8 B9 B10 B11 B12 x 0 l _ _ _ (by simp) (by simp) (by simp)
  · rw [halves_plain]
    pointwise [k0_pay25, k0_pay24, k0_pay59, k0_pay14, k0_pay12]
    exact queryPlain_of B0 B1 B2 B3 B4 B5 B6 B7 B8 B9 B10 B11 B12 x 0 l _ _ (by simp) (by simp)

set_option maxHeartbeats 1000000 in
theorem out14_eq : out0_14 B0 B1 B2 B3 B4 B5 B6 B7 B8 B9 B10 B11 B12 = halves (keyPlain B0 B1 B2 B3 B4 B5 B6 B7 B8 B9 B10 B11 B12) (keyTurned B0 B1 B2 B3 B4 B5 B6 B7 B8 B9 B10 B11 B12) := by
  funext i
  unfold out0_14
  refine View.canon_apply_of_pieces _ _ ?_ i (cover0_14 _ _ _ _ _ _ _ _ i)
  simp only [List.forall_mem_cons]
  refine ⟨piece _ 3 128 (by omega) _ _ fun x l => ?_, piece _ 3 0 (by omega) _ _ fun x l => ?_, piece _ 2 128 (by omega) _ _ fun x l => ?_, piece _ 2 0 (by omega) _ _ fun x l => ?_,
    piece _ 1 128 (by omega) _ _ fun x l => ?_, piece _ 1 0 (by omega) _ _ fun x l => ?_, piece _ 0 128 (by omega) _ _ fun x l => ?_, piece _ 0 0 (by omega) _ _ fun x l => ?_, fun _ h => absurd h (by simp)⟩
  · rw [halves_turned]
    pointwise [k0_pay52, k0_pay50]
    exact keyTurned_of B0 B1 B2 B3 B4 B5 B6 B7 B8 B9 B10 B11 B12 x 3 l _ (by simp)
  · rw [halves_plain]
    pointwise [k0_pay51, k0_pay50, k0_pay58, k0_pay13]
    exact keyPlain_of B0 B1 B2 B3 B4 B5 B6 B7 B8 B9 B10 B11 B12 x 3 l _ _ (by simp) (by simp)
  · rw [halves_turned]
    pointwise [k0_pay45, k0_pay43]
    exact keyTurned_of B0 B1 B2 B3 B4 B5 B6 B7 B8 B9 B10 B11 B12 x 2 l _ (by simp)
  · rw [halves_plain]
    pointwise [k0_pay44, k0_pay43, k0_pay58, k0_pay13]
    exact keyPlain_of B0 B1 B2 B3 B4 B5 B6 B7 B8 B9 B10 B11 B12 x 2 l _ _ (by simp) (by simp)
  · rw [halves_turned]
    pointwise [k0_pay37, k0_pay35]
    exact keyTurned_of B0 B1 B2 B3 B4 B5 B6 B7 B8 B9 B10 B11 B12 x 1 l _ (by simp)
  · rw [halves_plain]
    pointwise [k0_pay36, k0_pay35, k0_pay58, k0_pay13]
    exact keyPlain_of B0 B1 B2 B3 B4 B5 B6 B7 B8 B9 B10 B11 B12 x 1 l _ _ (by simp) (by simp)
  · rw [halves_turned]
    pointwise [k0_pay29, k0_pay27]
    exact keyTurned_of B0 B1 B2 B3 B4 B5 B6 B7 B8 B9 B10 B11 B12 x 0 l _ (by simp)
  · rw [halves_plain]
    pointwise [k0_pay28, k0_pay27, k0_pay58, k0_pay13]
    exact keyPlain_of B0 B1 B2 B3 B4 B5 B6 B7 B8 B9 B10 B11 B12 x 0 l _ _ (by simp) (by simp)

/-- A piece of one head's values, from its entries. -/
theorem valuePiece (G : S1x4x512x128.Idx → EReal) (h : Fin 4) (inb : ∀ a, ![0, h.val, 0, 0] a + S1x1x512x128.size a ≤ S1x4x512x128.size a) (p : Vec Ideal S1x1x512x128 .bf16)
    (hp : ∀ (x : Fin 512) (l : Fin 128), p (ix4 (0 : Fin 1) (0 : Fin 1) x l) = G (ix4 (0 : Fin 1) h x l)) :
    ∀ y : S1x1x512x128.Idx, p y = G ((Rect.unit (s := S1x4x512x128) ![0, h.val, 0, 0] S1x1x512x128.size inb).emb y) := by
  intro y
  have hx : (y (2 : Fin 4)).val < 512 := (y (2 : Fin 4)).isLt
  have hl : (y (3 : Fin 4)).val < 128 := (y (3 : Fin 4)).isLt
  have hy : y = ix4 (0 : Fin 1) (0 : Fin 1) (⟨(y (2 : Fin 4)).val, hx⟩ : Fin 512) (⟨(y (3 : Fin 4)).val, hl⟩ : Fin 128) := by blk_ext []
  rw [hy, hp]
  refine congrArg G (funext fun a => ?_)
  fin_cases a
  · exact Fin.ext (show 0 = 0 + 1 * 0 by omega)
  · exact Fin.ext (show h.val = h.val + 1 * 0 by omega)
  · exact Fin.ext (show (y (2 : Fin 4)).val = 0 + 1 * (y (2 : Fin 4)).val by omega)
  · exact Fin.ext (show (y (3 : Fin 4)).val = 0 + 1 * (y (3 : Fin 4)).val by omega)

/-- The values as stored. -/
def values (i : S1x4x512x128.Idx) : EReal := kvLane B0 B1 B2 B3 B4 B5 B6 B7 B8 B9 B10 B11 B12 128 (by omega) (i 2) (i 1) (i 3)

theorem out15_eq : out0_15 B0 B1 B2 B3 B4 B5 B6 B7 B8 B9 B10 B11 B12 = values B0 B1 B2 B3 B4 B5 B6 B7 B8 B9 B10 B11 B12 := by
  funext i
  unfold out0_15
  refine View.canon_apply_of_pieces _ _ ?_ i (cover0_15 _ _ _ _ i)
  simp only [List.forall_mem_cons]
  refine ⟨valuePiece _ 3 _ _ fun x l => ?_, valuePiece _ 2 _ _ fun x l => ?_, valuePiece _ 1 _ _ fun x l => ?_, valuePiece _ 0 _ _ fun x l => ?_, fun _ h => absurd h (by simp)⟩
  · refine Eq.trans ?_ (value_of B0 B1 B2 B3 B4 B5 B6 B7 B8 B9 B10 B11 B12 x 3 l ⟨896 + l.val, by omega⟩ (by simp))
    pointwise [k0_pay1, k0_pay53]
  · refine Eq.trans ?_ (value_of B0 B1 B2 B3 B4 B5 B6 B7 B8 B9 B10 B11 B12 x 2 l ⟨640 + l.val, by omega⟩ (by simp))
    pointwise [k0_pay46]
  · refine Eq.trans ?_ (value_of B0 B1 B2 B3 B4 B5 B6 B7 B8 B9 B10 B11 B12 x 1 l ⟨384 + l.val, by omega⟩ (by simp))
    pointwise [k0_pay38]
  · refine Eq.trans ?_ (value_of B0 B1 B2 B3 B4 B5 B6 B7 B8 B9 B10 B11 B12 x 0 l ⟨128 + l.val, by omega⟩ (by simp))
    pointwise [k0_pay30]

theorem out16_apply (x : Fin 512) (c : Fin 896) : out0_16 B0 B1 B2 B3 B4 B5 B6 B7 B8 B9 B10 B11 B12 (ix3 (0 : Fin 1) x c) = proj B0 B1 B2 x ⟨768 + c.val, by omega⟩ := by
  unfold_out out0_16
  frame_out
  pointwise [k0_pay4]
  rfl

theorem out17_apply (x : Fin 512) (c : Fin 1024) : out0_17 B0 B1 B2 B3 B4 B5 B6 B7 B8 B9 B10 B11 B12 (ix3 (0 : Fin 1) x c) = proj B0 B1 B2 x ⟨1664 + c.val, by omega⟩ := by
  unfold_out out0_17
  frame_out
  pointwise [k0_pay5]
  rfl

end Cert.Kernel4Ideal.Inp

end
-- ==== Proof.InJoin.lean ====
/-
  The input projections' tile, when its blocks hold the arrays' rows and the arrays the host prepares, against the
  plain text's stages: projections, latents, heads, roots, turned heads.
-/
module

public import proofs.«01_k».proof.Proof.InMaths
public import proofs.«01_k».proof.Proof.InTile
public import proofs.«01_k».proof.Proof.InReference

@[expose] public section

set_option maxRecDepth 16384

noncomputable section

namespace Cert.Kernel4Ideal.Inp

open Idealize.ShloMosaic Idealize.ShloMosaic.TcCoe Idealize.ShloMosaic.StableHlo
open Cert.Kernel4Ideal Cert.Kernel4Ideal.Gen Idealize.SL.Sem
open Cert.Reference4Ideal.Inp (allProjected allQueries allKeyValues allKeys resultQ resultK resultV resultB resultC angles)

/-- What a point's blocks hold: rows of the hidden state, weights and gains in the kernel's order, the rows' cosines and sines, ones. -/
structure Blocks (B0 : Vec Ideal S1x512x1024 .f32) (B1 : Vec Ideal S1x1024 .f32) (B2 : Vec Ideal S1024x2688 .bf16) (B3 : Vec Ideal S1x256 .f32) (B4 : Vec Ideal S256x1536 .bf16) (B5 : Vec Ideal S1x256 .f32)
    (B6 : Vec Ideal S256x1024 .bf16) (B7 B8 : Vec Ideal S1x384 .f32) (B9 B10 : Vec Ideal S1x512x128 .f32) (B11 : Vec Ideal S256x256 .bf16) (B12 : Vec Ideal S512x512 .bf16)
    (aH : FVec Ideal S8x8192x1024 .f32) (aP : IVec S8x8192 32) (aG : FVec Ideal S1024 .f32) (aW : FVec Ideal S1024x2384 .f32) (aGq : FVec Ideal S256 .f32) (aWq : FVec Ideal S256x768 .f32)
    (aGkv : FVec Ideal S256 .f32) (aWkv : FVec Ideal S256x1024 .f32) (aHq aHk : FVec Ideal S192 .f32) (b : Fin 8) (row : Fin 512 → Fin 8192) : Prop where
  rows : ∀ x k, B0 (ix3 (0 : Fin 1) x k) = aH (ix3 b (row x) k)
  gain : ∀ k : Fin 1024, B1 (ix2 (0 : Fin 1) k) = aG (ix1 k)
  latents : ∀ (k : Fin 1024) (j : Fin 512), B2 (ix2 k ⟨j.val, by omega⟩) = aW (ix2 k ⟨j.val, by omega⟩)
  rotary : ∀ (k : Fin 1024) (l : Fin 128), B2 (ix2 k ⟨512 + l.val, by omega⟩) = InMaths.spread (fun i => aW (ix2 k ⟨512 + i.val, by omega⟩)) l
  exchanged : ∀ (k : Fin 1024) (l : Fin 128), B2 (ix2 k ⟨640 + l.val, by omega⟩) = InMaths.spread (InMaths.swap fun i => aW (ix2 k ⟨512 + i.val, by omega⟩)) l
  second : ∀ (k : Fin 1024) (c : Fin 896), B2 (ix2 k ⟨768 + c.val, by omega⟩)
    = if h : c.val < 512 then aW (ix2 k ⟨576 + c.val, by omega⟩) else if h : c.val < 768 then aW (ix2 k ⟨592 + c.val, by omega⟩) else if h : c.val < 784 then aW (ix2 k ⟨320 + c.val, by omega⟩) else 0
  third : ∀ (k : Fin 1024) (c : Fin 1024), B2 (ix2 k ⟨1664 + c.val, by omega⟩) = aW (ix2 k ⟨1360 + c.val, by omega⟩)
  latentGain : ∀ j : Fin 256, B3 (ix2 (0 : Fin 1) j) = aGq (ix1 j)
  queryPlain : ∀ (j : Fin 256) (h : Fin 4) (l : Fin 128), B4 (ix2 j ⟨384 * h.val + 0 + l.val, by omega⟩) = aWq (ix2 j ⟨h.val * 192 + l.val, by omega⟩)
  queryRotary : ∀ (j : Fin 256) (h : Fin 4) (l : Fin 128), B4 (ix2 j ⟨384 * h.val + 128 + l.val, by omega⟩) = InMaths.spread (fun i => aWq (ix2 j ⟨h.val * 192 + (128 + i.val), by omega⟩)) l
  queryExchanged : ∀ (j : Fin 256) (h : Fin 4) (l : Fin 128), B4 (ix2 j ⟨384 * h.val + 256 + l.val, by omega⟩) = InMaths.spread (InMaths.swap fun i => aWq (ix2 j ⟨h.val * 192 + (128 + i.val), by omega⟩)) l
  kvGain : ∀ j : Fin 256, B5 (ix2 (0 : Fin 1) j) = aGkv (ix1 j)
  kvWeights : ∀ (j : Fin 256) (k : Fin 1024), B6 (ix2 j k) = aWkv (ix2 j k)
  queryGainPlain : ∀ l : Fin 128, B7 (ix2 (0 : Fin 1) ⟨l.val, by omega⟩) = aHq (ix1 ⟨l.val, by omega⟩)
  queryGainRotary : ∀ l : Fin 128, B7 (ix2 (0 : Fin 1) ⟨128 + l.val, by omega⟩) = InMaths.spread (fun i => aHq (ix1 ⟨128 + i.val, by omega⟩)) l
  queryGainExchanged : ∀ l : Fin 128, B7 (ix2 (0 : Fin 1) ⟨256 + l.val, by omega⟩) = InMaths.spread (InMaths.swap fun i => aHq (ix1 ⟨128 + i.val, by omega⟩)) l
  keyGainPlain : ∀ l : Fin 128, B8 (ix2 (0 : Fin 1) ⟨l.val, by omega⟩) = aHk (ix1 ⟨l.val, by omega⟩)
  keyGainRotary : ∀ l : Fin 128, B8 (ix2 (0 : Fin 1) ⟨128 + l.val, by omega⟩) = InMaths.spread (fun i => aHk (ix1 ⟨128 + i.val, by omega⟩)) l
  keyGainExchanged : ∀ l : Fin 128, B8 (ix2 (0 : Fin 1) ⟨256 + l.val, by omega⟩) = InMaths.spread (InMaths.swap fun i => aHk (ix1 ⟨128 + i.val, by omega⟩)) l
  cosines : ∀ (x : Fin 512) (l : Fin 128), B9 (ix3 (0 : Fin 1) x l) = InMaths.spread (InMaths.both fun j => Host.cos (angles aP) (ix3 b (row x) j)) l
  sines : ∀ (x : Fin 512) (l : Fin 128), B10 (ix3 (0 : Fin 1) x l) = InMaths.spread (InMaths.opposed fun j => Host.sin (angles aP) (ix3 b (row x) j)) l
  ones : ∀ i j : Fin 256, B11 (ix2 i j) = (1 : EReal)
  sameHead : ∀ f g : Fin 512, B12 (ix2 f g) = (if f.val / 128 = g.val / 128 then 1 else 0 : EReal)

/-! ## Lanes and roots -/

/-- Over a head's mean square. -/
def rootOf (Q : Fin 192 → EReal) : EReal := Ideal.rsqrt (Ideal.div (∑ e, Q e * Q e) (Ideal.ofBits .f32 0x43400000#32) + Ideal.ofBits .f32 0x358637BD#32)

theorem rootOf_real (Q : Fin 192 → EReal) : ∃ r : ℝ, 0 ≤ r ∧ rootOf Q = r := by
  obtain ⟨ε, hε, hε'⟩ := MixMaths.eps_real
  unfold rootOf
  rw [InMaths.ofBits_192, hε']
  exact InMaths.root_real Q (by norm_num) hε

/-- The lanes' sum by the array of heads' ones is the sum over the head. -/
theorem root_eq (B12 : Vec Ideal S512x512 .bf16) (h12 : ∀ f g : Fin 512, B12 (ix2 f g) = (if f.val / 128 = g.val / 128 then 1 else 0 : EReal)) (q r : Fin 4 → Fin 128 → EReal) (h : Fin 4) (Q : Fin 192 → EReal)
    (hq : ∀ l : Fin 128, q h l = Q ⟨l.val, by omega⟩) (hr : ∀ l : Fin 128, r h l = InMaths.spread (fun i => Q ⟨128 + i.val, by omega⟩) l) (l : Fin 128) : root B12 (squares q r) (col512 h l) = rootOf Q := by
  unfold root
  rw [InMaths.mean_head]
  refine congrArg Ideal.rsqrt (congrArg (· + _) (congrArg (fun s => Ideal.div s _) ?_))
  rw [InMaths.sum_head (fun e => Q e * Q e)]
  refine Eq.trans (Finset.sum_congr rfl fun f _ => congrArg (_ * ·) ((h12 f _).trans ?_)) (Eq.trans (InMaths.sum_one_head (squares q r) h) (Finset.sum_congr rfl fun e _ => ?_))
  · rw [show (col512 h l).val / 128 = h.val from by show (128 * h.val + l.val) / 128 = h.val; omega]
  · have h1 : (⟨(128 * h.val + e.val) / 128, by omega⟩ : Fin 4) = h := Fin.ext (show (128 * h.val + e.val) / 128 = h.val by omega)
    have h2 : (⟨(128 * h.val + e.val) % 128, by omega⟩ : Fin 128) = e := Fin.ext (show (128 * h.val + e.val) % 128 = e.val by omega)
    unfold squares
    dsimp only
    rw [h1, h2, hq, hr]
    exact congrArg (_ + ·) (InMaths.spread_map₂ (fun a b => a * b) (mul_zero 0) _ _ e)

/-- A sum of two products of spread lanes is spread. -/
theorem spread_turned (X G C X' G' S : Fin 64 → EReal) (k r : EReal) (l : Fin 128) :
    (InMaths.spread X l * (InMaths.spread G l * InMaths.spread C l * k) + InMaths.spread X' l * (InMaths.spread G' l * InMaths.spread S l * k)) * r
      = InMaths.spread (fun i => (X i * (G i * C i * k) + X' i * (G' i * S i * k)) * r) l := by
  unfold InMaths.spread
  split
  · rfl
  split
  · simp
  split
  · rfl
  · simp

theorem spread_congr {f g : Fin 64 → EReal} (h : ∀ i, f i = g i) (l : Fin 128) : InMaths.spread f l = InMaths.spread g l := by rw [funext h]

section
variable {B0 : Vec Ideal S1x512x1024 .f32} {B1 : Vec Ideal S1x1024 .f32} {B2 : Vec Ideal S1024x2688 .bf16} {B3 : Vec Ideal S1x256 .f32} {B4 : Vec Ideal S256x1536 .bf16} {B5 : Vec Ideal S1x256 .f32}
  {B6 : Vec Ideal S256x1024 .bf16} {B7 B8 : Vec Ideal S1x384 .f32} {B9 B10 : Vec Ideal S1x512x128 .f32} {B11 : Vec Ideal S256x256 .bf16} {B12 : Vec Ideal S512x512 .bf16}
  {aH : FVec Ideal S8x8192x1024 .f32} {aP : IVec S8x8192 32} {aG : FVec Ideal S1024 .f32} {aW : FVec Ideal S1024x2384 .f32} {aGq : FVec Ideal S256 .f32} {aWq : FVec Ideal S256x768 .f32}
  {aGkv : FVec Ideal S256 .f32} {aWkv : FVec Ideal S256x1024 .f32} {aHq aHk : FVec Ideal S192 .f32} {b : Fin 8} {row : Fin 512 → Fin 8192}
  (H : Blocks B0 B1 B2 B3 B4 B5 B6 B7 B8 B9 B10 B11 B12 aH aP aG aW aGq aWq aGkv aWkv aHq aHk b row)
include H

/-! ## Projections and latents -/

theorem normed_eq (x : Fin 512) (k : Fin 1024) : k0_pay2 B0 B1 (ix2 x k) = Cert.Reference4Ideal.Inp.normed aH aG (ix3 b (row x) k) := by
  rw [normed_apply, Cert.Reference4Ideal.Inp.normed_apply, MixMaths.mean_row, H.gain]
  simp only [H.rows]

theorem proj_latents (x j : Fin 512) : proj B0 B1 B2 x ⟨j.val, by omega⟩ = allProjected aH aG aW (ix3 b (row x) ⟨j.val, by omega⟩) :=
  (Finset.sum_congr rfl fun k _ => congrArg₂ (· * ·) (normed_eq H x k) (H.latents k j)).trans (Cert.Reference4Ideal.Inp.projected_apply _ _ _ _ _).symm

theorem proj_rotary (x : Fin 512) (l : Fin 128) : proj B0 B1 B2 x ⟨512 + l.val, by omega⟩ = InMaths.spread (fun i => allProjected aH aG aW (ix3 b (row x) ⟨512 + i.val, by omega⟩)) l :=
  (Finset.sum_congr rfl fun k _ => congrArg₂ (· * ·) (normed_eq H x k) (H.rotary k l)).trans
    ((InMaths.sum_mul_spread _ _ l).trans (spread_congr (fun _ => (Cert.Reference4Ideal.Inp.projected_apply _ _ _ _ _).symm) l))

theorem proj_exchanged (x : Fin 512) (l : Fin 128) : proj B0 B1 B2 x ⟨640 + l.val, by omega⟩ = InMaths.spread (InMaths.swap fun i => allProjected aH aG aW (ix3 b (row x) ⟨512 + i.val, by omega⟩)) l := by
  refine (Finset.sum_congr rfl fun k _ => congrArg₂ (· * ·) (normed_eq H x k) (H.exchanged k l)).trans ((InMaths.sum_mul_spread _ _ l).trans (spread_congr (fun i => ?_) l))
  unfold InMaths.swap
  split <;> exact (Cert.Reference4Ideal.Inp.projected_apply _ _ _ _ _).symm

theorem second_eq (x : Fin 512) (c : Fin 896) : proj B0 B1 B2 x ⟨768 + c.val, by omega⟩ = resultB aH aG aW (ix3 b (row x) c) := by
  refine (Finset.sum_congr rfl fun k _ => congrArg₂ (· * ·) (normed_eq H x k) (H.second k c)).trans (Eq.trans ?_ (Cert.Reference4Ideal.Inp.gla_apply _ _ _ _).symm)
  by_cases h1 : c.val < 512
  · simp only [dif_pos h1]
    exact (Cert.Reference4Ideal.Inp.projected_apply _ _ _ _ _).symm
  simp only [dif_neg h1]
  by_cases h2 : c.val < 768
  · simp only [dif_pos h2]
    exact (Cert.Reference4Ideal.Inp.projected_apply _ _ _ _ _).symm
  simp only [dif_neg h2]
  by_cases h3 : c.val < 784
  · simp only [dif_pos h3]
    exact (Cert.Reference4Ideal.Inp.projected_apply _ _ _ _ _).symm
  simp only [dif_neg h3, mul_zero, Finset.sum_const_zero]

theorem third_eq (x : Fin 512) (c : Fin 1024) : proj B0 B1 B2 x ⟨1664 + c.val, by omega⟩ = resultC aH aG aW (ix3 b (row x) c) :=
  (Finset.sum_congr rfl fun k _ => congrArg₂ (· * ·) (normed_eq H x k) (H.third k c)).trans ((Cert.Reference4Ideal.Inp.projected_apply _ _ _ _ _).symm.trans (Cert.Reference4Ideal.Inp.hgrn_apply _ _ _ _).symm)

theorem queryLatent_eq (x : Fin 512) (j : Fin 256) : latent B0 B1 B2 B11 0 (by omega) B3 x j = Cert.Reference4Ideal.Inp.latentNormed (Cert.Reference4Ideal.Inp.queryLatent (allProjected aH aG aW)) aGq (ix3 b (row x) j) := by
  have e : ∀ i : Fin 256, proj B0 B1 B2 x ⟨0 + i.val, by omega⟩ = Cert.Reference4Ideal.Inp.queryLatent (allProjected aH aG aW) (ix3 b (row x) i) := fun i => by
    refine Eq.trans ?_ ((proj_latents H x ⟨i.val, by omega⟩).trans (Cert.Reference4Ideal.Inp.queryLatent_apply _ _ _ _).symm)
    exact congrArg (proj B0 B1 B2 x) (Fin.ext (Nat.zero_add _))
  unfold latent
  simp only [H.ones, mul_one, e]
  rw [InMaths.mean_latent, H.latentGain, Cert.Reference4Ideal.Inp.latentNormed_apply]

theorem kvLatent_eq (x : Fin 512) (j : Fin 256) : latent B0 B1 B2 B11 256 (by omega) B5 x j = Cert.Reference4Ideal.Inp.latentNormed (Cert.Reference4Ideal.Inp.kvLatent (allProjected aH aG aW)) aGkv (ix3 b (row x) j) := by
  have e : ∀ i : Fin 256, proj B0 B1 B2 x ⟨256 + i.val, by omega⟩ = Cert.Reference4Ideal.Inp.kvLatent (allProjected aH aG aW) (ix3 b (row x) i) := fun i =>
    (proj_latents H x ⟨256 + i.val, by omega⟩).trans (Cert.Reference4Ideal.Inp.kvLatent_apply _ _ _ _).symm
  unfold latent
  simp only [H.ones, mul_one, e]
  rw [InMaths.mean_latent, H.kvGain, Cert.Reference4Ideal.Inp.latentNormed_apply]

/-! ## Heads -/

omit H in
theorem allQueries_apply (n : Fin 8192) (h : Fin 4) (e : Fin 192) : allQueries aH aG aW aGq aWq (ix4 b n h e)
    = ∑ j : Fin 256, Cert.Reference4Ideal.Inp.latentNormed (Cert.Reference4Ideal.Inp.queryLatent (allProjected aH aG aW)) aGq (ix3 b n j) * aWq (ix2 j ⟨h.val * 192 + e.val, by omega⟩) := Cert.Reference4Ideal.Inp.queries_apply _ _ b n h e

theorem lane_plain (x : Fin 512) (h : Fin 4) (l : Fin 128) : queryLane B0 B1 B2 B3 B4 B5 B6 B7 B8 B9 B10 B11 B12 0 (by omega) x h l = allQueries aH aG aW aGq aWq (ix4 b (row x) h ⟨l.val, by omega⟩) :=
  (queries_apply B0 B1 B2 B3 B4 B5 B6 B7 B8 B9 B10 B11 B12 x _).trans ((Finset.sum_congr rfl fun j _ => congrArg₂ (· * ·) (queryLatent_eq H x j) (H.queryPlain j h l)).trans (allQueries_apply (row x) h ⟨l.val, by omega⟩).symm)

theorem lane_rotary (x : Fin 512) (h : Fin 4) (l : Fin 128) : queryLane B0 B1 B2 B3 B4 B5 B6 B7 B8 B9 B10 B11 B12 128 (by omega) x h l = InMaths.spread (fun i => allQueries aH aG aW aGq aWq (ix4 b (row x) h ⟨128 + i.val, by omega⟩)) l :=
  (queries_apply B0 B1 B2 B3 B4 B5 B6 B7 B8 B9 B10 B11 B12 x _).trans ((Finset.sum_congr rfl fun j _ => congrArg₂ (· * ·) (queryLatent_eq H x j) (H.queryRotary j h l)).trans
    ((InMaths.sum_mul_spread _ _ l).trans (spread_congr (fun i => (allQueries_apply (row x) h ⟨128 + i.val, by omega⟩).symm) l)))

theorem lane_exchanged (x : Fin 512) (h : Fin 4) (l : Fin 128) : queryLane B0 B1 B2 B3 B4 B5 B6 B7 B8 B9 B10 B11 B12 256 (by omega) x h l = InMaths.spread (InMaths.swap fun i => allQueries aH aG aW aGq aWq (ix4 b (row x) h ⟨128 + i.val, by omega⟩)) l := by
  refine (queries_apply B0 B1 B2 B3 B4 B5 B6 B7 B8 B9 B10 B11 B12 x _).trans ((Finset.sum_congr rfl fun j _ => congrArg₂ (· * ·) (queryLatent_eq H x j) (H.queryExchanged j h l)).trans
    ((InMaths.sum_mul_spread _ _ l).trans (spread_congr (fun i => ?_) l)))
  unfold InMaths.swap
  split
  · exact (allQueries_apply (row x) h ⟨128 + (i.val + 32), by omega⟩).symm
  · exact (allQueries_apply (row x) h ⟨128 + (i.val - 32), by omega⟩).symm

theorem lane_kv (o : ℕ) (ho : o ≤ 128) (x : Fin 512) (h : Fin 4) (l : Fin 128) : kvLane B0 B1 B2 B3 B4 B5 B6 B7 B8 B9 B10 B11 B12 o ho x h l = allKeyValues aH aG aW aGkv aWkv (ix4 b (row x) h ⟨o + l.val, by omega⟩) := by
  refine (keyValues_apply B0 B1 B2 B3 B4 B5 B6 B7 B8 B9 B10 B11 B12 x _).trans ((Finset.sum_congr rfl fun j _ => congrArg₂ (· * ·) (kvLatent_eq H x j) ((H.kvWeights j _).trans ?_)).trans (Cert.Reference4Ideal.Inp.keyValues_apply _ _ _ _ _ _).symm)
  exact congrArg (fun k => aWkv (ix2 j k)) (Fin.ext (show 256 * h.val + o + l.val = h.val * 256 + (o + l.val) by omega))

theorem lane_key (x : Fin 512) (h : Fin 4) (l : Fin 128) : kvLane B0 B1 B2 B3 B4 B5 B6 B7 B8 B9 B10 B11 B12 0 (by omega) x h l = allKeys aH aG aW aGkv aWkv (ix4 b (row x) h ⟨l.val, by omega⟩) := by
  refine (lane_kv H 0 (by omega) x h l).trans (Eq.trans ?_ (Cert.Reference4Ideal.Inp.keys_plain _ _ _ _ _ _).symm)
  exact congrArg (fun e => allKeyValues aH aG aW aGkv aWkv (ix4 b (row x) h e)) (Fin.ext (Nat.zero_add _))

theorem queryRoots_eq (x : Fin 512) (h : Fin 4) (l : Fin 128) : queryRoots B0 B1 B2 B3 B4 B5 B6 B7 B8 B9 B10 B11 B12 (ix2 x (col512 h l)) = rootOf (fun e => allQueries aH aG aW aGq aWq (ix4 b (row x) h e)) :=
  (queryRoots_apply B0 B1 B2 B3 B4 B5 B6 B7 B8 B9 B10 B11 B12 x _).trans (root_eq B12 H.sameHead _ _ h _ (lane_plain H x h) (lane_rotary H x h) l)

theorem keyRoots_eq (x : Fin 512) (h : Fin 4) (l : Fin 128) : keyRoots B0 B1 B2 B3 B4 B5 B6 B7 B8 B9 B10 B11 B12 (ix2 x (col512 h l)) = rootOf (fun e => allKeys aH aG aW aGkv aWkv (ix4 b (row x) h e)) :=
  (keyRoots_apply B0 B1 B2 B3 B4 B5 B6 B7 B8 B9 B10 B11 B12 x _).trans (root_eq B12 H.sameHead _ _ h _ (lane_key H x h)
    (fun l => (proj_rotary H x l).trans (spread_congr (fun _ => (Cert.Reference4Ideal.Inp.keys_rotary _ _ _ _ _ _).symm) l)) l)

/-! ## What a point stores -/

theorem queryPlain_eq (x : Fin 512) (h : Fin 4) (l : Fin 128) : queryPlain B0 B1 B2 B3 B4 B5 B6 B7 B8 B9 B10 B11 B12 x h l = resultQ aH aP aG aW aGq aWq aHq (ix4 b h (row x) ⟨l.val, by omega⟩) := by
  unfold queryPlain resultQ
  rw [Cert.Reference4Ideal.Inp.padded_plain, Cert.Reference4Ideal.Inp.scaled_apply, Cert.Reference4Ideal.Inp.turned_plain, Cert.Reference4Ideal.Inp.headNormed_apply, lane_plain H, queryRoots_eq H, H.queryGainPlain, ← mul_assoc]
  rfl

theorem queryTurned_eq (x : Fin 512) (h : Fin 4) (l : Fin 128) : queryTurned B0 B1 B2 B3 B4 B5 B6 B7 B8 B9 B10 B11 B12 x h l = resultQ aH aP aG aW aGq aWq aHq (ix4 b h (row x) ⟨128 + l.val, by omega⟩) := by
  unfold queryTurned resultQ
  rw [Cert.Reference4Ideal.Inp.padded_turned, lane_rotary H, lane_exchanged H, queryRoots_eq H, H.queryGainRotary, H.queryGainExchanged, H.cosines, H.sines, spread_turned]
  refine spread_congr (fun i => ?_) l
  rw [Cert.Reference4Ideal.Inp.scaled_apply, Cert.Reference4Ideal.Inp.turned_rotary]
  refine (InMaths.turn_eq (fun i => allQueries aH aG aW aGq aWq (ix4 b (row x) h ⟨128 + i.val, by omega⟩)) (fun i => aHq (ix1 ⟨128 + i.val, by omega⟩)) _ _ (rootOf_real _) InMaths.scale_real i).trans ?_
  refine congrArg (fun f => InMaths.turn f _ _ i * _) (funext fun i => ?_)
  exact (Cert.Reference4Ideal.Inp.headNormed_apply _ _ _ _ _ _).symm

theorem keyPlain_eq (x : Fin 512) (h : Fin 4) (l : Fin 128) : keyPlain B0 B1 B2 B3 B4 B5 B6 B7 B8 B9 B10 B11 B12 x h l = resultK aH aP aG aW aGkv aWkv aHk (ix4 b h (row x) ⟨l.val, by omega⟩) := by
  unfold keyPlain resultK
  rw [Cert.Reference4Ideal.Inp.padded_plain, Cert.Reference4Ideal.Inp.turned_plain, Cert.Reference4Ideal.Inp.headNormed_apply, lane_key H, keyRoots_eq H, H.keyGainPlain]
  rfl

theorem keyTurned_eq (x : Fin 512) (h : Fin 4) (l : Fin 128) : keyTurned B0 B1 B2 B3 B4 B5 B6 B7 B8 B9 B10 B11 B12 x h l = resultK aH aP aG aW aGkv aWkv aHk (ix4 b h (row x) ⟨128 + l.val, by omega⟩) := by
  have e := fun X G C X' G' S r => spread_turned X G C X' G' S 1 r l
  have t := fun X G C S r hr i => InMaths.turn_eq X G C S (r := r) (k := 1) hr ⟨1, zero_le_one, rfl⟩ i
  simp only [mul_one] at e t
  unfold keyTurned resultK
  rw [Cert.Reference4Ideal.Inp.padded_turned, proj_rotary H, proj_exchanged H, keyRoots_eq H, H.keyGainRotary, H.keyGainExchanged, H.cosines, H.sines, e]
  refine spread_congr (fun i => ?_) l
  rw [Cert.Reference4Ideal.Inp.turned_rotary]
  refine (t (fun i => allProjected aH aG aW (ix3 b (row x) ⟨512 + i.val, by omega⟩)) (fun i => aHk (ix1 ⟨128 + i.val, by omega⟩)) _ _ _ (rootOf_real _) i).trans ?_
  refine congrArg (fun f => InMaths.turn f _ _ i) (funext fun i => Eq.trans ?_ (Cert.Reference4Ideal.Inp.headNormed_apply _ _ _ _ _ _).symm)
  exact congrArg (fun y => y * _ * _) (Cert.Reference4Ideal.Inp.keys_rotary _ _ _ _ _ _).symm

theorem value_eq (x : Fin 512) (h : Fin 4) (l : Fin 128) : kvLane B0 B1 B2 B3 B4 B5 B6 B7 B8 B9 B10 B11 B12 128 (by omega) x h l = resultV aH aG aW aGkv aWkv (ix4 b h (row x) l) :=
  (lane_kv H 128 (by omega) x h l).trans (Cert.Reference4Ideal.Inp.headed_apply _ _ _ _ _).symm
end

end Cert.Kernel4Ideal.Inp

end
-- ==== Proof.InValue.lean ====
/-
  The input projections' kernel's five results are the plain text's: at every point the tiles stored are the
  results under the tiles' places, and the tiles cover the arrays.
-/
module

public import proofs.«01_k».proof.Proof.InHeads
public import proofs.«01_k».proof.Proof.InJoin
public import Idealize.ShloMosaic.Lib.StableHlo.Run

@[expose] public section

set_option maxRecDepth 16384

noncomputable section

namespace Cert.Kernel4Ideal.Inp

open Idealize.ShloMosaic Idealize.ShloMosaic.TcCoe Idealize.ShloMosaic.StableHlo
open Cert.Kernel4Ideal Cert.Kernel4Ideal.Gen Idealize.SL.Sem

variable (m : (ℓ : Loc nD τ sig) → Buf (Elt Ideal) ℓ) (c : Dev nD)

/-- The blocks each point reads and writes. -/
theorem points : ∀ t : Fin cfg0.N,
    (win0_0.index t 0 = t.val / 16 ∧ win0_0.index t 1 = t.val % 16 ∧ win0_0.index t 2 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = t.val / 16 ∧ win0_9.index t 1 = t.val % 16 ∧ win0_9.index t 2 = 0)
    ∧ (win0_10.index t 0 = t.val / 16 ∧ win0_10.index t 1 = t.val % 16 ∧ win0_10.index t 2 = 0)
    ∧ (win0_11.index t 0 = 0 ∧ win0_11.index t 1 = 0)
    ∧ (win0_12.index t 0 = 0 ∧ win0_12.index t 1 = 0)
    ∧ (win0_13.index t 0 = t.val / 16 ∧ win0_13.index t 1 = 0 ∧ win0_13.index t 2 = t.val % 16 ∧ win0_13.index t 3 = 0)
    ∧ (win0_14.index t 0 = t.val / 16 ∧ win0_14.index t 1 = 0 ∧ win0_14.index t 2 = t.val % 16 ∧ win0_14.index t 3 = 0)
    ∧ (win0_15.index t 0 = t.val / 16 ∧ win0_15.index t 1 = 0 ∧ win0_15.index t 2 = t.val % 16 ∧ win0_15.index t 3 = 0)
    ∧ (win0_16.index t 0 = t.val / 16 ∧ win0_16.index t 1 = t.val % 16 ∧ win0_16.index t 2 = 0)
    ∧ (win0_17.index t 0 = t.val / 16 ∧ win0_17.index t 1 = t.val % 16 ∧ win0_17.index t 2 = 0) := by
  decide +kernel

/-- A point's batch, and the sequence's row its tile's row `x` is. -/
def batchOf (t : Fin cfg0.N) : Fin 8 := ⟨t.val / 16, by have : t.val < 128 := t.isLt; omega⟩
def rowOf (t : Fin cfg0.N) (x : Fin 512) : Fin 8192 := ⟨512 * (t.val % 16) + x.val, by omega⟩

theorem iblk0_apply (t : Fin cfg0.N) (x : Fin 512) (k : Fin 1024) : iblk m c 0 t (ix3 (0 : Fin 1) x k) = V m c main_arg0 (ix3 (batchOf t) (rowOf t x) k) := by
  obtain ⟨⟨h0, h1, h2⟩, -⟩ := points t
  blk_ext [iblk, h0, h1, h2, batchOf, rowOf]

theorem iblk1_apply (t : Fin cfg0.N) (k : Fin 1024) : iblk m c 1 t (ix2 (0 : Fin 1) k) = V m c main_v75 (ix2 (0 : Fin 1) k) := by
  obtain ⟨-, ⟨h0, h1⟩, -⟩ := points t
  blk_ext [iblk, h0, h1]

theorem iblk2_apply (t : Fin cfg0.N) (j : Fin 1024) (k : Fin 2688) : iblk m c 2 t (ix2 j k) = V m c main_v57 (ix2 j k) := by
  obtain ⟨-, -, ⟨h0, h1⟩, -⟩ := points t
  blk_ext [iblk, h0, h1]

theorem iblk3_apply (t : Fin cfg0.N) (k : Fin 256) : iblk m c 3 t (ix2 (0 : Fin 1) k) = V m c main_v76 (ix2 (0 : Fin 1) k) := by
  obtain ⟨-, -, -, ⟨h0, h1⟩, -⟩ := points t
  blk_ext [iblk, h0, h1]

theorem iblk4_apply (t : Fin cfg0.N) (j : Fin 256) (k : Fin 1536) : iblk m c 4 t (ix2 j k) = V m c main_v74 (ix2 j k) := by
  obtain ⟨-, -, -, -, ⟨h0, h1⟩, -⟩ := points t
  blk_ext [iblk, h0, h1]

theorem iblk5_apply (t : Fin cfg0.N) (k : Fin 256) : iblk m c 5 t (ix2 (0 : Fin 1) k) = V m c main_v77 (ix2 (0 : Fin 1) k) := by
  obtain ⟨-, -, -, -, -, ⟨h0, h1⟩, -⟩ := points t
  blk_ext [iblk, h0, h1]

theorem iblk6_apply (t : Fin cfg0.N) (j : Fin 256) (k : Fin 1024) : iblk m c 6 t (ix2 j k) = V m c main_v78 (ix2 j k) := by
  obtain ⟨-, -, -, -, -, -, ⟨h0, h1⟩, -⟩ := points t
  blk_ext [iblk, h0, h1]

theorem iblk7_apply (t : Fin cfg0.N) (k : Fin 384) : iblk m c 7 t (ix2 (0 : Fin 1) k) = V m c main_v93 (ix2 (0 : Fin 1) k) := by
  obtain ⟨-, -, -, -, -, -, -, ⟨h0, h1⟩, -⟩ := points t
  blk_ext [iblk, h0, h1]

theorem iblk8_apply (t : Fin cfg0.N) (k : Fin 384) : iblk m c 8 t (ix2 (0 : Fin 1) k) = V m c main_v108 (ix2 (0 : Fin 1) k) := by
  obtain ⟨-, -, -, -, -, -, -, -, ⟨h0, h1⟩, -⟩ := points t
  blk_ext [iblk, h0, h1]

theorem iblk9_apply (t : Fin cfg0.N) (x : Fin 512) (k : Fin 128) : iblk m c 9 t (ix3 (0 : Fin 1) x k) = V m c main_v22 (ix3 (batchOf t) (rowOf t x) k) := by
  obtain ⟨-, -, -, -, -, -, -, -, -, ⟨h0, h1, h2⟩, -⟩ := points t
  blk_ext [iblk, h0, h1, h2, batchOf, rowOf]

theorem iblk10_apply (t : Fin cfg0.N) (x : Fin 512) (k : Fin 128) : iblk m c 10 t (ix3 (0 : Fin 1) x k) = V m c main_v30 (ix3 (batchOf t) (rowOf t x) k) := by
  obtain ⟨-, -, -, -, -, -, -, -, -, -, ⟨h0, h1, h2⟩, -⟩ := points t
  blk_ext [iblk, h0, h1, h2, batchOf, rowOf]

theorem iblk11_apply (t : Fin cfg0.N) (j : Fin 256) (k : Fin 256) : iblk m c 11 t (ix2 j k) = V m c main_v109 (ix2 j k) := by
  obtain ⟨-, -, -, -, -, -, -, -, -, -, -, ⟨h0, h1⟩, -⟩ := points t
  blk_ext [iblk, h0, h1]

theorem iblk12_apply (t : Fin cfg0.N) (j : Fin 512) (k : Fin 512) : iblk m c 12 t (ix2 j k) = V m c main_v119 (ix2 j k) := by
  obtain ⟨-, -, -, -, -, -, -, -, -, -, -, -, ⟨h0, h1⟩, -⟩ := points t
  blk_ext [iblk, h0, h1]

/-- What the blocks of a point hold. -/
theorem blocks (t : Fin cfg0.N) : Blocks (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (argH m c) (argP m c) (argG m c) (argW m c) (argGq m c) (argWq m c) (argGkv m c) (argWkv m c) (argHq m c) (argHk m c) (batchOf t) (rowOf t) where
  rows := fun x k => (iblk0_apply m c t x k).trans (congrFun (V_main_arg0 m c) _)
  gain := fun k => (iblk1_apply m c t _).trans (V_rowGain m c k)
  latents := fun k j => (iblk2_apply m c t _ _).trans ((congrFun (V_weights m c) _).trans (relaid_latent (argW m c) k j))
  rotary := fun k l => (iblk2_apply m c t _ _).trans ((congrFun (V_weights m c) _).trans (relaid_rotary (argW m c) k l))
  exchanged := fun k l => (iblk2_apply m c t _ _).trans ((congrFun (V_weights m c) _).trans (relaid_exchanged (argW m c) k l))
  second := fun k d => (iblk2_apply m c t _ _).trans ((congrFun (V_weights m c) _).trans (relaid_gla (argW m c) k d))
  third := fun k d => (iblk2_apply m c t _ _).trans ((congrFun (V_weights m c) _).trans (relaid_hgrn (argW m c) k d))
  latentGain := fun j => (iblk3_apply m c t _).trans (V_latentGain m c j)
  queryPlain := fun j h l => (iblk4_apply m c t _ _).trans (V_query_plain m c j h l)
  queryRotary := fun j h l => (iblk4_apply m c t _ _).trans (V_query_rotary m c j h l)
  queryExchanged := fun j h l => (iblk4_apply m c t _ _).trans (V_query_exchanged m c j h l)
  kvGain := fun j => (iblk5_apply m c t _).trans (V_kvGain m c j)
  kvWeights := fun j k => (iblk6_apply m c t _ _).trans (V_kvWeights m c j k)
  queryGainPlain := fun l => (iblk7_apply m c t _).trans (V_queryGain_plain m c l)
  queryGainRotary := fun l => (iblk7_apply m c t _).trans (V_queryGain_rotary m c l)
  queryGainExchanged := fun l => (iblk7_apply m c t _).trans (V_queryGain_exchanged m c l)
  keyGainPlain := fun l => (iblk8_apply m c t _).trans (V_keyGain_plain m c l)
  keyGainRotary := fun l => (iblk8_apply m c t _).trans (V_keyGain_rotary m c l)
  keyGainExchanged := fun l => (iblk8_apply m c t _).trans (V_keyGain_exchanged m c l)
  cosines := fun x l => (iblk9_apply m c t x l).trans (V_cos m c (batchOf t) (rowOf t x) l)
  sines := fun x l => (iblk10_apply m c t x l).trans (V_sin m c (batchOf t) (rowOf t x) l)
  ones := fun i j => (iblk11_apply m c t _ _).trans (V_ones m c i j)
  sameHead := fun f g => (iblk12_apply m c t _ _).trans (V_sameHead m c f g)

/-! ## The results, of the kernel's arguments -/

def heldQ : FVec Ideal S8x4x8192x256 .bf16 := Cert.Reference4Ideal.Inp.resultQ (argH m c) (argP m c) (argG m c) (argW m c) (argGq m c) (argWq m c) (argHq m c)
def heldK : FVec Ideal S8x4x8192x256 .bf16 := Cert.Reference4Ideal.Inp.resultK (argH m c) (argP m c) (argG m c) (argW m c) (argGkv m c) (argWkv m c) (argHk m c)
def heldV : FVec Ideal S8x4x8192x128 .bf16 := Cert.Reference4Ideal.Inp.resultV (argH m c) (argG m c) (argW m c) (argGkv m c) (argWkv m c)
def heldB : FVec Ideal S8x8192x896 .f32 := Cert.Reference4Ideal.Inp.resultB (argH m c) (argG m c) (argW m c)
def heldC : FVec Ideal S8x8192x1024 .f32 := Cert.Reference4Ideal.Inp.resultC (argH m c) (argG m c) (argW m c)

/-! ## The tiles stored at a point -/

theorem stored13_apply (t : Fin cfg0.N) (h : Fin 4) (x : Fin 512) (e : Fin 256) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 (0 : Fin 1) h x e) = heldQ m c (ix4 (batchOf t) h (rowOf t x) e) := by
  rw [out13_eq]
  by_cases he : e.val < 128
  · exact (dif_pos he).trans (queryPlain_eq (blocks m c t) x h ⟨e.val, he⟩)
  · exact (dif_neg he).trans ((queryTurned_eq (blocks m c t) x h ⟨e.val - 128, by omega⟩).trans
      (congrArg (fun e => heldQ m c (ix4 (batchOf t) h (rowOf t x) e)) (Fin.ext (show 128 + (e.val - 128) = e.val by omega))))

theorem stored14_apply (t : Fin cfg0.N) (h : Fin 4) (x : Fin 512) (e : Fin 256) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 (0 : Fin 1) h x e) = heldK m c (ix4 (batchOf t) h (rowOf t x) e) := by
  rw [out14_eq]
  by_cases he : e.val < 128
  · exact (dif_pos he).trans (keyPlain_eq (blocks m c t) x h ⟨e.val, he⟩)
  · exact (dif_neg he).trans ((keyTurned_eq (blocks m c t) x h ⟨e.val - 128, by omega⟩).trans
      (congrArg (fun e => heldK m c (ix4 (batchOf t) h (rowOf t x) e)) (Fin.ext (show 128 + (e.val - 128) = e.val by omega))))

theorem stored15_apply (t : Fin cfg0.N) (h : Fin 4) (x : Fin 512) (e : Fin 128) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 (0 : Fin 1) h x e) = heldV m c (ix4 (batchOf t) h (rowOf t x) e) := by
  rw [out15_eq]
  exact value_eq (blocks m c t) x h e

theorem stored16_apply (t : Fin cfg0.N) (x : Fin 512) (e : Fin 896) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) x e) = heldB m c (ix3 (batchOf t) (rowOf t x) e) :=
  (out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x e).trans (second_eq (blocks m c t) x e)

theorem stored17_apply (t : Fin cfg0.N) (x : Fin 512) (e : Fin 1024) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) x e) = heldC m c (ix3 (batchOf t) (rowOf t x) e) :=
  (out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x e).trans (third_eq (blocks m c t) x e)

/-! ## The arrays after the run -/

theorem final13 : (dats m 0 c).arrAt 13 cfg0.N = heldQ m c := by
  refine (dats m 0 c).arrAt_eq_of_covers 13 _ (by decide +kernel) fun t _ y => ?_
  obtain ⟨-, -, -, -, -, -, -, -, -, -, -, -, -, ⟨h0, h1, h2, h3⟩, -⟩ := points t
  blk_simp
  rw [after0_13]
  have hh : (y (1 : Fin 4)).val < 4 := (y (1 : Fin 4)).isLt
  have hx : (y (2 : Fin 4)).val < 512 := (y (2 : Fin 4)).isLt
  have he : (y (3 : Fin 4)).val < 256 := (y (3 : Fin 4)).isLt
  have hy : y = ix4 (0 : Fin 1) (⟨(y (1 : Fin 4)).val, hh⟩ : Fin 4) (⟨(y (2 : Fin 4)).val, hx⟩ : Fin 512) (⟨(y (3 : Fin 4)).val, he⟩ : Fin 256) := by
    blk_ext []
  have heq : (win0_13.blk t).view.emb y = ix4 (batchOf t) (⟨(y (1 : Fin 4)).val, hh⟩ : Fin 4) (rowOf t (⟨(y (2 : Fin 4)).val, hx⟩ : Fin 512)) (⟨(y (3 : Fin 4)).val, he⟩ : Fin 256) := by
    blk_ext [h0, h1, h2, h3, batchOf, rowOf]
  rw [heq]
  exact (congrArg _ hy).trans (stored13_apply m c t _ _ _)

theorem final14 : (dats m 0 c).arrAt 14 cfg0.N = heldK m c := by
  refine (dats m 0 c).arrAt_eq_of_covers 14 _ (by decide +kernel) fun t _ y => ?_
  obtain ⟨-, -, -, -, -, -, -, -, -, -, -, -, -, -, ⟨h0, h1, h2, h3⟩, -⟩ := points t
  blk_simp
  rw [after0_14]
  have hh : (y (1 : Fin 4)).val < 4 := (y (1 : Fin 4)).isLt
  have hx : (y (2 : Fin 4)).val < 512 := (y (2 : Fin 4)).isLt
  have he : (y (3 : Fin 4)).val < 256 := (y (3 : Fin 4)).isLt
  have hy : y = ix4 (0 : Fin 1) (⟨(y (1 : Fin 4)).val, hh⟩ : Fin 4) (⟨(y (2 : Fin 4)).val, hx⟩ : Fin 512) (⟨(y (3 : Fin 4)).val, he⟩ : Fin 256) := by
    blk_ext []
  have heq : (win0_14.blk t).view.emb y = ix4 (batchOf t) (⟨(y (1 : Fin 4)).val, hh⟩ : Fin 4) (rowOf t (⟨(y (2 : Fin 4)).val, hx⟩ : Fin 512)) (⟨(y (3 : Fin 4)).val, he⟩ : Fin 256) := by
    blk_ext [h0, h1, h2, h3, batchOf, rowOf]
  rw [heq]
  exact (congrArg _ hy).trans (stored14_apply m c t _ _ _)

theorem final15 : (dats m 0 c).arrAt 15 cfg0.N = heldV m c := by
  refine (dats m 0 c).arrAt_eq_of_covers 15 _ (by decide +kernel) fun t _ y => ?_
  obtain ⟨-, -, -, -, -, -, -, -, -, -, -, -, -, -, -, ⟨h0, h1, h2, h3⟩, -⟩ := points t
  blk_simp
  rw [after0_15]
  have hh : (y (1 : Fin 4)).val < 4 := (y (1 : Fin 4)).isLt
  have hx : (y (2 : Fin 4)).val < 512 := (y (2 : Fin 4)).isLt
  have he : (y (3 : Fin 4)).val < 128 := (y (3 : Fin 4)).isLt
  have hy : y = ix4 (0 : Fin 1) (⟨(y (1 : Fin 4)).val, hh⟩ : Fin 4) (⟨(y (2 : Fin 4)).val, hx⟩ : Fin 512) (⟨(y (3 : Fin 4)).val, he⟩ : Fin 128) := by
    blk_ext []
  have heq : (win0_15.blk t).view.emb y = ix4 (batchOf t) (⟨(y (1 : Fin 4)).val, hh⟩ : Fin 4) (rowOf t (⟨(y (2 : Fin 4)).val, hx⟩ : Fin 512)) (⟨(y (3 : Fin 4)).val, he⟩ : Fin 128) := by
    blk_ext [h0, h1, h2, h3, batchOf, rowOf]
  rw [heq]
  exact (congrArg _ hy).trans (stored15_apply m c t _ _ _)

theorem final16 : (dats m 0 c).arrAt 16 cfg0.N = heldB m c := by
  refine (dats m 0 c).arrAt_eq_of_covers 16 _ (by decide +kernel) fun t _ y => ?_
  obtain ⟨-, -, -, -, -, -, -, -, -, -, -, -, -, -, -, -, ⟨h0, h1, h2⟩, -⟩ := points t
  blk_simp
  rw [after0_16]
  have hx : (y (1 : Fin 3)).val < 512 := (y (1 : Fin 3)).isLt
  have he : (y (2 : Fin 3)).val < 896 := (y (2 : Fin 3)).isLt
  have hy : y = ix3 (0 : Fin 1) (⟨(y (1 : Fin 3)).val, hx⟩ : Fin 512) (⟨(y (2 : Fin 3)).val, he⟩ : Fin 896) := by
    blk_ext []
  have heq : (win0_16.blk t).view.emb y = ix3 (batchOf t) (rowOf t (⟨(y (1 : Fin 3)).val, hx⟩ : Fin 512)) (⟨(y (2 : Fin 3)).val, he⟩ : Fin 896) := by
    blk_ext [h0, h1, h2, batchOf, rowOf]
  rw [heq]
  exact (congrArg _ hy).trans (stored16_apply m c t _ _)

theorem final17 : (dats m 0 c).arrAt 17 cfg0.N = heldC m c := by
  refine (dats m 0 c).arrAt_eq_of_covers 17 _ (by decide +kernel) fun t _ y => ?_
  obtain ⟨-, -, -, -, -, -, -, -, -, -, -, -, -, -, -, -, -, ⟨h0, h1, h2⟩⟩ := points t
  blk_simp
  rw [after0_17]
  have hx : (y (1 : Fin 3)).val < 512 := (y (1 : Fin 3)).isLt
  have he : (y (2 : Fin 3)).val < 1024 := (y (2 : Fin 3)).isLt
  have hy : y = ix3 (0 : Fin 1) (⟨(y (1 : Fin 3)).val, hx⟩ : Fin 512) (⟨(y (2 : Fin 3)).val, he⟩ : Fin 1024) := by
    blk_ext []
  have heq : (win0_17.blk t).view.emb y = ix3 (batchOf t) (rowOf t (⟨(y (1 : Fin 3)).val, hx⟩ : Fin 512)) (⟨(y (2 : Fin 3)).val, he⟩ : Fin 1024) := by
    blk_ext [h0, h1, h2, batchOf, rowOf]
  rw [heq]
  exact (congrArg _ hy).trans (stored17_apply m c t _ _)

/-- The program ends with the five arrays at the plain text's results of its arguments, the arguments as they were. -/
theorem run_value (ρ : Dev nD → PrngReg) :
    θ_run defs (onTc (τ := τ) (main (F := Ideal))) ⟨m, fun _ => 0, ρ⟩ (fun r => ∀ c : Dev nD,
      r.2.mem ((c.tc : Thread nD τ).loc main_v120_0) = heldQ m c
      ∧ r.2.mem ((c.tc : Thread nD τ).loc main_v120_1) = heldK m c
      ∧ r.2.mem ((c.tc : Thread nD τ).loc main_v120_2) = heldV m c
      ∧ r.2.mem ((c.tc : Thread nD τ).loc main_v120_3) = heldB m c
      ∧ r.2.mem ((c.tc : Thread nD τ).loc main_v120_4) = heldC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (final13 m c), (h c).2.1.trans (final14 m c), (h c).2.2.1.trans (final15 m c), (h c).2.2.2.1.trans (final16 m c), (h c).2.2.2.2.1.trans (final17 m c), (h c).2.2.2.2.2⟩)
    (Cert.Kernel4Ideal.Value.run_blocks m ρ)

end Cert.Kernel4Ideal.Inp

end
-- ==== Proof.lean ====
/-
  The certificate, for the attention kernel, the feed-forward kernel, the mixing projection's kernel
  with its cross-attention and the input projections' kernel: each runs as printed and as idealized, its
  reference runs, the idealization is sanctioned (the attention's named mask constant is minus infinity,
  the input projections' named constant a rounded 1/192), and kernel and reference end with equal results.
-/
module

public import proofs.«01_k».proof.Defs
public import proofs.«01_k».proof.Proof.Printed
public import proofs.«01_k».proof.Proof.Value
public import proofs.«01_k».proof.Proof.FfnValue
public import proofs.«01_k».proof.Proof.MixValue
public import proofs.«01_k».proof.Proof.InValue
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.ReferenceIdeal.Run
public import Idealize.ShloMosaic.Lib.Quiescent

@[expose] public section

noncomputable section

namespace Cert.Proof

open Idealize.ShloMosaic Idealize.SL.Sem Cert.Kernel

/-- The reference runs, leaves its arguments as they were and, having no semaphore, every one at zero. -/
theorem frame_reference : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run m g)

/-- The precondition's one shape fact. -/
theorem facts_finite : Cert.Pre_finite.Facts := ⟨by decide⟩

/-- A value whose absolute value is below infinity is a real. -/
theorem real_of_abs_lt {x : EReal} (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => exact absurd h (by simp [Ideal.cmp])
  | top => exact absurd h (by simp [Ideal.cmp])
  | coe r => exact ⟨r, rfl⟩

/-- The precondition says every query and key is a real. -/
theorem finite_reads [Cert.Pre_finite.Facts] (q k : FVec Ideal Cert.Pre_finite.S8x8192x4x192 .f32) (v : FVec Ideal Cert.Pre_finite.S8x8192x4x128 .f32)
    (h : Cert.Pre_finite.fn (F := Ideal) q k v = fun _ => 1#1) : (∀ i, ∃ r : ℝ, q i = r) ∧ ∀ i, ∃ r : ℝ, k i = r := by
  have hand : ∀ a b : BitVec 1, IntOp.andi a b = 1#1 → a = 1#1 ∧ b = 1#1 := by decide
  exact ⟨fun i => real_of_abs_lt (hand _ _ (congrFun h i)).1, fun i => real_of_abs_lt (hand _ _ (congrFun h i)).2⟩

/-- Kernel and reference, from equal arguments whose queries and keys are finite, end with equal results. -/
theorem algebraic : algebraic_KernelIdeal_ReferenceIdeal_pre_finite (hKernelIdeal := Cert.KernelIdeal.Gen.facts)
    (hReferenceIdeal := Cert.ReferenceIdeal.Gen.facts) (hPre_finite := facts_finite) := fun m g m' g' hpre hargs => by
  have hf := fun c => @finite_reads facts_finite _ _ _ (hpre c)
  refine ⟨fun c => Cert.KernelIdeal.Attn.result m c, Cert.KernelIdeal.Attn.run_value m g (fun c => (hf c).1) (fun c => (hf c).2), ?_⟩
  refine (θ_run Cert.ReferenceIdeal.defs _ _).mono (fun r h c => ⟨(h c).1.trans ?_, (h c).2⟩) (Cert.ReferenceIdeal.Value.run m' g')
  refine (Cert.ReferenceIdeal.Attn.result_eq m' c).trans ?_
  rw [(hargs c).1, (hargs c).2.1, (hargs c).2.2]
  rfl

/-- The feed-forward reference runs the same way. -/
theorem frame_reference2 : quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩) (Cert.Reference2Ideal.Value.run m g)

/-- The feed-forward kernel and its reference, from equal arguments, end with equal results. -/
theorem algebraic2 : algebraic_Kernel2Ideal_Reference2Ideal (hKernel2Ideal := Cert.Kernel2Ideal.Gen.facts)
    (hReference2Ideal := Cert.Reference2Ideal.Gen.facts) := fun m g m' g' _ hargs => by
  refine ⟨fun c => Cert.Kernel2Ideal.Ffn.result m c, Cert.Kernel2Ideal.Ffn.run_value m g, ?_⟩
  refine (θ_run Cert.Reference2Ideal.defs _ _).mono (fun r h c => ⟨(h c).1.trans ?_, (h c).2⟩) (Cert.Reference2Ideal.Value.run m' g')
  refine (Cert.Reference2Ideal.Ffn.result_eq m' c).trans ?_
  obtain ⟨h0, h1, h2, h3, h4, h5⟩ := hargs c
  rw [h0, h1, h2, h3, h4, h5]
  rfl

/-- The mixing projection's reference runs the same way. -/
theorem frame_reference3 : quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩) (Cert.Reference3Ideal.Value.run m g)

/-- The second precondition's shape facts. -/
theorem facts_finite_memory : Cert.Pre_finite_memory.Facts := ⟨by decide, by decide, by decide, by decide⟩

/-- The second precondition says every key of the memory and every entry of the queries' gain is a real. -/
theorem finite_memory_reads [Cert.Pre_finite_memory.Facts] (h : FVec Ideal Cert.Pre_finite_memory.S8x8192x1024 .f32) (a : FVec Ideal Cert.Pre_finite_memory.S8x8192x512 .f32)
    (b c : FVec Ideal Cert.Pre_finite_memory.S8x8192x256 .f32) (w : FVec Ideal Cert.Pre_finite_memory.S1024x1024 .f32) (n : FVec Ideal Cert.Pre_finite_memory.S1024 .f32)
    (q : FVec Ideal Cert.Pre_finite_memory.S1024x512 .f32) (k v : FVec Ideal Cert.Pre_finite_memory.S8x256x4x128 .f32) (g : FVec Ideal Cert.Pre_finite_memory.S128 .f32)
    (o : FVec Ideal Cert.Pre_finite_memory.S512x1024 .f32) (hp : Cert.Pre_finite_memory.fn (F := Ideal) h a b c w n q k v g o = fun _ => 1#1) :
    (∀ i, ∃ r : ℝ, k i = r) ∧ ∀ i, ∃ r : ℝ, g i = r := by
  have hand : ∀ a b : BitVec 1, IntOp.andi a b = 1#1 → a = 1#1 ∧ b = 1#1 := by decide
  refine ⟨fun i => real_of_abs_lt (hand _ _ (congrFun hp i)).1, fun i => ?_⟩
  have hi : i = ix1 (i 0 : Fin 128) := by
    blk_ext []
  have hg := (hand _ _ (congrFun hp (ix4 (0 : Fin 8) (0 : Fin 256) (0 : Fin 4) (i 0 : Fin 128)))).2
  rw [hi]
  refine real_of_abs_lt (Eq.trans ?_ hg)
  pointwise []
  rfl

/-- The mixing projection's kernel and its reference, from equal arguments whose keys and queries' gain are finite, end with equal results. -/
theorem algebraic3 : algebraic_Kernel3Ideal_Reference3Ideal_pre_finite_memory (hKernel3Ideal := Cert.Kernel3Ideal.Gen.facts)
    (hReference3Ideal := Cert.Reference3Ideal.Gen.facts) (hPre_finite_memory := facts_finite_memory) := fun m g m' g' hpre hargs => by
  have hf := fun c => @finite_memory_reads facts_finite_memory _ _ _ _ _ _ _ _ _ _ _ (hpre c)
  refine ⟨fun c => Cert.Kernel3Ideal.Mix.result m c, Cert.Kernel3Ideal.Mix.run_value m g (fun c => (hf c).1) (fun c => (hf c).2), ?_⟩
  refine (θ_run Cert.Reference3Ideal.defs _ _).mono (fun r h c => ⟨(h c).1.trans ?_, (h c).2⟩) (Cert.Reference3Ideal.Value.run m' g')
  refine (Cert.Reference3Ideal.Mix.result_eq m' c).trans ?_
  obtain ⟨h0, h1, h2, h3, h4, h5, h6, h7, h8, h9, h10⟩ := hargs c
  rw [h0, h1, h2, h3, h4, h5, h6, h7, h8, h9, h10]
  rfl

/-- The input projections' reference runs the same way. -/
theorem frame_reference4 : quiescent_Reference4Ideal (hReference4Ideal := Cert.Reference4Ideal.Gen.facts) := fun m g _ =>
  (θ_run Cert.Reference4Ideal.defs _ _).mono (fun r h => ⟨fun c => (h c).2.2.2.2.2, sem_eq_zero_of_no_sems (by decide) r.2⟩) (Cert.Reference4Ideal.Inp.run_value m g)

/-- The input projections' kernel and its reference, from equal arguments, end with five equal results. -/
theorem algebraic4 : algebraic_Kernel4Ideal_Reference4Ideal (hKernel4Ideal := Cert.Kernel4Ideal.Gen.facts)
    (hReference4Ideal := Cert.Reference4Ideal.Gen.facts) := fun m g m' g' _ hargs => by
  refine ⟨fun c => Cert.Kernel4Ideal.Inp.heldQ m c, fun c => Cert.Kernel4Ideal.Inp.heldK m c, fun c => Cert.Kernel4Ideal.Inp.heldV m c, fun c => Cert.Kernel4Ideal.Inp.heldB m c,
    fun c => Cert.Kernel4Ideal.Inp.heldC m c, Cert.Kernel4Ideal.Inp.run_value m g, ?_⟩
  refine (θ_run Cert.Reference4Ideal.defs _ _).mono (fun r h c => ?_) (Cert.Reference4Ideal.Inp.run_value m' g')
  obtain ⟨h0, h1, h2, h3, h4, h5, h6, h7, h8, h9⟩ := hargs c
  refine ⟨(h c).1.trans ?_, (h c).2.1.trans ?_, (h c).2.2.1.trans ?_, (h c).2.2.2.1.trans ?_, (h c).2.2.2.2.1.trans ?_, (h c).2.2.2.2.2⟩
  · rw [h0, h1, h2, h3, h4, h5, h8]
    rfl
  · rw [h0, h1, h2, h3, h6, h7, h9]
    rfl
  · rw [h0, h2, h3, h6, h7]
    rfl
  · rw [h0, h2, h3]
    rfl
  · rw [h0, h2, h3]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, facts_finite, facts_finite_memory,
  fun m g _ => Cert.KernelIdeal.Attn.frame_printed m g, fun m g _ => Cert.KernelIdeal.Attn.frame m g, fun m g _ => Cert.KernelIdeal.Attn.frame m g,
  frame_reference, fun m g _ => frame_reference m g trivial,
  fun m g _ => Cert.Kernel2.Gen.frame m g, fun m g _ => Cert.Kernel2Ideal.Gen.frame m g, frame_reference2,
  fun m g _ => Cert.Kernel3.Gen.frame m g, fun m g _ => Cert.Kernel3Ideal.Gen.frame m g, fun m g _ => Cert.Kernel3Ideal.Gen.frame m g,
  frame_reference3, fun m g _ => frame_reference3 m g trivial,
  fun m g _ => Cert.Kernel4.Gen.frame m g, fun m g _ => Cert.Kernel4Ideal.Gen.frame m g, frame_reference4,
  IdealRules.named_const.statement _ _ _ _ _ rfl, algebraic, trivial, algebraic2, trivial, algebraic3,
  IdealRules.named_const.statement _ _ _ _ _ rfl, algebraic4⟩

end Cert.Proof

end
